-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2.1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2.2.1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2.2.2.1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2.2.2.2 = (fun _ => 1#1)

def Pre_Kernel2 [hPre_scheduled : Cert.Pre_scheduled.Facts] (m : (ℓ : Loc Cert.Kernel2.nD Cert.Kernel2.τ Cert.Kernel2.sig) → Buf (Elt Bits) ℓ) : Prop :=
  ∀ c : Dev Cert.Kernel2.nD,
    (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = (fun _ => 1#1)
    ∧ (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.1 = (fun _ => 1#1)
    ∧ (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.1 = (fun _ => 1#1)
    ∧ (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.1 = (fun _ => 1#1)
    ∧ (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.2.1 = (fun _ => 1#1)
    ∧ (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.2.2 = (fun _ => 1#1)

def Pre_Kernel2Ideal [hPre_scheduled : Cert.Pre_scheduled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scheduled [hPre_scheduled : Cert.Pre_scheduled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2 = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] [hPre_scheduled : Cert.Pre_scheduled.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_scheduled : Cert.Pre_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_scheduled [hReference2Ideal : Cert.Reference2Ideal.Facts] [hPre_scheduled : Cert.Pre_scheduled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scheduled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v6) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] [hPre_scheduled : Cert.Pre_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hPre_routed : Cert.Pre_routed.Facts) (hPre_scheduled : Cert.Pre_scheduled.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Reference (hReference := hReference) (hPre_routed := hPre_routed)
    ∧ quiescent_Kernel2 (hKernel2 := hKernel2) (hPre_scheduled := hPre_scheduled)
    ∧ quiescent_Kernel2Ideal (hKernel2Ideal := hKernel2Ideal) (hPre_scheduled := hPre_scheduled)
    ∧ quiescent_Reference2Ideal (hReference2Ideal := hReference2Ideal)
    ∧ quiescent_Reference2Ideal_pre_scheduled (hReference2Ideal := hReference2Ideal) (hPre_scheduled := hPre_scheduled)
    ∧ preserves_Kernel_KernelIdeal
    ∧ algebraic_KernelIdeal_ReferenceIdeal (hKernelIdeal := hKernelIdeal) (hReferenceIdeal := hReferenceIdeal) (hPre_routed := hPre_routed)
    ∧ bitexact_Kernel_Reference (hKernel := hKernel) (hReference := hReference) (hPre_routed := hPre_routed)
    ∧ preserves_Kernel2_Kernel2Ideal
    ∧ algebraic_Kernel2Ideal_Reference2Ideal (hKernel2Ideal := hKernel2Ideal) (hReference2Ideal := hReference2Ideal) (hPre_scheduled := hPre_scheduled)
-- ==== Pre_routed.lean ====
abbrev S32 : Shape := ⟨1, ![32]⟩
abbrev S1 : Shape := ⟨1, ![1]⟩
abbrev S16384x4 : Shape := ⟨2, ![16384, 4]⟩
abbrev S16384x1024 : Shape := ⟨2, ![16384, 1024]⟩
abbrev S65536 : Shape := ⟨1, ![65536]⟩
abbrev S81920 : Shape := ⟨1, ![81920]⟩
abbrev S160 : Shape := ⟨1, ![160]⟩
abbrev S_ : Shape := ⟨0, ![]⟩
abbrev S65536x1 : Shape := ⟨2, ![65536, 1]⟩
abbrev S32x1 : Shape := ⟨2, ![32, 1]⟩
abbrev S160x1 : Shape := ⟨2, ![160, 1]⟩
abbrev S81920x1 : Shape := ⟨2, ![81920, 1]⟩
abbrev S160x512 : Shape := ⟨2, ![160, 512]⟩

class Facts : Prop where
  shapeCasts_S16384x4_S65536 : S16384x4.ShapeCasts S65536
  bcast_S_S81920 : S_.BroadcastsInDim S81920 (![] : Fin 0 → Fin S81920.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S32 : S_.BroadcastsInDim S32 (![] : Fin 0 → Fin S32.rank)
  bcast_S_S160 : S_.BroadcastsInDim S160 (![] : Fin 0 → Fin S160.rank)
  bcast_S32_S32x1_0 : S32.BroadcastsInDim S32x1 (![0] : Fin 1 → Fin S32x1.rank)
  bcast_S160_S160x1_0 : S160.BroadcastsInDim S160x1 (![0] : Fin 1 → Fin S160x1.rank)
  bcast_S1_S160_0 : S1.BroadcastsInDim S160 (![0] : Fin 1 → Fin S160.rank)
  bcast_S81920_S81920x1_0 : S81920.BroadcastsInDim S81920x1 (![0] : Fin 1 → Fin S81920x1.rank)
  shapeCasts_S81920_S160x512 : S81920.ShapeCasts S160x512
  bcast_S160x1_S160x512_0_1 : S160x1.BroadcastsInDim S160x512 (![0, 1] : Fin 2 → Fin S160x512.rank)
  bcast_S_S1 : S_.BroadcastsInDim S1 (![] : Fin 0 → Fin S1.rank)
  scatter_S81920_S65536x1_S65536_n_0_0_1_wf : ScatterDims.WF S81920 S65536x1 S65536 [] [0] [0] 1
  scatter_S160_S32x1_S32_n_0_0_1_wf : ScatterDims.WF S160 S32x1 S32 [] [0] [0] 1
  gather_S32_S160x1_S160_n_0_n_n_0_1_1_wf : GatherDims.WF S32 S160x1 S160 [] [0] [] [0] [] 1 ![1]
  gather_S81920_S65536x1_S65536_n_0_n_n_0_1_1_wf : GatherDims.WF S81920 S65536x1 S65536 [] [0] [] [0] [] 1 ![1]
  gather_S65536_S81920x1_S81920_n_0_n_n_0_1_1_wf : GatherDims.WF S65536 S81920x1 S81920 [] [0] [] [0] [] 1 ![1]

variable [Facts]

def scatter_S81920_S65536x1_S65536_n_0_0_1 : ScatterDims S81920 S65536x1 S65536 where
  updateWindowDims := []
  insertedWindowDims := [0]
  scatterDimsToOperandDims := [0]
  indexVectorDim := 1
  wf := scatter_S81920_S65536x1_S65536_n_0_0_1_wf
def scatter_S160_S32x1_S32_n_0_0_1 : ScatterDims S160 S32x1 S32 where
  updateWindowDims := []
  insertedWindowDims := [0]
  scatterDimsToOperandDims := [0]
  indexVectorDim := 1
  wf := scatter_S160_S32x1_S32_n_0_0_1_wf
def gather_S32_S160x1_S160_n_0_n_n_0_1_1 : GatherDims S32 S160x1 S160 where
  offsetDims := []
  collapsedSliceDims := [0]
  operandBatchingDims := []
  startIndicesBatchingDims := []
  startIndexMap := [0]
  indexVectorDim := 1
  sliceSizes := ![1]
  wf := gather_S32_S160x1_S160_n_0_n_n_0_1_1_wf
def gather_S81920_S65536x1_S65536_n_0_n_n_0_1_1 : GatherDims S81920 S65536x1 S65536 where
  offsetDims := []
  collapsedSliceDims := [0]
  operandBatchingDims := []
  startIndicesBatchingDims := []
  startIndexMap := [0]
  indexVectorDim := 1
  sliceSizes := ![1]
  wf := gather_S81920_S65536x1_S65536_n_0_n_n_0_1_1_wf
def gather_S65536_S81920x1_S81920_n_0_n_n_0_1_1 : GatherDims S65536 S81920x1 S81920 where
  offsetDims := []
  collapsedSliceDims := [0]
  operandBatchingDims := []
  startIndicesBatchingDims := []
  startIndexMap := [0]
  indexVectorDim := 1
  sliceSizes := ![1]
  wf := gather_S65536_S81920x1_S81920_n_0_n_n_0_1_1_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_part3 {F : FTy → Type} [FloatOps F] (main_arg0 : IVec S32 32) (main_arg1 : IVec S1 32) (main_v0 : IVec S65536 32) (main_v1 : IVec S81920 32) (main_v11 : IVec S81920 32) (main_v36 : IVec S160 1) (main_v41 : IVec S65536 1) (main_v50 : IVec S65536 1) (main_v52 : IVec S81920 1) (main_v54 : IVec S81920 32) : IVec S65536 1 × IVec S65536 1 × IVec S160x512 1 × IVec S32 1 × IVec S1 1 :=
  let main_v55 : IVec S81920 32 := select main_v52 main_v54 main_v11
  let main_v56 : IVec S81920x1 32 := broadcastInDim S81920x1 ![0] bcast_S81920_S81920x1_0 main_v55
  let main_v57 : IVec S81920 32 := (fun x i => Host.gather gather_S65536_S81920x1_S81920_n_0_n_n_0_1_1 x i) main_v0 main_v56
  let main_v58 : IVec S81920 1 := cmpi .eq main_v57 main_v1
  let main_v59 : IVec S160x512 1 := shapeCast S160x512 main_v58 shapeCasts_S81920_S160x512
  let main_v60 : IVec S160x1 1 := broadcastInDim S160x1 ![0] bcast_S160_S160x1_0 main_v36
  let main_v61 : IVec S160x512 1 := broadcastInDim S160x512 ![0, 1] bcast_S160x1_S160x512_0_1 main_v60
  let main_v62 : IVec S160x512 1 := ori main_v59 main_v61
  let main_c_16 : IVec S_ 32 := constantI S_ 32 0#32
  let main_v63 : IVec S32 32 := broadcastInDim S32 ![] bcast_S_S32 main_c_16
  let main_v64 : IVec S32 1 := cmpi .sge main_arg0 main_v63
  let main_c_17 : IVec S_ 32 := constantI S_ 32 81920#32
  let main_v65 : IVec S32 32 := broadcastInDim S32 ![] bcast_S_S32 main_c_17
  let main_v66 : IVec S32 1 := cmpi .sle main_arg0 main_v65
  let main_v67 : IVec S32 1 := andi main_v64 main_v66
  let main_c_18 : IVec S_ 32 := constantI S_ 32 0#32
  let main_v68 : IVec S1 32 := broadcastInDim S1 ![] bcast_S_S1 main_c_18
  let main_v69 : IVec S1 1 := cmpi .sge main_arg1 main_v68
  let main_c_19 : IVec S_ 32 := constantI S_ 32 160#32
  let main_v70 : IVec S1 32 := broadcastInDim S1 ![] bcast_S_S1 main_c_19
  let main_v71 : IVec S1 1 := cmpi .sle main_arg1 main_v70
  let main_v72 : IVec S1 1 := andi main_v69 main_v71
  (main_v41, main_v50, main_v62, main_v67, main_v72)

def fn_part2 {F : FTy → Type} [FloatOps F] (main_arg0 : IVec S32 32) (main_arg1 : IVec S1 32) (main_v0 : IVec S65536 32) (main_v1 : IVec S81920 32) (main_v11 : IVec S81920 32) (main_v36 : IVec S160 1) : IVec S65536 1 × IVec S65536 1 × IVec S160x512 1 × IVec S32 1 × IVec S1 1 :=
  let main_c_10 : IVec S_ 32 := constantI S_ 32 0#32
  let main_v37 : IVec S65536 32 := broadcastInDim S65536 ![] bcast_S_S65536 main_c_10
  let main_v38 : IVec S65536 1 := cmpi .sge main_v0 main_v37
  let main_c_11 : IVec S_ 32 := constantI S_ 32 81920#32
  let main_v39 : IVec S65536 32 := broadcastInDim S65536 ![] bcast_S_S65536 main_c_11
  let main_v40 : IVec S65536 1 := cmpi .slt main_v0 main_v39
  let main_v41 : IVec S65536 1 := andi main_v38 main_v40
  let main_c_12 : IVec S_ 32 := constantI S_ 32 0#32
  let main_v42 : IVec S65536 32 := broadcastInDim S65536 ![] bcast_S_S65536 main_c_12
  let main_v43 : IVec S65536 1 := cmpi .slt main_v0 main_v42
  let main_c_13 : IVec S_ 32 := constantI S_ 32 81920#32
  let main_v44 : IVec S65536 32 := broadcastInDim S65536 ![] bcast_S_S65536 main_c_13
  let main_v45 : IVec S65536 32 := addi main_v0 main_v44
  let main_v46 : IVec S65536 32 := select main_v43 main_v45 main_v0
  let main_v47 : IVec S65536x1 32 := broadcastInDim S65536x1 ![0] bcast_S65536_S65536x1_0 main_v46
  let main_v48 : IVec S65536 32 := (fun x i => Host.gather gather_S81920_S65536x1_S65536_n_0_n_n_0_1_1 x i) main_v11 main_v47
  let main_v49 : IVec S65536 32 := iotaInDim S65536 32 0
  let main_v50 : IVec S65536 1 := cmpi .eq main_v48 main_v49
  let main_c_14 : IVec S_ 32 := constantI S_ 32 0#32
  let main_v51 : IVec S81920 32 := broadcastInDim S81920 ![] bcast_S_S81920 main_c_14
  let main_v52 : IVec S81920 1 := cmpi .slt main_v11 main_v51
  let main_c_15 : IVec S_ 32 := constantI S_ 32 65536#32
  let main_v53 : IVec S81920 32 := broadcastInDim S81920 ![] bcast_S_S81920 main_c_15
  let main_v54 : IVec S81920 32 := addi main_v11 main_v53
  fn_part3 (F := F) main_arg0 main_arg1 main_v0 main_v1 main_v11 main_v36 main_v41 main_v50 main_v52 main_v54

def fn_part1 {F : FTy → Type} [FloatOps F] (main_arg0 : IVec S32 32) (main_arg1 : IVec S1 32) (main_v0 : IVec S65536 32) (main_v1 : IVec S81920 32) (main_v2 : IVec S160 32) (main_v11 : IVec S81920 32) (main_v16 : IVec S32 32) (main_c_5 : IVec S_ 32) : IVec S65536 1 × IVec S65536 1 × IVec S160x512 1 × IVec S32 1 × IVec S1 1 :=
  let main_v17 : IVec S160 32 := broadcastInDim S160 ![] bcast_S_S160 main_c_5
  let main_v18 : IVec S32 32 := iotaInDim S32 32 0
  let main_c_6 : IVec S_ 32 := constantI S_ 32 0#32
  let main_v19 : IVec S32 32 := broadcastInDim S32 ![] bcast_S_S32 main_c_6
  let main_v20 : IVec S32 1 := cmpi .slt main_v16 main_v19
  let main_c_7 : IVec S_ 32 := constantI S_ 32 160#32
  let main_v21 : IVec S32 32 := broadcastInDim S32 ![] bcast_S_S32 main_c_7
  let main_v22 : IVec S32 32 := addi main_v16 main_v21
  let main_v23 : IVec S32 32 := select main_v20 main_v22 main_v16
  let main_v24 : IVec S32x1 32 := broadcastInDim S32x1 ![0] bcast_S32_S32x1_0 main_v23
  let main_v25 : IVec S160 32 := (fun x i u => Host.scatter scatter_S160_S32x1_S32_n_0_0_1 (fun _ b => b) x i u) main_v17 main_v24 main_v18
  let main_c_8 : IVec S_ 32 := constantI S_ 32 0#32
  let main_v26 : IVec S160 32 := broadcastInDim S160 ![] bcast_S_S160 main_c_8
  let main_v27 : IVec S160 1 := cmpi .slt main_v25 main_v26
  let main_c_9 : IVec S_ 32 := constantI S_ 32 32#32
  let main_v28 : IVec S160 32 := broadcastInDim S160 ![] bcast_S_S160 main_c_9
  let main_v29 : IVec S160 32 := addi main_v25 main_v28
  let main_v30 : IVec S160 32 := select main_v27 main_v29 main_v25
  let main_v31 : IVec S160x1 32 := broadcastInDim S160x1 ![0] bcast_S160_S160x1_0 main_v30
  let main_v32 : IVec S160 32 := (fun x i => Host.gather gather_S32_S160x1_S160_n_0_n_n_0_1_1 x i) main_v16 main_v31
  let main_v33 : IVec S160 1 := cmpi .eq main_v32 main_v2
  let main_v34 : IVec S160 32 := broadcastInDim S160 ![0] bcast_S1_S160_0 main_arg1
  let main_v35 : IVec S160 1 := cmpi .sge main_v2 main_v34
  let main_v36 : IVec S160 1 := ori main_v33 main_v35
  fn_part2 (F := F) main_arg0 main_arg1 main_v0 main_v1 main_v11 main_v36

def fn {F : FTy → Type} [FloatOps F] (main_arg0 : IVec S32 32) (main_arg1 : IVec S1 32) (main_arg2 : IVec S16384x4 32) (main_arg3 : FVec F S16384x1024 .f32) : IVec S65536 1 × IVec S65536 1 × IVec S160x512 1 × IVec S32 1 × IVec S1 1 :=
  let main_v0 : IVec S65536 32 := shapeCast S65536 main_arg2 shapeCasts_S16384x4_S65536
  let main_v1 : IVec S81920 32 := iotaInDim S81920 32 0
  let main_v2 : IVec S160 32 := iotaInDim S160 32 0
  let main_c : IVec S_ 32 := constantI S_ 32 0#32
  let main_v3 : IVec S81920 32 := broadcastInDim S81920 ![] bcast_S_S81920 main_c
  let main_v4 : IVec S65536 32 := iotaInDim S65536 32 0
  let main_c_0 : IVec S_ 32 := constantI S_ 32 0#32
  let main_v5 : IVec S65536 32 := broadcastInDim S65536 ![] bcast_S_S65536 main_c_0
  let main_v6 : IVec S65536 1 := cmpi .slt main_v0 main_v5
  let main_c_1 : IVec S_ 32 := constantI S_ 32 81920#32
  let main_v7 : IVec S65536 32 := broadcastInDim S65536 ![] bcast_S_S65536 main_c_1
  let main_v8 : IVec S65536 32 := addi main_v0 main_v7
  let main_v9 : IVec S65536 32 := select main_v6 main_v8 main_v0
  let main_v10 : IVec S65536x1 32 := broadcastInDim S65536x1 ![0] bcast_S65536_S65536x1_0 main_v9
  let main_v11 : IVec S81920 32 := (fun x i u => Host.scatter scatter_S81920_S65536x1_S65536_n_0_0_1 (fun _ b => b) x i u) main_v3 main_v10 main_v4
  let main_c_2 : IVec S_ 32 := constantI S_ 32 512#32
  let main_v12 : IVec S32 32 := fn_floor_divide (F := F) main_arg0 main_c_2
  let main_c_3 : IVec S_ 32 := constantI S_ 32 1#32
  let main_v13 : IVec S32 32 := broadcastInDim S32 ![] bcast_S_S32 main_c_3
  let main_v14 : IVec S32 32 := subi main_v12 main_v13
  let main_c_4 : IVec S_ 32 := constantI S_ 32 0#32
  let main_v15 : IVec S32 32 := broadcastInDim S32 ![] bcast_S_S32 main_c_4
  let main_v16 : IVec S32 32 := maxsi main_v14 main_v15
  let main_c_5 : IVec S_ 32 := constantI S_ 32 0#32
  fn_part1 (F := F) main_arg0 main_arg1 main_v0 main_v1 main_v2 main_v11 main_v16 main_c_5
-- ==== Pre_scheduled.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S159 : Shape := ⟨1, ![159]⟩
abbrev S_ : Shape := ⟨0, ![]⟩

class Facts : Prop where
  bcast_S_S159 : S_.BroadcastsInDim S159 (![] : Fin 0 → Fin S159.rank)
  bcast_S1_S159_0 : S1.BroadcastsInDim S159 (![0] : Fin 1 → Fin S159.rank)
  bcast_S_S160 : S_.BroadcastsInDim S160 (![] : Fin 0 → Fin S160.rank)
  bcast_S1_S160_0 : S1.BroadcastsInDim S160 (![0] : Fin 1 → Fin S160.rank)
  slices_S160_S159_1 : S160.Slices ![1] S159
  slices_S160_S159_0 : S160.Slices ![0] S159
  bcast_S_S1 : S_.BroadcastsInDim S1 (![] : Fin 0 → Fin S1.rank)

variable [Facts]

def fn_part3 {F : FTy → Type} [FloatOps F] (main_v38 : IVec S160 1) (main_v43 : IVec S1 1) (main_v48 : IVec S160 1) (main_v53 : IVec S160 1) (main_v56 : IVec S159 1) (main_v57 : IVec S160 1) (main_v59 : IVec S160 1) : IVec S160 1 × IVec S1 1 × IVec S160 1 × IVec S160 1 × IVec S159 1 × IVec S160 1 :=
  let main_v60 : IVec S160 1 := ori main_v57 main_v59
  (main_v38, main_v43, main_v48, main_v53, main_v56, main_v60)

def fn_part2 {F : FTy → Type} [FloatOps F] (main_arg1 : IVec S1 32) (main_arg2 : IVec S160 32) (main_arg3 : IVec S160 32) (main_v4 : IVec S159 1) (main_v9 : IVec S160 1) (main_v20 : IVec S159 1) (main_v33 : IVec S159 1) (main_v38 : IVec S160 1) (main_v40 : IVec S1 1) (main_c_5 : IVec S_ 32) : IVec S160 1 × IVec S1 1 × IVec S160 1 × IVec S160 1 × IVec S159 1 × IVec S160 1 :=
  let main_v41 : IVec S1 32 := broadcastInDim S1 ![] bcast_S_S1 main_c_5
  let main_v42 : IVec S1 1 := cmpi .sle main_arg1 main_v41
  let main_v43 : IVec S1 1 := andi main_v40 main_v42
  let main_c_6 : IVec S_ 32 := constantI S_ 32 4294967295#32
  let main_v44 : IVec S160 32 := broadcastInDim S160 ![] bcast_S_S160 main_c_6
  let main_v45 : IVec S160 1 := cmpi .sge main_arg2 main_v44
  let main_c_7 : IVec S_ 32 := constantI S_ 32 32#32
  let main_v46 : IVec S160 32 := broadcastInDim S160 ![] bcast_S_S160 main_c_7
  let main_v47 : IVec S160 1 := cmpi .slt main_arg2 main_v46
  let main_v48 : IVec S160 1 := andi main_v45 main_v47
  let main_c_8 : IVec S_ 32 := constantI S_ 32 0#32
  let main_v49 : IVec S160 32 := broadcastInDim S160 ![] bcast_S_S160 main_c_8
  let main_v50 : IVec S160 1 := cmpi .sge main_arg3 main_v49
  let main_c_9 : IVec S_ 32 := constantI S_ 32 2#32
  let main_v51 : IVec S160 32 := broadcastInDim S160 ![] bcast_S_S160 main_c_9
  let main_v52 : IVec S160 1 := cmpi .slt main_arg3 main_v51
  let main_v53 : IVec S160 1 := andi main_v50 main_v52
  let main_v54 : IVec S159 1 := noti main_v4
  let main_v55 : IVec S159 1 := ori main_v54 main_v20
  let main_v56 : IVec S159 1 := ori main_v55 main_v33
  let main_v57 : IVec S160 1 := noti main_v9
  let main_c_10 : IVec S_ 32 := constantI S_ 32 0#32
  let main_v58 : IVec S160 32 := broadcastInDim S160 ![] bcast_S_S160 main_c_10
  let main_v59 : IVec S160 1 := cmpi .slt main_arg2 main_v58
  fn_part3 (F := F) main_v38 main_v43 main_v48 main_v53 main_v56 main_v57 main_v59

def fn_part1 {F : FTy → Type} [FloatOps F] (main_arg0 : IVec S160 32) (main_arg1 : IVec S1 32) (main_arg2 : IVec S160 32) (main_arg3 : IVec S160 32) (main_v4 : IVec S159 1) (main_v9 : IVec S160 1) (main_v20 : IVec S159 1) (main_v21 : IVec S159 32) : IVec S160 1 × IVec S1 1 × IVec S160 1 × IVec S160 1 × IVec S159 1 × IVec S160 1 :=
  let main_v22 : IVec S159 32 := (extractStridedSlice S159 ![0] · slices_S160_S159_0) main_arg0
  let main_v23 : IVec S159 1 := cmpi .ne main_v21 main_v22
  let main_v24 : IVec S159 32 := (extractStridedSlice S159 ![1] · slices_S160_S159_1) main_arg0
  let main_v25 : IVec S159 32 := (extractStridedSlice S159 ![0] · slices_S160_S159_0) main_arg2
  let main_v26 : IVec S159 1 := cmpi .eq main_v24 main_v25
  let main_v27 : IVec S159 1 := andi main_v23 main_v26
  let main_v28 : IVec S159 32 := (extractStridedSlice S159 ![1] · slices_S160_S159_1) main_arg3
  let main_v29 : IVec S159 32 := (extractStridedSlice S159 ![0] · slices_S160_S159_0) main_arg3
  let main_c_1 : IVec S_ 32 := constantI S_ 32 1#32
  let main_v30 : IVec S159 32 := broadcastInDim S159 ![] bcast_S_S159 main_c_1
  let main_v31 : IVec S159 32 := subi main_v30 main_v29
  let main_v32 : IVec S159 1 := cmpi .eq main_v28 main_v31
  let main_v33 : IVec S159 1 := andi main_v27 main_v32
  let main_c_2 : IVec S_ 32 := constantI S_ 32 0#32
  let main_v34 : IVec S160 32 := broadcastInDim S160 ![] bcast_S_S160 main_c_2
  let main_v35 : IVec S160 1 := cmpi .sge main_arg0 main_v34
  let main_c_3 : IVec S_ 32 := constantI S_ 32 32#32
  let main_v36 : IVec S160 32 := broadcastInDim S160 ![] bcast_S_S160 main_c_3
  let main_v37 : IVec S160 1 := cmpi .slt main_arg0 main_v36
  let main_v38 : IVec S160 1 := andi main_v35 main_v37
  let main_c_4 : IVec S_ 32 := constantI S_ 32 0#32
  let main_v39 : IVec S1 32 := broadcastInDim S1 ![] bcast_S_S1 main_c_4
  let main_v40 : IVec S1 1 := cmpi .sge main_arg1 main_v39
  let main_c_5 : IVec S_ 32 := constantI S_ 32 160#32
  fn_part2 (F := F) main_arg1 main_arg2 main_arg3 main_v4 main_v9 main_v20 main_v33 main_v38 main_v40 main_c_5

def fn {F : FTy → Type} [FloatOps F] (main_arg0 : IVec S160 32) (main_arg1 : IVec S1 32) (main_arg2 : IVec S160 32) (main_arg3 : IVec S160 32) (main_arg4 : FVec F S81920x1024 .f32) (main_arg5 : FVec F S32x1024x2048 .f32) (main_arg6 : FVec F S32x2048 .f32) (main_arg7 : FVec F S32x1024x1024 .f32) (main_arg8 : FVec F S32x1024 .f32) : IVec S160 1 × IVec S1 1 × IVec S160 1 × IVec S160 1 × IVec S159 1 × IVec S160 1 :=
  let main_v0 : IVec S159 32 := iotaInDim S159 32 0
  let main_c : IVec S_ 32 := constantI S_ 32 1#32
  let main_v1 : IVec S159 32 := broadcastInDim S159 ![] bcast_S_S159 main_c
  let main_v2 : IVec S159 32 := addi main_v1 main_v0
  let main_v3 : IVec S159 32 := broadcastInDim S159 ![0] bcast_S1_S159_0 main_arg1
  let main_v4 : IVec S159 1 := cmpi .slt main_v2 main_v3
  let main_v5 : IVec S160 32 := iotaInDim S160 32 0
  let main_c_0 : IVec S_ 32 := constantI S_ 32 1#32
  let main_v6 : IVec S160 32 := broadcastInDim S160 ![] bcast_S_S160 main_c_0
  let main_v7 : IVec S160 32 := addi main_v6 main_v5
  let main_v8 : IVec S160 32 := broadcastInDim S160 ![0] bcast_S1_S160_0 main_arg1
  let main_v9 : IVec S160 1 := cmpi .eq main_v7 main_v8
  let main_v10 : IVec S159 32 := (extractStridedSlice S159 ![1] · slices_S160_S159_1) main_arg0
  let main_v11 : IVec S159 32 := (extractStridedSlice S159 ![0] · slices_S160_S159_0) main_arg0
  let main_v12 : IVec S159 1 := cmpi .eq main_v10 main_v11
  let main_v13 : IVec S159 32 := (extractStridedSlice S159 ![1] · slices_S160_S159_1) main_arg2
  let main_v14 : IVec S159 32 := (extractStridedSlice S159 ![0] · slices_S160_S159_0) main_arg2
  let main_v15 : IVec S159 1 := cmpi .eq main_v13 main_v14
  let main_v16 : IVec S159 1 := andi main_v12 main_v15
  let main_v17 : IVec S159 32 := (extractStridedSlice S159 ![1] · slices_S160_S159_1) main_arg3
  let main_v18 : IVec S159 32 := (extractStridedSlice S159 ![0] · slices_S160_S159_0) main_arg3
  let main_v19 : IVec S159 1 := cmpi .eq main_v17 main_v18
  let main_v20 : IVec S159 1 := andi main_v16 main_v19
  let main_v21 : IVec S159 32 := (extractStridedSlice S159 ![1] · slices_S160_S159_1) main_arg0
  fn_part1 (F := F) main_arg0 main_arg1 main_arg2 main_arg3 main_v4 main_v9 main_v20 main_v21
-- ==== Kernel.lean ====
abbrev S32 : Shape := ⟨1, ![32]⟩
abbrev S1 : Shape := ⟨1, ![1]⟩
abbrev S16384x4 : Shape := ⟨2, ![16384, 4]⟩
abbrev S16384x1024 : Shape := ⟨2, ![16384, 1024]⟩
abbrev S_ : Shape := ⟨0, ![]⟩
abbrev S16x1024x4 : Shape := ⟨3, ![16, 1024, 4]⟩
abbrev S16x4x1024 : Shape := ⟨3, ![16, 4, 1024]⟩
abbrev S16x1x4096 : Shape := ⟨3, ![16, 1, 4096]⟩
abbrev S131072x128 : Shape := ⟨2, ![131072, 128]⟩
abbrev S655360x128 : Shape := ⟨2, ![655360, 128]⟩
abbrev S1x1x4096 : Shape := ⟨3, ![1, 1, 4096]⟩
abbrev S8192x128 : Shape := ⟨2, ![8192, 128]⟩
abbrev S4096x128 : Shape := ⟨2, ![4096, 128]⟩
abbrev S1x1x1 : Shape := ⟨3, ![1, 1, 1]⟩
abbrev S8x128 : Shape := ⟨2, ![8, 128]⟩

abbrev nBuf : Space → Nat
  | .hbm => 10
  | .vmem => 3
  | .smem => 4
  | _ => 0

abbrev bufTy : (tb : Table) → Fin (tcTables nBuf tb) → BufTy
  | .hbm, ⟨0, _⟩ => ⟨S16384x4, .i32⟩
  | .hbm, ⟨1, _⟩ => ⟨S16384x1024, .f32⟩
  | .hbm, ⟨2, _⟩ => ⟨S_, .i32⟩
  | .hbm, ⟨3, _⟩ => ⟨S16384x4, .i32⟩
  | .hbm, ⟨4, _⟩ => ⟨S16384x4, .i32⟩
  | .hbm, ⟨5, _⟩ => ⟨S16x1024x4, .i32⟩
  | .hbm, ⟨6, _⟩ => ⟨S16x4x1024, .i32⟩
  | .hbm, ⟨7, _⟩ => ⟨S16x1x4096, .i32⟩
  | .hbm, ⟨8, _⟩ => ⟨S131072x128, .f32⟩
  | .hbm, ⟨9, _⟩ => ⟨S655360x128, .f32⟩
  | .local _ .vmem, ⟨0, _⟩ => ⟨S8192x128, .f32⟩
  | .local _ .vmem, ⟨1, _⟩ => ⟨S8192x128, .f32⟩
  | .local _ .vmem, ⟨2, _⟩ => ⟨S4096x128, .f32⟩
  | .local _ .smem, ⟨0, _⟩ => ⟨S32, .i32⟩
  | .local _ .smem, ⟨1, _⟩ => ⟨S1, .i32⟩
  | .local _ .smem, ⟨2, _⟩ => ⟨S1x1x4096, .i32⟩
  | .local _ .smem, ⟨3, _⟩ => ⟨S1x1x4096, .i32⟩
  | _, _ => ⟨S16384x4, .i32⟩

abbrev bufScoped : (cs : CoreSpace) → Fin (nBuf (.core cs)) → Bool
  | .vmem, ⟨0, _⟩ => true
  | .vmem, ⟨1, _⟩ => true
  | .vmem, ⟨2, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_arg0 : Ref sig .tc := ⟨.smem, 0, rfl⟩
abbrev main_arg1 : Ref sig .tc := ⟨.smem, 1, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c32_i32 : BitVec 32 := 32#32
  let v12 : BitVec 32 := Scalar.addi c0_i32_12 c32_i32
  let c1_i32_13 : BitVec 32 := 1#32
  ⟨c0_i32_12, v12, c1_i32_13⟩
def k0_off1 (k0_t1 : Fin k0_t1_loop.trips) : Fin 1 → Nat :=
  let c0_i32_12 : BitVec 32 := 0#32
  let c1_i32_13 : BitVec 32 := 1#32
  let arg9 : BitVec 32 := Scf.iv c0_i32_12 c1_i32_13 k0_t1
  let v26 : Index := Scalar.indexCast arg9
  ![v26.toNat]
def k0_mult1 (v27 : BitVec 32) : BitVec 32 :=
  let c0_i32_30 : BitVec 32 := 0#32
  let v29 : BitVec 1 := Scalar.cmpi .sgt v27 c0_i32_30
  let v30 : BitVec 32 := Scalar.extui v29
  let c0_i32_31 : BitVec 32 := 0#32
  let v31 : BitVec 1 := Scalar.cmpi .slt v27 c0_i32_31
  let v32 : BitVec 32 := Scalar.extui v31
  let v33 : BitVec 32 := Scalar.subi v30 v32
  let c512_i32 : BitVec 32 := 512#32
  let c0_i32_32 : BitVec 32 := 0#32
  let v34 : BitVec 1 := Scalar.cmpi .sgt c512_i32 c0_i32_32
  let v35 : BitVec 32 := Scalar.extui v34
  let c0_i32_33 : BitVec 32 := 0#32
  let v36 : BitVec 1 := Scalar.cmpi .slt c512_i32 c0_i32_33
  let v37 : BitVec 32 := Scalar.extui v36
  let v38 : BitVec 32 := Scalar.subi v35 v37
  let v39 : BitVec 1 := Scalar.cmpi .ne v33 v38
  let v40 : BitVec 32 := Scalar.remsi v27 c512_i32
  let c0_i32_34 : BitVec 32 := 0#32
  let v41 : BitVec 1 := Scalar.cmpi .ne v40 c0_i32_34
  let v42 : BitVec 1 := Scalar.andi v39 v41
  let v28 : BitVec 32 := Scalar.divsi v27 c512_i32
  let c1_i32_35 : BitVec 32 := 1#32
  let v43 : BitVec 32 := Scalar.subi v28 c1_i32_35
  let v44 : BitVec 32 := Scalar.select v42 v43 v28
  let c1_i32_36 : BitVec 32 := 1#32
  let v45 : BitVec 32 := Scalar.subi v44 c1_i32_36
  let c0_i32_37 : BitVec 32 := 0#32
  let v46 : BitVec 32 := Scalar.maxsi v45 c0_i32_37
  let c4096_i32 : BitVec 32 := 4096#32
  let v47 : BitVec 32 := Scalar.muli v46 c4096_i32
  v47

def k0_off2 (v27 : BitVec 32) : Fin 2 → Nat :=
  let c0_i32_30 : BitVec 32 := 0#32
  let v29 : BitVec 1 := Scalar.cmpi .sgt v27 c0_i32_30
  let v30 : BitVec 32 := Scalar.extui v29
  let c0_i32_31 : BitVec 32 := 0#32
  let v31 : BitVec 1 := Scalar.cmpi .slt v27 c0_i32_31
  let v32 : BitVec 32 := Scalar.extui v31
  let v33 : BitVec 32 := Scalar.subi v30 v32
  let c512_i32 : BitVec 32 := 512#32
  let c0_i32_32 : BitVec 32 := 0#32
  let v34 : BitVec 1 := Scalar.cmpi .sgt c512_i32 c0_i32_32
  let v35 : BitVec 32 := Scalar.extui v34
  let c0_i32_33 : BitVec 32 := 0#32
  let v36 : BitVec 1 := Scalar.cmpi .slt c512_i32 c0_i32_33
  let v37 : BitVec 32 := Scalar.extui v36
  let v38 : BitVec 32 := Scalar.subi v35 v37
  let v39 : BitVec 1 := Scalar.cmpi .ne v33 v38
  let v40 : BitVec 32 := Scalar.remsi v27 c512_i32
  let c0_i32_34 : BitVec 32 := 0#32
  let v41 : BitVec 1 := Scalar.cmpi .ne v40 c0_i32_34
  let v42 : BitVec 1 := Scalar.andi v39 v41
  let v28 : BitVec 32 := Scalar.divsi v27 c512_i32
  let c1_i32_35 : BitVec 32 := 1#32
  let v43 : BitVec 32 := Scalar.subi v28 c1_i32_35
  let v44 : BitVec 32 := Scalar.select v42 v43 v28
  let c1_i32_36 : BitVec 32 := 1#32
  let v45 : BitVec 32 := Scalar.subi v44 c1_i32_36
  let c0_i32_37 : BitVec 32 := 0#32
  let v46 : BitVec 32 := Scalar.maxsi v45 c0_i32_37
  let c4096_i32 : BitVec 32 := 4096#32
  let v47 : BitVec 32 := Scalar.muli v46 c4096_i32
  let v48 : BitVec 32 := v47
  let c0_i32_38 : BitVec 32 := 0#32
  ![v48.toNat, 0]

def k0_chk1 (i : grid0.Coords) (v27 : BitVec 32) : Prop :=
  (∀ (k0_h1 : k0_cond1 i = 1#1), 4096 ∣ (k0_mult1 v27).toNat) ∧
  (∀ (k0_h1 : k0_cond1 i = 1#1), ∀ a, (k0_off2 v27) a + S4096x128.size a ≤ S655360x128.size a)
theorem k0_mult1_dvd : ∀ (i : grid0.Coords) (v27 : BitVec 32) (k0_hw1 : k0_chk1 i v27), ∀ (k0_h1 : k0_cond1 i = 1#1), 4096 ∣ (k0_mult1 v27).toNat := fun i v27 k0_hw1 k0_h1 => k0_hw1.1 k0_h1
theorem k0_off2_inb : ∀ (i : grid0.Coords) (v27 : BitVec 32) (k0_hw1 : k0_chk1 i v27), ∀ (k0_h1 : k0_cond1 i = 1#1), ∀ a, (k0_off2 v27) a + S4096x128.size a ≤ S655360x128.size a := fun i v27 k0_hw1 k0_h1 => k0_hw1.2 k0_h1

@[reducible] def k0_t2_loop (v13 : BitVec 32) : Scf.Loop 32 :=
  let c160_i32 : BitVec 32 := 160#32
  let v14 : BitVec 32 := Scalar.subi c160_i32 v13
  let c1_i32_17 : BitVec 32 := 1#32
  let v16 : BitVec 32 := Scalar.divsi v14 c1_i32_17
  let v17 : BitVec 32 := Scalar.muli v16 c1_i32_17
  let v18 : BitVec 32 := Scalar.addi v13 v17
  let c1_i32_18 : BitVec 32 := 1#32
  ⟨v13, v18, c1_i32_18⟩

def k0_mult2 (v13 : BitVec 32) (k0_t2 : Fin (k0_t2_loop v13).trips) : BitVec 32 :=
  let c1_i32_18 : BitVec 32 := 1#32
  let arg9 : BitVec 32 := Scf.iv v13 c1_i32_18 k0_t2
  let c4096_i32 : BitVec 32 := 4096#32
  let v26 : BitVec 32 := Scalar.muli arg9 c4096_i32
  v26
def k0_off3 (v13 : BitVec 32) (k0_t2 : Fin (k0_t2_loop v13).trips) : Fin 2 → Nat :=
  let c1_i32_18 : BitVec 32 := 1#32
  let arg9 : BitVec 32 := Scf.iv v13 c1_i32_18 k0_t2
  let c4096_i32 : BitVec 32 := 4096#32
  let v26 : BitVec 32 := Scalar.muli arg9 c4096_i32
  let v27 : BitVec 32 := v26
  let c0_i32_30 : BitVec 32 := 0#32
  ![v27.toNat, 0]
@[reducible] def k0_t3_loop (v13 : BitVec 32) : Scf.Loop 32 :=
  let c160_i32 : BitVec 32 := 160#32
  let v14 : BitVec 32 := Scalar.subi c160_i32 v13
  let c1_i32_17 : BitVec 32 := 1#32
  let v16 : BitVec 32 := Scalar.divsi v14 c1_i32_17
  let v17 : BitVec 32 := Scalar.muli v16 c1_i32_17
  let v18 : BitVec 32 := Scalar.addi v13 v17
  let v15 : BitVec 32 := Scalar.addi v13 v14
  let c1_i32_19 : BitVec 32 := 1#32
  ⟨v18, v15, c1_i32_19⟩
def k0_mult3 (v13 : BitVec 32) (k0_t3 : Fin (k0_t3_loop v13).trips) : BitVec 32 :=
  let c160_i32 : BitVec 32 := 160#32
  let v14 : BitVec 32 := Scalar.subi c160_i32 v13
  let c1_i32_17 : BitVec 32 := 1#32
  let v16 : BitVec 32 := Scalar.divsi v14 c1_i32_17
  let v17 : BitVec 32 := Scalar.muli v16 c1_i32_17
  let v18 : BitVec 32 := Scalar.addi v13 v17
  let c1_i32_19 : BitVec 32 := 1#32
  let arg9 : BitVec 32 := Scf.iv v18 c1_i32_19 k0_t3
  let c4096_i32 : BitVec 32 := 4096#32
  let v26 : BitVec 32 := Scalar.muli arg9 c4096_i32
  v26
def k0_off4 (v13 : BitVec 32) (k0_t3 : Fin (k0_t3_loop v13).trips) : Fin 2 → Nat :=
  let c160_i32 : BitVec 32 := 160#32
  let v14 : BitVec 32 := Scalar.subi c160_i32 v13
  let c1_i32_17 : BitVec 32 := 1#32
  let v16 : BitVec 32 := Scalar.divsi v14 c1_i32_17
  let v17 : BitVec 32 := Scalar.muli v16 c1_i32_17
  let v18 : BitVec 32 := Scalar.addi v13 v17
  let c1_i32_19 : BitVec 32 := 1#32
  let arg9 : BitVec 32 := Scf.iv v18 c1_i32_19 k0_t3
  let c4096_i32 : BitVec 32 := 4096#32
  let v26 : BitVec 32 := Scalar.muli arg9 c4096_i32
  let v27 : BitVec 32 := v26
  let c0_i32_30 : BitVec 32 := 0#32
  ![v27.toNat, 0]

def k0_chk2 (i : grid0.Coords) (v13 : BitVec 32) : Prop :=
  (∀ (k0_h1 : k0_cond1 i = 1#1), (k0_t2_loop v13).OK) ∧
  (∀ k0_t2 : Fin (k0_t2_loop v13).trips, ∀ (k0_h1 : k0_cond1 i = 1#1), 4096 ∣ (k0_mult2 v13 k0_t2).toNat) ∧
  (∀ k0_t2 : Fin (k0_t2_loop v13).trips, ∀ (k0_h1 : k0_cond1 i = 1#1), ∀ a, (k0_off3 v13 k0_t2) a + S4096x128.size a ≤ S655360x128.size a) ∧
  (∀ (k0_h1 : k0_cond1 i = 1#1), (k0_t3_loop v13).OK) ∧
  (∀ k0_t3 : Fin (k0_t3_loop v13).trips, ∀ (k0_h1 : k0_cond1 i = 1#1), 4096 ∣ (k0_mult3 v13 k0_t3).toNat) ∧
  (∀ k0_t3 : Fin (k0_t3_loop v13).trips, ∀ (k0_h1 : k0_cond1 i = 1#1), ∀ a, (k0_off4 v13 k0_t3) a + S4096x128.size a ≤ S655360x128.size a)
theorem k0_t2_ok : ∀ (i : grid0.Coords) (v13 : BitVec 32) (k0_hw2 : k0_chk2 i v13), ∀ (k0_h1 : k0_cond1 i = 1#1), (k0_t2_loop v13).OK := fun i v13 k0_hw2 k0_h1 => k0_hw2.1 k0_h1
theorem k0_mult2_dvd : ∀ (i : grid0.Coords) (v13 : BitVec 32) (k0_hw2 : k0_chk2 i v13) (k0_t2 : Fin (k0_t2_loop v13).trips), ∀ (k0_h1 : k0_cond1 i = 1#1), 4096 ∣ (k0_mult2 v13 k0_t2).toNat := fun i v13 k0_hw2 k0_t2 k0_h1 => k0_hw2.2.1 k0_t2 k0_h1
theorem k0_off3_inb : ∀ (i : grid0.Coords) (v13 : BitVec 32) (k0_hw2 : k0_chk2 i v13) (k0_t2 : Fin (k0_t2_loop v13).trips), ∀ (k0_h1 : k0_cond1 i = 1#1), ∀ a, (k0_off3 v13 k0_t2) a + S4096x128.size a ≤ S655360x128.size a := fun i v13 k0_hw2 k0_t2 k0_h1 => k0_hw2.2.2.1 k0_t2 k0_h1
theorem k0_t3_ok : ∀ (i : grid0.Coords) (v13 : BitVec 32) (k0_hw2 : k0_chk2 i v13), ∀ (k0_h1 : k0_cond1 i = 1#1), (k0_t3_loop v13).OK := fun i v13 k0_hw2 k0_h1 => k0_hw2.2.2.2.1 k0_h1
theorem k0_mult3_dvd : ∀ (i : grid0.Coords) (v13 : BitVec 32) (k0_hw2 : k0_chk2 i v13) (k0_t3 : Fin (k0_t3_loop v13).trips), ∀ (k0_h1 : k0_cond1 i = 1#1), 4096 ∣ (k0_mult3 v13 k0_t3).toNat := fun i v13 k0_hw2 k0_t3 k0_h1 => k0_hw2.2.2.2.2.1 k0_t3 k0_h1
theorem k0_off4_inb : ∀ (i : grid0.Coords) (v13 : BitVec 32) (k0_hw2 : k0_chk2 i v13) (k0_t3 : Fin (k0_t3_loop v13).trips), ∀ (k0_h1 : k0_cond1 i = 1#1), ∀ a, (k0_off4 v13 k0_t3) a + S4096x128.size a ≤ S655360x128.size a := fun i v13 k0_hw2 k0_t3 k0_h1 => k0_hw2.2.2.2.2.2 k0_t3 k0_h1

@[reducible] def k0_t4_loop : Scf.Loop 32 :=
  let c0_i32_20 : BitVec 32 := 0#32
  let c32_i32_21 : BitVec 32 := 32#32
  let v19 : BitVec 32 := Scalar.addi c0_i32_20 c32_i32_21
  let c1_i32_22 : BitVec 32 := 1#32
  ⟨c0_i32_20, v19, c1_i32_22⟩
def k0_off5 (k0_t4 : Fin k0_t4_loop.trips) : Fin 1 → Nat :=
  let c0_i32_20 : BitVec 32 := 0#32
  let c1_i32_22 : BitVec 32 := 1#32
  let arg9 : BitVec 32 := Scf.iv c0_i32_20 c1_i32_22 k0_t4
  let v26 : Index := Scalar.indexCast arg9
  ![v26.toNat]
def k0_mult4 (v27 : BitVec 32) : BitVec 32 :=
  let c0_i32_30 : BitVec 32 := 0#32
  let v29 : BitVec 1 := Scalar.cmpi .sgt v27 c0_i32_30
  let v30 : BitVec 32 := Scalar.extui v29
  let c0_i32_31 : BitVec 32 := 0#32
  let v31 : BitVec 1 := Scalar.cmpi .slt v27 c0_i32_31
  let v32 : BitVec 32 := Scalar.extui v31
  let v33 : BitVec 32 := Scalar.subi v30 v32
  let c512_i32 : BitVec 32 := 512#32
  let c0_i32_32 : BitVec 32 := 0#32
  let v34 : BitVec 1 := Scalar.cmpi .sgt c512_i32 c0_i32_32
  let v35 : BitVec 32 := Scalar.extui v34
  let c0_i32_33 : BitVec 32 := 0#32
  let v36 : BitVec 1 := Scalar.cmpi .slt c512_i32 c0_i32_33
  let v37 : BitVec 32 := Scalar.extui v36
  let v38 : BitVec 32 := Scalar.subi v35 v37
  let v39 : BitVec 1 := Scalar.cmpi .ne v33 v38
  let v40 : BitVec 32 := Scalar.remsi v27 c512_i32
  let c0_i32_34 : BitVec 32 := 0#32
  let v41 : BitVec 1 := Scalar.cmpi .ne v40 c0_i32_34
  let v42 : BitVec 1 := Scalar.andi v39 v41
  let v28 : BitVec 32 := Scalar.divsi v27 c512_i32
  let c1_i32_35 : BitVec 32 := 1#32
  let v43 : BitVec 32 := Scalar.subi v28 c1_i32_35
  let v44 : BitVec 32 := Scalar.select v42 v43 v28
  let c1_i32_36 : BitVec 32 := 1#32
  let v45 : BitVec 32 := Scalar.subi v44 c1_i32_36
  let c0_i32_37 : BitVec 32 := 0#32
  let v46 : BitVec 32 := Scalar.maxsi v45 c0_i32_37
  let c4096_i32 : BitVec 32 := 4096#32
  let v47 : BitVec 32 := Scalar.muli v46 c4096_i32
  v47

def k0_off6 (v27 : BitVec 32) : Fin 2 → Nat :=
  let c0_i32_30 : BitVec 32 := 0#32
  let v29 : BitVec 1 := Scalar.cmpi .sgt v27 c0_i32_30
  let v30 : BitVec 32 := Scalar.extui v29
  let c0_i32_31 : BitVec 32 := 0#32
  let v31 : BitVec 1 := Scalar.cmpi .slt v27 c0_i32_31
  let v32 : BitVec 32 := Scalar.extui v31
  let v33 : BitVec 32 := Scalar.subi v30 v32
  let c512_i32 : BitVec 32 := 512#32
  let c0_i32_32 : BitVec 32 := 0#32
  let v34 : BitVec 1 := Scalar.cmpi .sgt c512_i32 c0_i32_32
  let v35 : BitVec 32 := Scalar.extui v34
  let c0_i32_33 : BitVec 32 := 0#32
  let v36 : BitVec 1 := Scalar.cmpi .slt c512_i32 c0_i32_33
  let v37 : BitVec 32 := Scalar.extui v36
  let v38 : BitVec 32 := Scalar.subi v35 v37
  let v39 : BitVec 1 := Scalar.cmpi .ne v33 v38
  let v40 : BitVec 32 := Scalar.remsi v27 c512_i32
  let c0_i32_34 : BitVec 32 := 0#32
  let v41 : BitVec 1 := Scalar.cmpi .ne v40 c0_i32_34
  let v42 : BitVec 1 := Scalar.andi v39 v41
  let v28 : BitVec 32 := Scalar.divsi v27 c512_i32
  let c1_i32_35 : BitVec 32 := 1#32
  let v43 : BitVec 32 := Scalar.subi v28 c1_i32_35
  let v44 : BitVec 32 := Scalar.select v42 v43 v28
  let c1_i32_36 : BitVec 32 := 1#32
  let v45 : BitVec 32 := Scalar.subi v44 c1_i32_36
  let c0_i32_37 : BitVec 32 := 0#32
  let v46 : BitVec 32 := Scalar.maxsi v45 c0_i32_37
  let c4096_i32 : BitVec 32 := 4096#32
  let v47 : BitVec 32 := Scalar.muli v46 c4096_i32
  let v48 : BitVec 32 := v47
  let c0_i32_38 : BitVec 32 := 0#32
  ![v48.toNat, 0]

def k0_chk3 (i : grid0.Coords) (v27 : BitVec 32) : Prop :=
  (∀ (k0_h1 : k0_cond1 i = 1#1), 4096 ∣ (k0_mult4 v27).toNat) ∧
  (∀ (k0_h1 : k0_cond1 i = 1#1), ∀ a, (k0_off6 v27) a + S4096x128.size a ≤ S655360x128.size a)
theorem k0_mult4_dvd : ∀ (i : grid0.Coords) (v27 : BitVec 32) (k0_hw3 : k0_chk3 i v27), ∀ (k0_h1 : k0_cond1 i = 1#1), 4096 ∣ (k0_mult4 v27).toNat := fun i v27 k0_hw3 k0_h1 => k0_hw3.1 k0_h1
theorem k0_off6_inb : ∀ (i : grid0.Coords) (v27 : BitVec 32) (k0_hw3 : k0_chk3 i v27), ∀ (k0_h1 : k0_cond1 i = 1#1), ∀ a, (k0_off6 v27) a + S4096x128.size a ≤ S655360x128.size a := fun i v27 k0_hw3 k0_h1 => k0_hw3.2 k0_h1

@[reducible] def k0_t5_loop (v20 : BitVec 32) : Scf.Loop 32 :=
  let c160_i32_26 : BitVec 32 := 160#32
  let v21 : BitVec 32 := Scalar.subi c160_i32_26 v20
  let c1_i32_27 : BitVec 32 := 1#32
  let v23 : BitVec 32 := Scalar.divsi v21 c1_i32_27
  let v24 : BitVec 32 := Scalar.muli v23 c1_i32_27
  let v25 : BitVec 32 := Scalar.addi v20 v24
  let c1_i32_28 : BitVec 32 := 1#32
  ⟨v20, v25, c1_i32_28⟩

def k0_mult5 (v20 : BitVec 32) (k0_t5 : Fin (k0_t5_loop v20).trips) : BitVec 32 :=
  let c1_i32_28 : BitVec 32 := 1#32
  let arg9 : BitVec 32 := Scf.iv v20 c1_i32_28 k0_t5
  let c4096_i32 : BitVec 32 := 4096#32
  let v26 : BitVec 32 := Scalar.muli arg9 c4096_i32
  v26
def k0_off7 (v20 : BitVec 32) (k0_t5 : Fin (k0_t5_loop v20).trips) : Fin 2 → Nat :=
  let c1_i32_28 : BitVec 32 := 1#32
  let arg9 : BitVec 32 := Scf.iv v20 c1_i32_28 k0_t5
  let c4096_i32 : BitVec 32 := 4096#32
  let v26 : BitVec 32 := Scalar.muli arg9 c4096_i32
  let v27 : BitVec 32 := v26
  let c0_i32_30 : BitVec 32 := 0#32
  ![v27.toNat, 0]
@[reducible] def k0_t6_loop (v20 : BitVec 32) : Scf.Loop 32 :=
  let c160_i32_26 : BitVec 32 := 160#32
  let v21 : BitVec 32 := Scalar.subi c160_i32_26 v20
  let c1_i32_27 : BitVec 32 := 1#32
  let v23 : BitVec 32 := Scalar.divsi v21 c1_i32_27
  let v24 : BitVec 32 := Scalar.muli v23 c1_i32_27
  let v25 : BitVec 32 := Scalar.addi v20 v24
  let v22 : BitVec 32 := Scalar.addi v20 v21
  let c1_i32_29 : BitVec 32 := 1#32
  ⟨v25, v22, c1_i32_29⟩
def k0_mult6 (v20 : BitVec 32) (k0_t6 : Fin (k0_t6_loop v20).trips) : BitVec 32 :=
  let c160_i32_26 : BitVec 32 := 160#32
  let v21 : BitVec 32 := Scalar.subi c160_i32_26 v20
  let c1_i32_27 : BitVec 32 := 1#32
  let v23 : BitVec 32 := Scalar.divsi v21 c1_i32_27
  let v24 : BitVec 32 := Scalar.muli v23 c1_i32_27
  let v25 : BitVec 32 := Scalar.addi v20 v24
  let c1_i32_29 : BitVec 32 := 1#32
  let arg9 : BitVec 32 := Scf.iv v25 c1_i32_29 k0_t6
  let c4096_i32 : BitVec 32 := 4096#32
  let v26 : BitVec 32 := Scalar.muli arg9 c4096_i32
  v26
def k0_off8 (v20 : BitVec 32) (k0_t6 : Fin (k0_t6_loop v20).trips) : Fin 2 → Nat :=
  let c160_i32_26 : BitVec 32 := 160#32
  let v21 : BitVec 32 := Scalar.subi c160_i32_26 v20
  let c1_i32_27 : BitVec 32 := 1#32
  let v23 : BitVec 32 := Scalar.divsi v21 c1_i32_27
  let v24 : BitVec 32 := Scalar.muli v23 c1_i32_27
  let v25 : BitVec 32 := Scalar.addi v20 v24
  let c1_i32_29 : BitVec 32 := 1#32
  let arg9 : BitVec 32 := Scf.iv v25 c1_i32_29 k0_t6
  let c4096_i32 : BitVec 32 := 4096#32
  let v26 : BitVec 32 := Scalar.muli arg9 c4096_i32
  let v27 : BitVec 32 := v26
  let c0_i32_30 : BitVec 32 := 0#32
  ![v27.toNat, 0]

def k0_chk4 (i : grid0.Coords) (v20 : BitVec 32) : Prop :=
  (∀ (k0_h1 : k0_cond1 i = 1#1), (k0_t5_loop v20).OK) ∧
  (∀ k0_t5 : Fin (k0_t5_loop v20).trips, ∀ (k0_h1 : k0_cond1 i = 1#1), 4096 ∣ (k0_mult5 v20 k0_t5).toNat) ∧
  (∀ k0_t5 : Fin (k0_t5_loop v20).trips, ∀ (k0_h1 : k0_cond1 i = 1#1), ∀ a, (k0_off7 v20 k0_t5) a + S4096x128.size a ≤ S655360x128.size a) ∧
  (∀ (k0_h1 : k0_cond1 i = 1#1), (k0_t6_loop v20).OK) ∧
  (∀ k0_t6 : Fin (k0_t6_loop v20).trips, ∀ (k0_h1 : k0_cond1 i = 1#1), 4096 ∣ (k0_mult6 v20 k0_t6).toNat) ∧
  (∀ k0_t6 : Fin (k0_t6_loop v20).trips, ∀ (k0_h1 : k0_cond1 i = 1#1), ∀ a, (k0_off8 v20 k0_t6) a + S4096x128.size a ≤ S655360x128.size a)
theorem k0_t5_ok : ∀ (i : grid0.Coords) (v20 : BitVec 32) (k0_hw4 : k0_chk4 i v20), ∀ (k0_h1 : k0_cond1 i = 1#1), (k0_t5_loop v20).OK := fun i v20 k0_hw4 k0_h1 => k0_hw4.1 k0_h1
theorem k0_mult5_dvd : ∀ (i : grid0.Coords) (v20 : BitVec 32) (k0_hw4 : k0_chk4 i v20) (k0_t5 : Fin (k0_t5_loop v20).trips), ∀ (k0_h1 : k0_cond1 i = 1#1), 4096 ∣ (k0_mult5 v20 k0_t5).toNat := fun i v20 k0_hw4 k0_t5 k0_h1 => k0_hw4.2.1 k0_t5 k0_h1
theorem k0_off7_inb : ∀ (i : grid0.Coords) (v20 : BitVec 32) (k0_hw4 : k0_chk4 i v20) (k0_t5 : Fin (k0_t5_loop v20).trips), ∀ (k0_h1 : k0_cond1 i = 1#1), ∀ a, (k0_off7 v20 k0_t5) a + S4096x128.size a ≤ S655360x128.size a := fun i v20 k0_hw4 k0_t5 k0_h1 => k0_hw4.2.2.1 k0_t5 k0_h1
theorem k0_t6_ok : ∀ (i : grid0.Coords) (v20 : BitVec 32) (k0_hw4 : k0_chk4 i v20), ∀ (k0_h1 : k0_cond1 i = 1#1), (k0_t6_loop v20).OK := fun i v20 k0_hw4 k0_h1 => k0_hw4.2.2.2.1 k0_h1
theorem k0_mult6_dvd : ∀ (i : grid0.Coords) (v20 : BitVec 32) (k0_hw4 : k0_chk4 i v20) (k0_t6 : Fin (k0_t6_loop v20).trips), ∀ (k0_h1 : k0_cond1 i = 1#1), 4096 ∣ (k0_mult6 v20 k0_t6).toNat := fun i v20 k0_hw4 k0_t6 k0_h1 => k0_hw4.2.2.2.2.1 k0_t6 k0_h1
theorem k0_off8_inb : ∀ (i : grid0.Coords) (v20 : BitVec 32) (k0_hw4 : k0_chk4 i v20) (k0_t6 : Fin (k0_t6_loop v20).trips), ∀ (k0_h1 : k0_cond1 i = 1#1), ∀ a, (k0_off8 v20 k0_t6) a + S4096x128.size a ≤ S655360x128.size a := fun i v20 k0_hw4 k0_t6 k0_h1 => k0_hw4.2.2.2.2.2 k0_t6 k0_h1

@[reducible] def k0_t7_loop : Scf.Loop 32 :=
  let c0_i32_1 : BitVec 32 := 0#32
  let c1024_i32 : BitVec 32 := 1024#32
  let v3 : BitVec 32 := Scalar.addi c0_i32_1 c1024_i32
  let c1_i32 : BitVec 32 := 1#32
  ⟨c0_i32_1, v3, c1_i32⟩
def k0_mult7 (k0_t7 : Fin k0_t7_loop.trips) : BitVec 32 :=
  let c0_i32_1 : BitVec 32 := 0#32
  let c1_i32 : BitVec 32 := 1#32
  let arg9 : BitVec 32 := Scf.iv c0_i32_1 c1_i32 k0_t7
  let c8_i32 : BitVec 32 := 8#32
  let v8 : BitVec 32 := Scalar.muli arg9 c8_i32
  v8
def k0_off9 (k0_t7 : Fin k0_t7_loop.trips) : Fin 3 → Nat :=
  let c0 : Index := 0#32
  let c0_12 : Index := 0#32
  let c0_i32_11 : BitVec 32 := 0#32
  let c0_i32_1 : BitVec 32 := 0#32
  let c1_i32 : BitVec 32 := 1#32
  let arg9 : BitVec 32 := Scf.iv c0_i32_1 c1_i32 k0_t7
  let v10 : BitVec 32 := Scalar.addi c0_i32_11 arg9
  let v11 : Index := Scalar.indexCast v10
  ![0, 0, v11.toNat]
def k0_mult8 (v12 : BitVec 32) : BitVec 32 :=
  v12

def k0_off10 (v12 : BitVec 32) : Fin 2 → Nat :=
  let v13 : BitVec 32 := v12
  let c0_i32_13 : BitVec 32 := 0#32
  ![v13.toNat, 0]

def k0_chk5 (v12 : BitVec 32) : Prop :=
  (8 ∣ (k0_mult8 v12).toNat) ∧
  (∀ a, (k0_off10 v12) a + S8x128.size a ≤ S655360x128.size a)
theorem k0_mult8_dvd : ∀ (v12 : BitVec 32) (k0_hw5 : k0_chk5 v12), 8 ∣ (k0_mult8 v12).toNat := fun v12 k0_hw5 => k0_hw5.1
theorem k0_off10_inb : ∀ (v12 : BitVec 32) (k0_hw5 : k0_chk5 v12), ∀ a, (k0_off10 v12) a + S8x128.size a ≤ S655360x128.size a := fun v12 k0_hw5 => k0_hw5.2

def k0_off11 (k0_t7 : Fin k0_t7_loop.trips) : Fin 2 → Nat :=
  let c0_i32_1 : BitVec 32 := 0#32
  let c1_i32 : BitVec 32 := 1#32
  let arg9 : BitVec 32 := Scf.iv c0_i32_1 c1_i32 k0_t7
  let c8_i32 : BitVec 32 := 8#32
  let v8 : BitVec 32 := Scalar.muli arg9 c8_i32
  let v9 : BitVec 32 := v8
  let c0_i32_14 : BitVec 32 := 0#32
  ![v9.toNat, 0]
def k0_off12 (k0_t7 : Fin k0_t7_loop.trips) : Fin 3 → Nat :=
  let c0_16 : Index := 0#32
  let c0_17 : Index := 0#32
  let c1024_i32_15 : BitVec 32 := 1024#32
  let c0_i32_1 : BitVec 32 := 0#32
  let c1_i32 : BitVec 32 := 1#32
  let arg9 : BitVec 32 := Scf.iv c0_i32_1 c1_i32 k0_t7
  let v16 : BitVec 32 := Scalar.addi c1024_i32_15 arg9
  let v17 : Index := Scalar.indexCast v16
  ![0, 0, v17.toNat]
def k0_mult9 (v18 : BitVec 32) : BitVec 32 :=
  v18

def k0_off13 (v18 : BitVec 32) : Fin 2 → Nat :=
  let v19 : BitVec 32 := v18
  let c0_i32_18 : BitVec 32 := 0#32
  ![v19.toNat, 0]

def k0_chk6 (v18 : BitVec 32) : Prop :=
  (8 ∣ (k0_mult9 v18).toNat) ∧
  (∀ a, (k0_off13 v18) a + S8x128.size a ≤ S655360x128.size a)
theorem k0_mult9_dvd : ∀ (v18 : BitVec 32) (k0_hw6 : k0_chk6 v18), 8 ∣ (k0_mult9 v18).toNat := fun v18 k0_hw6 => k0_hw6.1
theorem k0_off13_inb : ∀ (v18 : BitVec 32) (k0_hw6 : k0_chk6 v18), ∀ a, (k0_off13 v18) a + S8x128.size a ≤ S655360x128.size a := fun v18 k0_hw6 => k0_hw6.2

def k0_off14 (k0_t7 : Fin k0_t7_loop.trips) : Fin 2 → Nat :=
  let c0_i32_1 : BitVec 32 := 0#32
  let c1_i32 : BitVec 32 := 1#32
  let arg9 : BitVec 32 := Scf.iv c0_i32_1 c1_i32 k0_t7
  let c8_i32 : BitVec 32 := 8#32
  let v8 : BitVec 32 := Scalar.muli arg9 c8_i32
  let v9 : BitVec 32 := v8
  let c0_i32_19 : BitVec 32 := 0#32
  ![v9.toNat, 0]
def k0_off15 (k0_t7 : Fin k0_t7_loop.trips) : Fin 3 → Nat :=
  let c0_20 : Index := 0#32
  let c0_21 : Index := 0#32
  let c2048_i32 : BitVec 32 := 2048#32
  let c0_i32_1 : BitVec 32 := 0#32
  let c1_i32 : BitVec 32 := 1#32
  let arg9 : BitVec 32 := Scf.iv c0_i32_1 c1_i32 k0_t7
  let v22 : BitVec 32 := Scalar.addi c2048_i32 arg9
  let v23 : Index := Scalar.indexCast v22
  ![0, 0, v23.toNat]
def k0_mult10 (v24 : BitVec 32) : BitVec 32 :=
  v24

def k0_off16 (v24 : BitVec 32) : Fin 2 → Nat :=
  let v25 : BitVec 32 := v24
  let c0_i32_22 : BitVec 32 := 0#32
  ![v25.toNat, 0]

def k0_chk7 (v24 : BitVec 32) : Prop :=
  (8 ∣ (k0_mult10 v24).toNat) ∧
  (∀ a, (k0_off16 v24) a + S8x128.size a ≤ S655360x128.size a)
theorem k0_mult10_dvd : ∀ (v24 : BitVec 32) (k0_hw7 : k0_chk7 v24), 8 ∣ (k0_mult10 v24).toNat := fun v24 k0_hw7 => k0_hw7.1
theorem k0_off16_inb : ∀ (v24 : BitVec 32) (k0_hw7 : k0_chk7 v24), ∀ a, (k0_off16 v24) a + S8x128.size a ≤ S655360x128.size a := fun v24 k0_hw7 => k0_hw7.2

def k0_off17 (k0_t7 : Fin k0_t7_loop.trips) : Fin 2 → Nat :=
  let c0_i32_1 : BitVec 32 := 0#32
  let c1_i32 : BitVec 32 := 1#32
  let arg9 : BitVec 32 := Scf.iv c0_i32_1 c1_i32 k0_t7
  let c8_i32 : BitVec 32 := 8#32
  let v8 : BitVec 32 := Scalar.muli arg9 c8_i32
  let v9 : BitVec 32 := v8
  let c0_i32_23 : BitVec 32 := 0#32
  ![v9.toNat, 0]
def k0_off18 (k0_t7 : Fin k0_t7_loop.trips) : Fin 3 → Nat :=
  let c0_24 : Index := 0#32
  let c0_25 : Index := 0#32
  let c3072_i32 : BitVec 32 := 3072#32
  let c0_i32_1 : BitVec 32 := 0#32
  let c1_i32 : BitVec 32 := 1#32
  let arg9 : BitVec 32 := Scf.iv c0_i32_1 c1_i32 k0_t7
  let v28 : BitVec 32 := Scalar.addi c3072_i32 arg9
  let v29 : Index := Scalar.indexCast v28
  ![0, 0, v29.toNat]
def k0_mult11 (v30 : BitVec 32) : BitVec 32 :=
  v30

def k0_off19 (v30 : BitVec 32) : Fin 2 → Nat :=
  let v31 : BitVec 32 := v30
  let c0_i32_26 : BitVec 32 := 0#32
  ![v31.toNat, 0]

def k0_chk8 (v30 : BitVec 32) : Prop :=
  (8 ∣ (k0_mult11 v30).toNat) ∧
  (∀ a, (k0_off19 v30) a + S8x128.size a ≤ S655360x128.size a)
theorem k0_mult11_dvd : ∀ (v30 : BitVec 32) (k0_hw8 : k0_chk8 v30), 8 ∣ (k0_mult11 v30).toNat := fun v30 k0_hw8 => k0_hw8.1
theorem k0_off19_inb : ∀ (v30 : BitVec 32) (k0_hw8 : k0_chk8 v30), ∀ a, (k0_off19 v30) a + S8x128.size a ≤ S655360x128.size a := fun v30 k0_hw8 => k0_hw8.2

def k0_off20 (k0_t7 : Fin k0_t7_loop.trips) : Fin 2 → Nat :=
  let c0_i32_1 : BitVec 32 := 0#32
  let c1_i32 : BitVec 32 := 1#32
  let arg9 : BitVec 32 := Scf.iv c0_i32_1 c1_i32 k0_t7
  let c8_i32 : BitVec 32 := 8#32
  let v8 : BitVec 32 := Scalar.muli arg9 c8_i32
  let v9 : BitVec 32 := v8
  let c0_i32_27 : BitVec 32 := 0#32
  ![v9.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32 : Shape := ⟨1, ![32]⟩
abbrev S1 : Shape := ⟨1, ![1]⟩
abbrev S16384x4 : Shape := ⟨2, ![16384, 4]⟩
abbrev S16384x1024 : Shape := ⟨2, ![16384, 1024]⟩
abbrev S65536 : Shape := ⟨1, ![65536]⟩
abbrev S_ : Shape := ⟨0, ![]⟩
abbrev S81920x1024 : Shape := ⟨2, ![81920, 1024]⟩
abbrev S65536x1 : Shape := ⟨2, ![65536, 1]⟩
abbrev S65536x1024 : Shape := ⟨2, ![65536, 1024]⟩
abbrev S655360x128 : Shape := ⟨2, ![655360, 128]⟩

abbrev nBuf : Space → Nat
  | .hbm => 45
  | .vmem => 0
  | .smem => 0
  | _ => 0

abbrev bufTy : (tb : Table) → Fin (tcTables nBuf tb) → BufTy
  | .hbm, ⟨0, _⟩ => ⟨S32, .i32⟩
  | .hbm, ⟨1, _⟩ => ⟨S1, .i32⟩
  | .hbm, ⟨2, _⟩ => ⟨S16384x4, .i32⟩
  | .hbm, ⟨3, _⟩ => ⟨S16384x1024, .f32⟩
  | .hbm, ⟨4, _⟩ => ⟨S65536, .i32⟩
  | .hbm, ⟨5, _⟩ => ⟨S65536, .i32⟩
  | .hbm, ⟨6, _⟩ => ⟨S_, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S65536, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S_, .f32⟩
  | .hbm, ⟨25, _⟩ => ⟨S81920x1024, .f32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x1024, .f32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S81920x1024, .f32⟩
  | .hbm, ⟨44, _⟩ => ⟨S655360x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S655360x128 : Shape := ⟨2, ![655360, 128]⟩
abbrev S32x1x2048 : Shape := ⟨3, ![32, 1, 2048]⟩
abbrev S32x1x1024 : Shape := ⟨3, ![32, 1, 1024]⟩
abbrev S4096x128 : Shape := ⟨2, ![4096, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S_ : Shape := ⟨0, ![]⟩
abbrev S1x1024x2048 : Shape := ⟨3, ![1, 1024, 2048]⟩
abbrev S1x1024x1024 : Shape := ⟨3, ![1, 1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 12
  | .smem => 4
  | _ => 0

abbrev bufTy : (tb : Table) → Fin (tcTables nBuf tb) → BufTy
  | .hbm, ⟨0, _⟩ => ⟨S81920x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S655360x128, .f32⟩
  | .hbm, ⟨6, _⟩ => ⟨S32x1x2048, .f32⟩
  | .hbm, ⟨7, _⟩ => ⟨S32x1x1024, .f32⟩
  | .hbm, ⟨8, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_off3 (v5 : BitVec 32) : Fin 2 → Nat :=
  let c0_i32_6 : BitVec 32 := 0#32
  ![v5.toNat, 0]
def k0_cond1 (i : grid0.Coords) (v0 : BitVec 32) : BitVec 1 :=
  let arg0 : BitVec 32 := BitVec.ofNat 32 (i 0).val
  let v1 : BitVec 1 := Scalar.cmpi .slt arg0 v0
  let c0_i32_1 : BitVec 32 := 0#32
  let v14 : BitVec 1 := Scalar.cmpi .eq arg0 c0_i32_1
  let v15 : BitVec 1 := Scalar.andi v1 v14
  let v16 : BitVec 32 := Scalar.extui v15
  let c0_i32_2 : BitVec 32 := 0#32
  let v17 : BitVec 1 := Scalar.cmpi .ne v16 c0_i32_2
  v17

def k0_off4 (v5 : BitVec 32) : Fin 3 → Nat :=
  let c0_i32_7 : BitVec 32 := 0#32
  let c0_i32_8 : BitVec 32 := 0#32
  ![v5.toNat, 0, 0]
def k0_off5 (v3 : BitVec 32) : Fin 3 → Nat :=
  let c0_i32_9 : BitVec 32 := 0#32
  let c0_i32_10 : BitVec 32 := 0#32
  ![v3.toNat, 0, 0]

def k0_off6 (v5 : BitVec 32) : Fin 2 → Nat :=
  let c1_i32_11 : BitVec 32 := 1#32
  ![v5.toNat, 1]
def k0_off7 (v5 : BitVec 32) : Fin 3 → Nat :=
  let c0_i32_12 : BitVec 32 := 0#32
  let c0_i32_13 : BitVec 32 := 0#32
  ![v5.toNat, 0, 0]

def k0_chk1 (i : grid0.Coords) (v0 : BitVec 32) (v5 : BitVec 32) : Prop :=
  (∀ (k0_h1 : k0_cond1 i v0 = 1#1), ∀ a, (k0_off3 v5) a + S1x1.size a ≤ S2x2.size a) ∧
  (∀ (k0_h1 : k0_cond1 i v0 = 1#1), ∀ a, (k0_off4 v5) a + S1x1024x2048.size a ≤ S2x1024x2048.size a) ∧
  (∀ (k0_h1 : k0_cond1 i v0 = 1#1), ∀ a, (k0_off6 v5) a + S1x1.size a ≤ S2x2.size a) ∧
  (∀ (k0_h1 : k0_cond1 i v0 = 1#1), ∀ a, (k0_off7 v5) a + S1x1024x1024.size a ≤ S2x1024x1024.size a)
theorem k0_off3_inb : ∀ (i : grid0.Coords) (v0 : BitVec 32) (v5 : BitVec 32) (k0_hw1 : k0_chk1 i v0 v5), ∀ (k0_h1 : k0_cond1 i v0 = 1#1), ∀ a, (k0_off3 v5) a + S1x1.size a ≤ S2x2.size a := fun i v0 v5 k0_hw1 k0_h1 => k0_hw1.1 k0_h1
theorem k0_off4_inb : ∀ (i : grid0.Coords) (v0 : BitVec 32) (v5 : BitVec 32) (k0_hw1 : k0_chk1 i v0 v5), ∀ (k0_h1 : k0_cond1 i v0 = 1#1), ∀ a, (k0_off4 v5) a + S1x1024x2048.size a ≤ S2x1024x2048.size a := fun i v0 v5 k0_hw1 k0_h1 => k0_hw1.2.1 k0_h1
theorem k0_off6_inb : ∀ (i : grid0.Coords) (v0 : BitVec 32) (v5 : BitVec 32) (k0_hw1 : k0_chk1 i v0 v5), ∀ (k0_h1 : k0_cond1 i v0 = 1#1), ∀ a, (k0_off6 v5) a + S1x1.size a ≤ S2x2.size a := fun i v0 v5 k0_hw1 k0_h1 => k0_hw1.2.2.1 k0_h1
theorem k0_off7_inb : ∀ (i : grid0.Coords) (v0 : BitVec 32) (v5 : BitVec 32) (k0_hw1 : k0_chk1 i v0 v5), ∀ (k0_h1 : k0_cond1 i v0 = 1#1), ∀ a, (k0_off7 v5) a + S1x1024x1024.size a ≤ S2x1024x1024.size a := fun i v0 v5 k0_hw1 k0_h1 => k0_hw1.2.2.2 k0_h1

def k0_off8 (v3 : BitVec 32) : Fin 3 → Nat :=
  let c0_i32_14 : BitVec 32 := 0#32
  let c0_i32_15 : BitVec 32 := 0#32
  ![v3.toNat, 0, 0]

def k0_chk2 (i : grid0.Coords) (v0 : BitVec 32) (v3 : BitVec 32) : Prop :=
  (∀ (k0_h1 : k0_cond1 i v0 = 1#1), ∀ a, (k0_off5 v3) a + S1x1024x2048.size a ≤ S32x1024x2048.size a) ∧
  (∀ (k0_h1 : k0_cond1 i v0 = 1#1), ∀ a, (k0_off8 v3) a + S1x1024x1024.size a ≤ S32x1024x1024.size a)
theorem k0_off5_inb : ∀ (i : grid0.Coords) (v0 : BitVec 32) (v3 : BitVec 32) (k0_hw2 : k0_chk2 i v0 v3), ∀ (k0_h1 : k0_cond1 i v0 = 1#1), ∀ a, (k0_off5 v3) a + S1x1024x2048.size a ≤ S32x1024x2048.size a := fun i v0 v3 k0_hw2 k0_h1 => k0_hw2.1 k0_h1
theorem k0_off8_inb : ∀ (i : grid0.Coords) (v0 : BitVec 32) (v3 : BitVec 32) (k0_hw2 : k0_chk2 i v0 v3), ∀ (k0_h1 : k0_cond1 i v0 = 1#1), ∀ a, (k0_off8 v3) a + S1x1024x1024.size a ≤ S32x1024x1024.size a := fun i v0 v3 k0_hw2 k0_h1 => k0_hw2.2 k0_h1

def k0_off9 (v5 : BitVec 32) : Fin 2 → Nat :=
  let c0_i32_6 : BitVec 32 := 0#32
  ![v5.toNat, 0]
def k0_cond2 (i : grid0.Coords) (v0 : BitVec 32) (v3 : BitVec 32) (v10 : BitVec 32) : BitVec 1 :=
  let arg0 : BitVec 32 := BitVec.ofNat 32 (i 0).val
  let v1 : BitVec 1 := Scalar.cmpi .slt arg0 v0
  let c0_i32 : BitVec 32 := 0#32
  let v6 : BitVec 1 := Scalar.cmpi .eq arg0 c0_i32
  let v11 : BitVec 1 := Scalar.cmpi .ne v3 v10
  let v12 : BitVec 1 := Scalar.ori v6 v11
  let v13 : BitVec 1 := Scalar.andi v1 v12
  let v18 : BitVec 32 := Scalar.extui v13
  let c0_i32_3 : BitVec 32 := 0#32
  let v19 : BitVec 1 := Scalar.cmpi .ne v18 c0_i32_3
  v19

def k0_off10 (v5 : BitVec 32) : Fin 3 → Nat :=
  let c0_i32_7 : BitVec 32 := 0#32
  let c0_i32_8 : BitVec 32 := 0#32
  ![v5.toNat, 0, 0]
def k0_off11 (v3 : BitVec 32) : Fin 3 → Nat :=
  let c0_i32_9 : BitVec 32 := 0#32
  let c0_i32_10 : BitVec 32 := 0#32
  ![v3.toNat, 0, 0]
def k0_off12 (v5 : BitVec 32) : Fin 2 → Nat :=
  let c1_i32_11 : BitVec 32 := 1#32
  ![v5.toNat, 1]
def k0_off13 (v5 : BitVec 32) : Fin 3 → Nat :=
  let c0_i32_12 : BitVec 32 := 0#32
  let c0_i32_13 : BitVec 32 := 0#32
  ![v5.toNat, 0, 0]
def k0_off14 (v3 : BitVec 32) : Fin 3 → Nat :=
  let c0_i32_14 : BitVec 32 := 0#32
  let c0_i32_15 : BitVec 32 := 0#32
  ![v3.toNat, 0, 0]
def k0_off15 (i : grid0.Coords) : Fin 1 → Nat :=
  let arg0 : BitVec 32 := BitVec.ofNat 32 (i 0).val
  let v37 : Index := Scalar.indexCast arg0
  ![v37.toNat]
def k0_off16 (i : grid0.Coords) : Fin 1 → Nat :=
  let arg0 : BitVec 32 := BitVec.ofNat 32 (i 0).val
  let v56 : Index := Scalar.indexCast arg0
  ![v56.toNat]
def k0_off17 (v5 : BitVec 32) : Fin 2 → Nat :=
  let c1_i32_26 : BitVec 32 := 1#32
  let v58 : BitVec 32 := Scalar.subi c1_i32_26 v5
  let c0_i32_27 : BitVec 32 := 0#32
  ![v58.toNat, 0]
def k0_cond3 (v38 : BitVec 32) : BitVec 1 :=
  let c0_i32_16 : BitVec 32 := 0#32
  let v39 : BitVec 1 := Scalar.cmpi .sge v38 c0_i32_16
  let v40 : BitVec 32 := Scalar.extui v39
  let c0_i32_17 : BitVec 32 := 0#32
  let v41 : BitVec 1 := Scalar.cmpi .ne v40 c0_i32_17
  v41

def k0_off18 (v5 : BitVec 32) : Fin 3 → Nat :=
  let c1_i32_26 : BitVec 32 := 1#32
  let v58 : BitVec 32 := Scalar.subi c1_i32_26 v5
  let c0_i32_28 : BitVec 32 := 0#32
  let c0_i32_29 : BitVec 32 := 0#32
  ![v58.toNat, 0, 0]
def k0_off19 (v57 : BitVec 32) : Fin 3 → Nat :=
  let c0_i32_30 : BitVec 32 := 0#32
  let c0_i32_31 : BitVec 32 := 0#32
  ![v57.toNat, 0, 0]

def k0_off20 (v5 : BitVec 32) : Fin 2 → Nat :=
  let c1_i32_26 : BitVec 32 := 1#32
  let v58 : BitVec 32 := Scalar.subi c1_i32_26 v5
  let c1_i32_32 : BitVec 32 := 1#32
  ![v58.toNat, 1]
def k0_off21 (v5 : BitVec 32) : Fin 3 → Nat :=
  let c1_i32_26 : BitVec 32 := 1#32
  let v58 : BitVec 32 := Scalar.subi c1_i32_26 v5
  let c0_i32_33 : BitVec 32 := 0#32
  let c0_i32_34 : BitVec 32 := 0#32
  ![v58.toNat, 0, 0]

def k0_chk4 (i : grid0.Coords) (v0 : BitVec 32) (v3 : BitVec 32) (v5 : BitVec 32) (v10 : BitVec 32) (v38 : BitVec 32) : Prop :=
  (∀ (k0_h2 : k0_cond2 i v0 v3 v10 = 1#1), ∀ (k0_h3 : k0_cond3 v38 = 1#1), ∀ a, (k0_off17 v5) a + S1x1.size a ≤ S2x2.size a) ∧
  (∀ (k0_h2 : k0_cond2 i v0 v3 v10 = 1#1), ∀ (k0_h3 : k0_cond3 v38 = 1#1), ∀ a, (k0_off18 v5) a + S1x1024x2048.size a ≤ S2x1024x2048.size a) ∧
  (∀ (k0_h2 : k0_cond2 i v0 v3 v10 = 1#1), ∀ (k0_h3 : k0_cond3 v38 = 1#1), ∀ a, (k0_off20 v5) a + S1x1.size a ≤ S2x2.size a) ∧
  (∀ (k0_h2 : k0_cond2 i v0 v3 v10 = 1#1), ∀ (k0_h3 : k0_cond3 v38 = 1#1), ∀ a, (k0_off21 v5) a + S1x1024x1024.size a ≤ S2x1024x1024.size a)
theorem k0_off17_inb : ∀ (i : grid0.Coords) (v0 : BitVec 32) (v3 : BitVec 32) (v5 : BitVec 32) (v10 : BitVec 32) (v38 : BitVec 32) (k0_hw4 : k0_chk4 i v0 v3 v5 v10 v38), ∀ (k0_h2 : k0_cond2 i v0 v3 v10 = 1#1), ∀ (k0_h3 : k0_cond3 v38 = 1#1), ∀ a, (k0_off17 v5) a + S1x1.size a ≤ S2x2.size a := fun i v0 v3 v5 v10 v38 k0_hw4 k0_h2 k0_h3 => k0_hw4.1 k0_h2 k0_h3
theorem k0_off18_inb : ∀ (i : grid0.Coords) (v0 : BitVec 32) (v3 : BitVec 32) (v5 : BitVec 32) (v10 : BitVec 32) (v38 : BitVec 32) (k0_hw4 : k0_chk4 i v0 v3 v5 v10 v38), ∀ (k0_h2 : k0_cond2 i v0 v3 v10 = 1#1), ∀ (k0_h3 : k0_cond3 v38 = 1#1), ∀ a, (k0_off18 v5) a + S1x1024x2048.size a ≤ S2x1024x2048.size a := fun i v0 v3 v5 v10 v38 k0_hw4 k0_h2 k0_h3 => k0_hw4.2.1 k0_h2 k0_h3
theorem k0_off20_inb : ∀ (i : grid0.Coords) (v0 : BitVec 32) (v3 : BitVec 32) (v5 : BitVec 32) (v10 : BitVec 32) (v38 : BitVec 32) (k0_hw4 : k0_chk4 i v0 v3 v5 v10 v38), ∀ (k0_h2 : k0_cond2 i v0 v3 v10 = 1#1), ∀ (k0_h3 : k0_cond3 v38 = 1#1), ∀ a, (k0_off20 v5) a + S1x1.size a ≤ S2x2.size a := fun i v0 v3 v5 v10 v38 k0_hw4 k0_h2 k0_h3 => k0_hw4.2.2.1 k0_h2 k0_h3
theorem k0_off21_inb : ∀ (i : grid0.Coords) (v0 : BitVec 32) (v3 : BitVec 32) (v5 : BitVec 32) (v10 : BitVec 32) (v38 : BitVec 32) (k0_hw4 : k0_chk4 i v0 v3 v5 v10 v38), ∀ (k0_h2 : k0_cond2 i v0 v3 v10 = 1#1), ∀ (k0_h3 : k0_cond3 v38 = 1#1), ∀ a, (k0_off21 v5) a + S1x1024x1024.size a ≤ S2x1024x1024.size a := fun i v0 v3 v5 v10 v38 k0_hw4 k0_h2 k0_h3 => k0_hw4.2.2.2 k0_h2 k0_h3

def k0_off22 (v57 : BitVec 32) : Fin 3 → Nat :=
  let c0_i32_35 : BitVec 32 := 0#32
  let c0_i32_36 : BitVec 32 := 0#32
  ![v57.toNat, 0, 0]

def k0_chk5 (i : grid0.Coords) (v0 : BitVec 32) (v3 : BitVec 32) (v10 : BitVec 32) (v38 : BitVec 32) (v57 : BitVec 32) : Prop :=
  (∀ (k0_h2 : k0_cond2 i v0 v3 v10 = 1#1), ∀ (k0_h3 : k0_cond3 v38 = 1#1), ∀ a, (k0_off19 v57) a + S1x1024x2048.size a ≤ S32x1024x2048.size a) ∧
  (∀ (k0_h2 : k0_cond2 i v0 v3 v10 = 1#1), ∀ (k0_h3 : k0_cond3 v38 = 1#1), ∀ a, (k0_off22 v57) a + S1x1024x1024.size a ≤ S32x1024x1024.size a)
theorem k0_off19_inb : ∀ (i : grid0.Coords) (v0 : BitVec 32) (v3 : BitVec 32) (v10 : BitVec 32) (v38 : BitVec 32) (v57 : BitVec 32) (k0_hw5 : k0_chk5 i v0 v3 v10 v38 v57), ∀ (k0_h2 : k0_cond2 i v0 v3 v10 = 1#1), ∀ (k0_h3 : k0_cond3 v38 = 1#1), ∀ a, (k0_off19 v57) a + S1x1024x2048.size a ≤ S32x1024x2048.size a := fun i v0 v3 v10 v38 v57 k0_hw5 k0_h2 k0_h3 => k0_hw5.1 k0_h2 k0_h3
theorem k0_off22_inb : ∀ (i : grid0.Coords) (v0 : BitVec 32) (v3 : BitVec 32) (v10 : BitVec 32) (v38 : BitVec 32) (v57 : BitVec 32) (k0_hw5 : k0_chk5 i v0 v3 v10 v38 v57), ∀ (k0_h2 : k0_cond2 i v0 v3 v10 = 1#1), ∀ (k0_h3 : k0_cond3 v38 = 1#1), ∀ a, (k0_off22 v57) a + S1x1024x1024.size a ≤ S32x1024x1024.size a := fun i v0 v3 v10 v38 v57 k0_hw5 k0_h2 k0_h3 => k0_hw5.2 k0_h2 k0_h3

def k0_off23 (v5 : BitVec 32) : Fin 3 → Nat :=
  let v42 : Index := Scalar.indexCast v5
  let c0_18 : Index := 0#32
  let c0_19 : Index := 0#32
  ![v42.toNat, 0, 0]
def k0_off24 (v5 : BitVec 32) : Fin 3 → Nat :=
  let v49 : Index := Scalar.indexCast v5
  let c0_22 : Index := 0#32
  let c0_23 : Index := 0#32
  ![v49.toNat, 0, 0]

def k0_chk3 (i : grid0.Coords) (v0 : BitVec 32) (v3 : BitVec 32) (v5 : BitVec 32) (v10 : BitVec 32) : Prop :=
  (∀ (k0_h2 : k0_cond2 i v0 v3 v10 = 1#1), ∀ a, (k0_off9 v5) a + S1x1.size a ≤ S2x2.size a) ∧
  (∀ (k0_h2 : k0_cond2 i v0 v3 v10 = 1#1), ∀ a, (k0_off10 v5) a + S1x1024x2048.size a ≤ S2x1024x2048.size a) ∧
  (∀ (k0_h2 : k0_cond2 i v0 v3 v10 = 1#1), ∀ a, (k0_off11 v3) a + S1x1024x2048.size a ≤ S32x1024x2048.size a) ∧
  (∀ (k0_h2 : k0_cond2 i v0 v3 v10 = 1#1), ∀ a, (k0_off12 v5) a + S1x1.size a ≤ S2x2.size a) ∧
  (∀ (k0_h2 : k0_cond2 i v0 v3 v10 = 1#1), ∀ a, (k0_off13 v5) a + S1x1024x1024.size a ≤ S2x1024x1024.size a) ∧
  (∀ (k0_h2 : k0_cond2 i v0 v3 v10 = 1#1), ∀ a, (k0_off14 v3) a + S1x1024x1024.size a ≤ S32x1024x1024.size a) ∧
  (∀ (k0_h2 : k0_cond2 i v0 v3 v10 = 1#1), ∀ a, (k0_off23 v5) a + S1x1024x2048.size a ≤ S2x1024x2048.size a) ∧
  (∀ (k0_h2 : k0_cond2 i v0 v3 v10 = 1#1), ∀ a, (k0_off24 v5) a + S1x1024x1024.size a ≤ S2x1024x1024.size a)
theorem k0_off9_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off9 v5) a + S1x1.size a ≤ S2x2.size a := fun i v0 v3 v5 v10 k0_hw3 k0_h2 => k0_hw3.1 k0_h2
theorem k0_off10_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off10 v5) a + S1x1024x2048.size a ≤ S2x1024x2048.size a := fun i v0 v3 v5 v10 k0_hw3 k0_h2 => k0_hw3.2.1 k0_h2
theorem k0_off11_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off11 v3) a + S1x1024x2048.size a ≤ S32x1024x2048.size a := fun i v0 v3 v5 v10 k0_hw3 k0_h2 => k0_hw3.2.2.1 k0_h2
theorem k0_off12_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off12 v5) a + S1x1.size a ≤ S2x2.size a := fun i v0 v3 v5 v10 k0_hw3 k0_h2 => k0_hw3.2.2.2.1 k0_h2
theorem k0_off13_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off13 v5) a + S1x1024x1024.size a ≤ S2x1024x1024.size a := fun i v0 v3 v5 v10 k0_hw3 k0_h2 => k0_hw3.2.2.2.2.1 k0_h2
theorem k0_off14_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off14 v3) a + S1x1024x1024.size a ≤ S32x1024x1024.size a := fun i v0 v3 v5 v10 k0_hw3 k0_h2 => k0_hw3.2.2.2.2.2.1 k0_h2
theorem k0_off23_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off23 v5) a + S1x1024x2048.size a ≤ S2x1024x2048.size a := fun i v0 v3 v5 v10 k0_hw3 k0_h2 => k0_hw3.2.2.2.2.2.2.1 k0_h2
theorem k0_off24_inb : ∀ (i : grid0.Coords) (v0 : BitVec 32) (v3 : BitVec 32) (v5 : BitVec 32) (v10 : BitVec 32) (k0_hw3 : k0_chk3 i v0 v3 v5 v10), ∀ (k0_h2 : k0_cond2 i v0 v3 v10 = 1#1), ∀ a, (k0_off24 v5) a + S1x1024x1024.size a ≤ S2x1024x1024.size a := fun i v0 v3 v5 v10 k0_hw3 k0_h2 => k0_hw3.2.2.2.2.2.2.2 k0_h2

def k0_cond4 (i : grid0.Coords) (v0 : BitVec 32) : BitVec 1 :=
  let arg0 : BitVec 32 := BitVec.ofNat 32 (i 0).val
  let v1 : BitVec 1 := Scalar.cmpi .slt arg0 v0
  let v20 : BitVec 32 := Scalar.extui v1
  let c0_i32_4 : BitVec 32 := 0#32
  let v21 : BitVec 1 := Scalar.cmpi .ne v20 c0_i32_4
  v21

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v22 : BitVec 1 := Scalar.xori v1 v_true
  let v23 : BitVec 32 := Scalar.extui v22
  let c0_i32_5 : BitVec 32 := 0#32
  let v24 : BitVec 1 := Scalar.cmpi .ne v23 c0_i32_5
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S160x512x1024 : Shape := ⟨3, ![160, 512, 1024]⟩
abbrev S_ : Shape := ⟨0, ![]⟩
abbrev S160x1 : Shape := ⟨2, ![160, 1]⟩
abbrev S160x3 : Shape := ⟨2, ![160, 3]⟩
abbrev S160x1x1024x2048 : Shape := ⟨4, ![160, 1, 1024, 2048]⟩
abbrev S160x1024x2048 : Shape := ⟨3, ![160, 1024, 2048]⟩
abbrev S160x512x2048 : Shape := ⟨3, ![160, 512, 2048]⟩
abbrev S160x2 : Shape := ⟨2, ![160, 2]⟩
abbrev S160x1x2048 : Shape := ⟨3, ![160, 1, 2048]⟩
abbrev S160x2048 : Shape := ⟨2, ![160, 2048]⟩
abbrev S160x1x1024x1024 : Shape := ⟨4, ![160, 1, 1024, 1024]⟩
abbrev S160x1024x1024 : Shape := ⟨3, ![160, 1024, 1024]⟩
abbrev S160x1x1024 : Shape := ⟨3, ![160, 1, 1024]⟩
abbrev S160x1024 : Shape := ⟨2, ![160, 1024]⟩
abbrev S160x1x1 : Shape := ⟨3, ![160, 1, 1]⟩
abbrev S655360x128 : Shape := ⟨2, ![655360, 128]⟩

abbrev nBuf : Space → Nat
  | .hbm => 155
  | .vmem => 0
  | .smem => 0
  | _ => 0

abbrev hbmTy0_0 (i : Nat) : BufTy := match i % 128 with
  | 0 => ⟨S160, .i32⟩
  | 1 => ⟨S1, .i32⟩
  | 2 => ⟨S160, .i32⟩
  | 3 => ⟨S160, .i32⟩
  | 4 => ⟨S81920x1024, .f32⟩
  | 5 => ⟨S32x1024x2048, .f32⟩
  | 6 => ⟨S32x2048, .f32⟩
  | 7 => ⟨S32x1024x1024, .f32⟩
  | 8 => ⟨S32x1024, .f32⟩
  | 9 => ⟨S160x512x1024, .f32⟩
  | 10 => ⟨S_, .i32⟩
  | 11 => ⟨S160, .i32⟩
  | 12 => ⟨S160, .i1⟩
  | 13 => ⟨S_, .i32⟩
  | 14 => ⟨S160, .i32⟩
  | 15 => ⟨S160, .i32⟩
  | 16 => ⟨S160, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S160x1, .i32⟩
  | 34 => ⟨S160x1, .i32⟩
  | 35 => ⟨S160x1, .i32⟩
  | 36 => ⟨S160x3, .i32⟩
  | 37 => ⟨S160x1x1024x2048, .f32⟩
  | 38 => ⟨S160x1024x2048, .f32⟩
  | 39 => ⟨S160x512x2048, .f32⟩
  | 40 => ⟨S_, .i32⟩
  | 41 => ⟨S160, .i32⟩
  | 42 => ⟨S160, .i1⟩
  | 43 => ⟨S_, .i32⟩
  | 44 => ⟨S160, .i32⟩
  | 45 => ⟨S160, .i32⟩
  | 46 => ⟨S160, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S160x1, .i32⟩
  | 56 => ⟨S160x1, .i32⟩
  | 57 => ⟨S160x2, .i32⟩
  | 58 => ⟨S160x1x2048, .f32⟩
  | 59 => ⟨S160x2048, .f32⟩
  | 60 => ⟨S160x1x2048, .f32⟩
  | 61 => ⟨S160x512x2048, .f32⟩
  | 62 => ⟨S160x512x2048, .f32⟩
  | 63 => ⟨S160x512x1024, .f32⟩
  | 64 => ⟨S160x512x1024, .f32⟩
  | 65 => ⟨S_, .f32⟩
  | 66 => ⟨S160x512x1024, .f32⟩
  | 67 => ⟨S160x512x1024, .f32⟩
  | 68 => ⟨S_, .f32⟩
  | 69 => ⟨S_, .f32⟩
  | 70 => ⟨S_, .f32⟩
  | 71 => ⟨S160x512x1024, .f32⟩
  | 72 => ⟨S160x512x1024, .f32⟩
  | 73 => ⟨S_, .f32⟩
  | 74 => ⟨S160x512x1024, .f32⟩
  | 75 => ⟨S160x512x1024, .f32⟩
  | 76 => ⟨S_, .f32⟩
  | 77 => ⟨S160x512x1024, .f32⟩
  | 78 => ⟨S160x512x1024, .f32⟩
  | 79 => ⟨S160x512x1024, .f32⟩
  | 80 => ⟨S160x512x1024, .f32⟩
  | 81 => ⟨S_, .f32⟩
  | 82 => ⟨S160x512x1024, .f32⟩
  | 83 => ⟨S160x512x1024, .f32⟩
  | 84 => ⟨S_, .f32⟩
  | 85 => ⟨S160x512x1024, .f32⟩
  | 86 => ⟨S160x512x1024, .f32⟩
  | 87 => ⟨S160x512x1024, .f32⟩
  | 88 => ⟨S_, .f32⟩
  | 89 => ⟨S160x512x1024, .f32⟩
  | 90 => ⟨S160x512x1024, .f32⟩
  | 91 => ⟨S160x512x1024, .f32⟩
  | 92 => ⟨S_, .i32⟩
  | 93 => ⟨S160, .i32⟩
  | 94 => ⟨S160, .i1⟩
  | 95 => ⟨S_, .i32⟩
  | 96 => ⟨S160, .i32⟩
  | 97 => ⟨S160, .i32⟩
  | 98 => ⟨S160, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S160x1, .i32⟩
  | 116 => ⟨S160x1, .i32⟩
  | 117 => ⟨S160x1, .i32⟩
  | 118 => ⟨S160x3, .i32⟩
  | 119 => ⟨S160x1x1024x1024, .f32⟩
  | 120 => ⟨S160x1024x1024, .f32⟩
  | 121 => ⟨S160x512x1024, .f32⟩
  | 122 => ⟨S_, .i32⟩
  | 123 => ⟨S160, .i32⟩
  | 124 => ⟨S160, .i1⟩
  | 125 => ⟨S_, .i32⟩
  | 126 => ⟨S160, .i32⟩
  | 127 => ⟨S160, .i32⟩
  | _ => ⟨S160, .i32⟩

abbrev hbmTy0_1 (i : Nat) : BufTy := match i % 128 with
  | 0 => ⟨S160, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S160x1, .i32⟩
  | 10 => ⟨S160x1, .i32⟩
  | 11 => ⟨S160x2, .i32⟩
  | 12 => ⟨S160x1x1024, .f32⟩
  | 13 => ⟨S160x1024, .f32⟩
  | 14 => ⟨S160x1x1024, .f32⟩
  | 15 => ⟨S160x512x1024, .f32⟩
  | 16 => ⟨S160x512x1024, .f32⟩
  | 17 => ⟨S160, .i32⟩
  | 18 => ⟨S160, .i32⟩
  | 19 => ⟨S160, .i1⟩
  | 20 => ⟨S160x1x1, .i1⟩
  | 21 => ⟨S_, .f32⟩
  | 22 => ⟨S_, .f32⟩
  | 23 => ⟨S160x512x1024, .i1⟩
  | 24 => ⟨S160x512x1024, .f32⟩
  | 25 => ⟨S160x512x1024, .f32⟩
  | 26 => ⟨S655360x128, .f32⟩
  | _ => ⟨S160, .i32⟩

abbrev hbmTy (i : Nat) : BufTy := match i / 128 with
  | 0 => hbmTy0_0 i
  | 1 => hbmTy0_1 i
  | _ => ⟨S160, .i32⟩

abbrev bufTy : (tb : Table) → Fin (tcTables nBuf tb) → BufTy
  | .hbm, ⟨i, _⟩ => hbmTy i
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_c_2 : Ref sig .tc := ⟨.hbm, 18, rfl⟩
abbrev main_v6 : Ref sig .tc := ⟨.hbm, 19, rfl⟩
abbrev main_c_3 : Ref sig .tc := ⟨.hbm, 20, rfl⟩
abbrev main_c_4 : Ref sig .tc := ⟨.hbm, 21, rfl⟩
abbrev main_v7 : Ref sig .tc := ⟨.hbm, 22, rfl⟩
abbrev main_c_5 : Ref sig .tc := ⟨.hbm, 23, rfl⟩
abbrev main_v8 : Ref sig .tc := ⟨.hbm, 24, rfl⟩
abbrev main_c_6 : Ref sig .tc := ⟨.hbm, 25, rfl⟩
abbrev main_c_7 : Ref sig .tc := ⟨.hbm, 26, rfl⟩
abbrev main_v9 : Ref sig .tc := ⟨.hbm, 27, rfl⟩
abbrev main_c_8 : Ref sig .tc := ⟨.hbm, 28, rfl⟩
abbrev main_c_9 : Ref sig .tc := ⟨.hbm, 29, rfl⟩
abbrev main_v10 : Ref sig .tc := ⟨.hbm, 30, rfl⟩
abbrev main_c_10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_11 : Ref sig .tc := ⟨.hbm, 40, rfl⟩
abbrev main_v19 : Ref sig .tc := ⟨.hbm, 41, rfl⟩
abbrev main_v20 : Ref sig .tc := ⟨.hbm, 42, rfl⟩
abbrev main_c_12 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_13 : Ref sig .tc := ⟨.hbm, 47, rfl⟩
abbrev main_c_14 : Ref sig .tc := ⟨.hbm, 48, rfl⟩
abbrev main_v24 : Ref sig .tc := ⟨.hbm, 49, rfl⟩
abbrev main_c_15 : Ref sig .tc := ⟨.hbm, 50, rfl⟩
abbrev main_c_16 : Ref sig .tc := ⟨.hbm, 51, rfl⟩
abbrev main_v25 : Ref sig .tc := ⟨.hbm, 52, rfl⟩
abbrev main_c_17 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst : Ref sig .tc := ⟨.hbm, 65, rfl⟩
abbrev main_v37 : Ref sig .tc := ⟨.hbm, 66, rfl⟩
abbrev main_v38 : Ref sig .tc := ⟨.hbm, 67, rfl⟩
abbrev main_cst_18 : Ref sig .tc := ⟨.hbm, 68, rfl⟩
abbrev main_cst_19 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v39 : Ref sig .tc := ⟨.hbm, 75, rfl⟩
abbrev main_cst_20 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_21 : Ref sig .tc := ⟨.hbm, 81, rfl⟩
abbrev main_v44 : Ref sig .tc := ⟨.hbm, 82, rfl⟩
abbrev main_v45 : Ref sig .tc := ⟨.hbm, 83, rfl⟩
abbrev main_cst_22 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_23 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_24 : Ref sig .tc := ⟨.hbm, 92, rfl⟩
abbrev main_v52 : Ref sig .tc := ⟨.hbm, 93, rfl⟩
abbrev main_v53 : Ref sig .tc := ⟨.hbm, 94, rfl⟩
abbrev main_c_25 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_26 : Ref sig .tc := ⟨.hbm, 99, rfl⟩
abbrev main_c_27 : Ref sig .tc := ⟨.hbm, 100, rfl⟩
abbrev main_v57 : Ref sig .tc := ⟨.hbm, 101, rfl⟩
abbrev main_c_28 : Ref sig .tc := ⟨.hbm, 102, rfl⟩
abbrev main_c_29 : Ref sig .tc := ⟨.hbm, 103, rfl⟩
abbrev main_v58 : Ref sig .tc := ⟨.hbm, 104, rfl⟩
abbrev main_c_30 : Ref sig .tc := ⟨.hbm, 105, rfl⟩
abbrev main_v59 : Ref sig .tc := ⟨.hbm, 106, rfl⟩
abbrev main_c_31 : Ref sig .tc := ⟨.hbm, 107, rfl⟩
abbrev main_c_32 : Ref sig .tc := ⟨.hbm, 108, rfl⟩
abbrev main_v60 : Ref sig .tc := ⟨.hbm, 109, rfl⟩
abbrev main_c_33 : Ref sig .tc := ⟨.hbm, 110, rfl⟩
abbrev main_c_34 : Ref sig .tc := ⟨.hbm, 111, rfl⟩
abbrev main_v61 : Ref sig .tc := ⟨.hbm, 112, rfl⟩
abbrev main_c_35 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_36 : Ref sig .tc := ⟨.hbm, 122, rfl⟩
abbrev main_v70 : Ref sig .tc := ⟨.hbm, 123, rfl⟩
abbrev main_v71 : Ref sig .tc := ⟨.hbm, 124, rfl⟩
abbrev main_c_37 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_38 : Ref sig .tc := ⟨.hbm, 129, rfl⟩
abbrev main_c_39 : Ref sig .tc := ⟨.hbm, 130, rfl⟩
abbrev main_v75 : Ref sig .tc := ⟨.hbm, 131, rfl⟩
abbrev main_c_40 : Ref sig .tc := ⟨.hbm, 132, rfl⟩
abbrev main_c_41 : Ref sig .tc := ⟨.hbm, 133, rfl⟩
abbrev main_v76 : Ref sig .tc := ⟨.hbm, 134, rfl⟩
abbrev main_c_42 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_43 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v90 : Ref sig .tc := ⟨.hbm, 153, rfl⟩
abbrev main_v91 : Ref sig .tc := ⟨.hbm, 154, rfl⟩

abbrev nD : Nat := 1
abbrev τ : Topo := Topo.v7x

variable {F : FTy → Type} [FloatOps F]
-- ==== Proof.Race.lean ====
/-
  Many copies in flight on one semaphore whose destinations may overlap, or are not known apart: every copy that writes an
  element writes there the value the element is to end with. The destination is held in write mode, one share of it going
  with each copy; the source is read by every copy, one share each as well.
-/
module

public import Idealize.ShloMosaic.Lib.Batch
public import Idealize.ShloMosaic.Lib.WriteMode

@[expose] public section

noncomputable section

namespace Cert.Proof.Race

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open PCS URA Auth

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable (EC : UEmb Counters (MT nD τ sig Ix Val Name U Lvl)) (emb : UEmb (WmRA nD τ sig Val) U)

section Def

variable {sℓ dℓ : Loc nD τ sig} (fs : Buf Val sℓ) (f0 g : Buf Val dℓ) (Wt : ℕ → Finset (Idx dℓ))

/-- What copy `t` brings back: its share of the source, and its share of the destination with the elements it wrote
    marked. -/
def arrival (t : ℕ) : sProp 𝕄 :=
  iprop((sℓ ↦[Finset.univ]{shareTokN fullShare t} fs)
    ∗ willBeTo emb dℓ Finset.univ (shareTokN fullShare t) f0 (fun i => some (g i)) (Wt t))

instance arrival_storable (t : ℕ) :
    Storable (upEmb : UEmb _ 𝕄) (arrival (Ix := Ix) (Name := Name) (Lvl := Lvl) emb fs f0 g Wt t) := by
  unfold arrival; infer_instance

/-- With `j` of `n` copies issued and `u` units waited for: the shares not lent, and the batch. -/
def racing (c : Thread nD τ) (sm : SemLoc sig) (ι : Ix) (N n j u : ℕ) : sProp 𝕄 :=
  iprop((sℓ ↦[Finset.univ]{shareDrop fullShare j} fs)
    ∗ willBeTo emb dℓ Finset.univ (shareDrop fullShare j) f0 (fun i => some (g i)) ∅
    ∗ Batch EC c sm ι N (fun t : Fin n => arrival emb fs f0 g Wt t.val) j u)

/-- The elements the first `k` copies write. -/
def wrote : ℕ → Finset (Idx dℓ)
  | 0 => ∅
  | k + 1 => wrote k ∪ Wt k

omit [Preorder Lvl] in
theorem mem_wrote {k : ℕ} {i : Idx dℓ} : i ∈ wrote Wt k ↔ ∃ t, t < k ∧ i ∈ Wt t := by
  induction k with
  | zero => simp [wrote]
  | succ k ih =>
    simp only [wrote, Finset.mem_union, ih]
    constructor
    · rintro (⟨t, ht, h⟩ | h)
      · exact ⟨t, by omega, h⟩
      · exact ⟨k, by omega, h⟩
    · rintro ⟨t, ht, h⟩
      rcases Nat.lt_succ_iff_lt_or_eq.mp ht with h' | rfl
      · exact .inl ⟨t, h', h⟩
      · exact .inr h

variable {ιwm : Name}

/-- Entering: both arrays held whole, the counter at zero. -/
theorem race_start [Infinite Name] [EC.LandsIn (upEmb : UEmb _ 𝕄)] (c : Thread nD τ) (sm : SemLoc sig) (ι : Ix) (N n : ℕ) :
    iprop(wmInv emb ιwm ∗ (sℓ ↦[Finset.univ]{fullShare} fs) ∗ (dℓ ↦[Finset.univ]{fullShare} f0) ∗ semVal (c, sm) 0)
      ⊢ (|={Set.univ}=> racing EC emb fs f0 g Wt c sm ι N n 0 0 : sProp 𝕄) := by
  unfold racing
  iintro ⟨#Hwm, Hs, Hd, Hv⟩
  imod (batch_alloc' EC c ι N (fun t : Fin n => arrival emb fs f0 g Wt t.val)) $$ Hv with HB
  imod (pointsTo_castIn (emb := emb) (ιwm := ιwm) (fun i => some (g i))) $$ [Hd] with Hd
  · isplitr; · iexact Hwm
    iexact Hd
  imodintro
  isplitl [Hs]; · iexact Hs
  isplitl [Hd]; · iexact Hd
  iexact HB

/-- The shares of the first `k` copies, put back together. -/
theorem gather_back (k : ℕ) :
    iprop((sℓ ↦[Finset.univ]{shareDrop fullShare k} fs)
        ∗ willBeTo emb dℓ Finset.univ (shareDrop fullShare k) f0 (fun i => some (g i)) ∅
        ∗ bigSep (Finset.range k) (fun t => arrival emb fs f0 g Wt t))
      ⊢ (iprop((sℓ ↦[Finset.univ]{fullShare} fs)
        ∗ willBeTo emb dℓ Finset.univ fullShare f0 (fun i => some (g i)) (wrote Wt k)) : sProp 𝕄) := by
  suffices H : ∀ W, iprop((sℓ ↦[Finset.univ]{shareDrop fullShare k} fs)
        ∗ willBeTo emb dℓ Finset.univ (shareDrop fullShare k) f0 (fun i => some (g i)) W
        ∗ bigSep (Finset.range k) (fun t => arrival emb fs f0 g Wt t))
      ⊢ (iprop((sℓ ↦[Finset.univ]{fullShare} fs)
        ∗ willBeTo emb dℓ Finset.univ fullShare f0 (fun i => some (g i)) (wrote Wt k ∪ W)) : sProp 𝕄) by
    have := H ∅; rwa [Finset.union_empty] at this
  induction k with
  | zero =>
    intro W
    rw [Finset.range_zero, bigSep_empty]
    iintro ⟨Hs, Hd, -⟩
    isplitl [Hs]; · iexact Hs
    rw [show wrote Wt 0 ∪ W = W from Finset.empty_union _]
    iexact Hd
  | succ k ih =>
    intro W
    have hb : bigSep (Finset.range (k + 1)) (fun t => (arrival emb fs f0 g Wt t : sProp 𝕄))
        = iprop(arrival emb fs f0 g Wt k ∗ bigSep (Finset.range k) (fun t => arrival emb fs f0 g Wt t)) := by
      rw [Finset.range_add_one, bigSep_insert Finset.notMem_range_self]; rfl
    rw [hb]
    have hq : shareDrop fullShare k ∈ shareDrop fullShare (k + 1) ·? shareTokN fullShare k := PosShare.mem_left_op_right _
    have := ih (W ∪ Wt k)
    rw [show wrote Wt k ∪ (W ∪ Wt k) = wrote Wt (k + 1) ∪ W by
      simp only [wrote]; rw [Finset.union_assoc, Finset.union_comm W]] at this
    refine BIBase.Entails.trans ?_ this
    iintro ⟨Hs, Hd, Ha, Hr⟩
    unfold arrival
    icases Ha with ⟨Hs', Hd'⟩
    isplitl [Hs Hs']
    · iapply (pointsTo_share hq).2
      isplitl [Hs] <;> iassumption
    isplitl [Hd Hd']
    · iapply (show iprop(willBeTo emb dℓ Finset.univ (shareDrop fullShare k).left f0 (fun i => some (g i)) W
          ∗ willBeTo emb dℓ Finset.univ (shareDrop fullShare k).right f0 (fun i => some (g i)) (Wt k))
          ⊢ (willBeTo emb dℓ Finset.univ (shareDrop fullShare k) f0 (fun i => some (g i)) (W ∪ Wt k) : sProp 𝕄) from by
        iintro ⟨H, H'⟩
        icombine H H' as H
        iexact H)
      isplitl [Hd]; · iexact Hd
      iexact Hd'
    iexact Hr

/-- Leaving, every copy issued and waited for: the source as it was, the destination with every element some copy
    writes at its end value, the counter back at zero. -/
theorem race_end [EC.LandsIn (upEmb : UEmb _ 𝕄)] {c : Thread nD τ} {sm : SemLoc sig} {ι : Ix} {N n : ℕ} (hN : 0 < N) :
    iprop(wmInv emb ιwm ∗ racing EC emb fs f0 g Wt c sm ι N n n (N * n))
      ⊢ (|={Set.univ}=> iprop((sℓ ↦[Finset.univ]{fullShare} fs)
          ∗ (dℓ ↦[Finset.univ]{fullShare} (wrote Wt n).piecewise g f0) ∗ semVal (c, sm) 0) : sProp 𝕄) := by
  unfold racing
  iintro ⟨#Hwm, Hs, Hd, HB⟩
  imod (batch_collect' EC c hN) $$ HB with ⟨HD, Hv⟩
  ihave HD' := (show bigSep Finset.univ (fun t : Fin n => arrival emb fs f0 g Wt t.val)
      ⊢ (bigSep (Finset.range n) (fun t => arrival emb fs f0 g Wt t) : sProp 𝕄) from
    Entails.of_eq (by
      rw [show Finset.range n = Finset.univ.map (Fin.valEmbedding (n := n)) from (Fin.map_valEmbedding_univ.trans (Nat.Iio_eq_range n)).symm, bigSep_map]
      rfl)) $$ HD
  ihave H := (gather_back (Ix := Ix) (Name := Name) (Lvl := Lvl) emb fs f0 g Wt n) $$ [Hs Hd HD']
  · isplitl [Hs]; · iexact Hs
    isplitl [Hd] <;> iassumption
  icases H with ⟨Hs, Hd⟩
  imod (willBeTo_castOut_some (emb := emb) (ιwm := ιwm)) $$ [Hd] with Hd
  · isplitr; · iexact Hwm
    iexact Hd
  imodintro
  isplitl [Hs]; · iexact Hs
  isplitl [Hd] <;> iassumption

end Def

variable {defs : Defs nD τ sig Val Λ} (𝒱 : Variants) (c : Thread nD τ) (bd : Option 𝒱.V)
variable {ιwm : Name} {α : Type} {Q : α → sProp (MT nD τ sig Ix Val Name U Lvl)}

/-- Issuing the next copy: what it writes is what the end contents have there. -/
theorem wp_race [Infinite Name] [EC.LandsIn (upEmb : UEmb _ 𝕄)] {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {fs : Buf Val (src.view.loc c)}
    {f0 g : Buf Val (dst.view.loc c)} {Wt : ℕ → Finset (Idx (dst.view.loc c))}
    {ι : Ix} {N n j u : ℕ} (hN : dst.view.amount sm = N) (hj : j < n) (hu : u ≤ j * N)
    (hW : dst.view.set = Wt j)
    (hadm : dst.view.Admitted Val (fun i => some (g i)) (src.view.read Val fs) Finset.univ) :
    iprop(wmInv emb ιwm ∗ racing EC emb fs f0 g Wt c sm ι N n j u)
      ⊢ iprop((racing EC emb fs f0 g Wt c sm ι N n (j + 1) u -∗ wp frame (wpE defs 𝒱 c bd) Set.univ (k ⟨⟩) Q)
          -∗ wp frame (wpE defs 𝒱 c bd) Set.univ (.op (.enqueueDma src (.here dst) sm hsrc hdst hsem) k) Q) := by
  unfold racing Batch
  iintro ⟨#Hwm, Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  have hq : shareDrop fullShare j ∈ shareDrop fullShare (j + 1) ·? shareTokN fullShare j := PosShare.mem_left_op_right _
  ihave Hs := (pointsTo_share hq).1 $$ Hs
  icases Hs with ⟨Hs, Hst⟩
  ihave Hst := (pointsTo_split_subset (Finset.subset_univ src.view.set)).1 $$ Hst
  icases Hst with ⟨Hsv, Hsc⟩
  ihave Hd := (show (willBeTo emb (dst.view.loc c) Finset.univ (shareDrop fullShare j) f0 (fun i => some (g i)) ∅ : sProp 𝕄)
      ⊢ iprop(willBeTo emb (dst.view.loc c) Finset.univ (shareDrop fullShare (j + 1)) f0 (fun i => some (g i)) ∅
        ∗ willBeTo emb (dst.view.loc c) Finset.univ (shareTokN fullShare j) f0 (fun i => some (g i)) ∅) from by
    show _ ⊢ iprop(willBeTo emb (dst.view.loc c) Finset.univ (shareDrop fullShare j).left f0 (fun i => some (g i)) ∅
        ∗ willBeTo emb (dst.view.loc c) Finset.univ (shareDrop fullShare j).right f0 (fun i => some (g i)) ∅)
    iintro H
    icases H with ⟨H1, H2⟩
    isplitl [H1] <;> iassumption) $$ Hd
  icases Hd with ⟨Hd, Hdt⟩
  iapply (wp_enqueueDma 𝒱 c bd Set.univ ι N hN (R := willBeTo emb (dst.view.loc c) Finset.univ (shareTokN fullShare j) f0 (fun i => some (g i)) (∅ ∪ dst.view.set))) $$ [Hsv Hdt] [Ht Hsc]
  · isplitl [Hsv]; · iexact Hsv
    iapply (willBeTo_writeUpdate (emb := emb) (ιwm := ιwm) c (Finset.subset_univ _) hadm)
    isplitr; · iexact Hwm
    iexact Hdt
  · iapply (batch_creditUpdate_with EC ⟨j, hj⟩ (D := fun t : Fin n => arrival emb fs f0 g Wt t.val)
      (put := src.view.loc c ↦[Finset.univ \ src.view.set]{shareTokN fullShare j} fs) (by
        unfold arrival
        rw [Finset.empty_union, hW]
        iintro ⟨Hc, Hd, Hs⟩
        isplitl [Hc Hs]
        · iapply (pointsTo_split_subset (Finset.subset_univ src.view.set)).2
          isplitl [Hs] <;> iassumption
        iexact Hd))
    isplitr; · iexact Hinv
    isplitl [Ht] <;> iassumption
  iintro Hcred'
  iapply Hk
  isplitl [Hs]; · iexact Hs
  isplitl [Hd]; · iexact Hd
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-- A wait for `q` copies' worth of units. -/
theorem wp_raceWait [EC.LandsIn (upEmb : UEmb _ 𝕄)] {sp sp' : Space} {s s' : Shape} {e e' : EltTy} {sem : DmaSem sig}
    {srcw : Memref sig c.2.kind sp' s' e'} {dstw : Memref sig c.2.kind sp s e} {hsrc : srcw.view.WordExact} {hdst : dstw.view.WordExact}
    {k : PUnit → Prog (TpuEff nD τ sig Val Λ c.2) α} {sℓ dℓ : Loc nD τ sig} {fs : Buf Val sℓ} {f0 g : Buf Val dℓ} {Wt : ℕ → Finset (Idx dℓ)}
    {ι : Ix} {N : ℕ} (q : ℕ) (hJ : dstw.view.dmaCredit = q * N)
    {n j u : ℕ} (hu : u + q * N ≤ N * j) {W : Waits sig Ix} :
    iprop(racing EC emb fs f0 g Wt c (.dma sem) ι N n j u ∗ owes c 0 W)
      ⊢ iprop((iprop(racing EC emb fs f0 g Wt c (.dma sem) ι N n j (u + q * N) ∗ owes c 0 (insert (SemLoc.dma sem, ι) W))
            -∗ wp frame (wpE defs 𝒱 c bd) Set.univ (k ⟨⟩) Q)
          -∗ wp frame (wpE defs 𝒱 c bd) Set.univ (.op (.waitDma2 sem srcw dstw hsrc hdst) k) Q) := by
  unfold racing
  iintro ⟨⟨Hs, Hd, HB⟩, HO⟩ Hk
  iapply (wp_waitBatchMul EC 𝒱 c bd ι q hJ hu) $$ [HB HO]
  · isplitl [HB] <;> iassumption
  iintro ⟨HB, HO⟩
  iapply Hk
  isplitr [HO]; swap; · iexact HO
  isplitl [Hs]; · iexact Hs
  isplitl [Hd] <;> iassumption

end Cert.Proof.Race

end
-- ==== Proof.Body.lean ====
/-
  The dispatch kernel's body at one grid point. Its first phase (at point 0) clears 4096-row blocks of the result, its
  second sends each of the tile's 4096 pieces of 8 rows to the rows its word names. Both phases are races (Race.lean):
  their copies may overlap, but each element is written one value.
-/
module

public import proofs.«01_k».proof.Proof.Race
public import proofs.«01_k».proof.Proof.Gen.KernelIdeal.Loops
public import Idealize.ShloMosaic.Lib.Pointwise.Index
public import Idealize.ShloMosaic.Lib.LoopRemainder

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra beside the machine's: the launch's rounds, the write-mode shares, the counters of the copies. -/
abbrev UU (F : FTy → Type) := UR sig nD τ × (WmRA nD τ sig (Elt F) × Counters)

local notation "𝕄" => MT nD τ sig Unit (Elt F) ℕ (UU F) ℕ

/-- The counters' place in it. -/
abbrev EC : UEmb Counters 𝕄 := (((UEmb.inr : UEmb Counters (WmRA nD τ sig (Elt F) × Counters)).trans UEmb.inr).trans uEmb)

/-- The write-mode shares' place in it. -/
abbrev EW : UEmb (WmRA nD τ sig (Elt F)) (UU F) := ((UEmb.inl : UEmb (WmRA nD τ sig (Elt F)) (WmRA nD τ sig (Elt F) × Counters)).trans UEmb.inr)

/-! ## Rows of the result -/

/-- The elements of the result in `len` rows from row `b`. -/
def rowSet (b len : ℕ) : Finset S655360x128.Idx := Finset.univ.filter fun i => b ≤ (i 0).val ∧ (i 0).val < b + len

theorem mem_rowSet {b len : ℕ} {i : S655360x128.Idx} : i ∈ rowSet b len ↔ b ≤ (i 0).val ∧ (i 0).val < b + len := by
  simp [rowSet]

/-- The elements under a slice of the result that takes whole rows. -/
theorem set_rows {off : Fin 2 → ℕ} {len : ℕ} (b : ℕ) (hoff : off = ![b, 0]) (inb : ∀ a, off a + ![len, 128] a ≤ S655360x128.size a) :
    ((Memref.whole main_v6).slice (Rect.unit (s := S655360x128) off ![len, 128] inb) (fun _ => rfl)).view.set = rowSet b len := by
  subst hoff
  ext i
  rw [mem_rowSet]
  refine Iff.trans (Eq.to_iff (congrArg (i ∈ ·) (View.set_slice_whole main_v6 _))) ?_
  rw [Rect.mem_set_unit]
  have h1 : ((i (1 : Fin 2)).val : ℕ) < 128 := (i (1 : Fin 2)).isLt
  constructor
  · intro h; simpa using h 0
  · intro h a
    match a with
    | ⟨0, _⟩ => simpa using h
    | ⟨1, _⟩ => exact ⟨Nat.zero_le _, by simpa using h1⟩

/-- The element of the result under row `x 0`, lane `x 1` of a slice of whole rows. -/
theorem emb_rows {off : Fin 2 → ℕ} {len : ℕ} (b : ℕ) (hoff : off = ![b, 0]) (inb : ∀ a, off a + ![len, 128] a ≤ S655360x128.size a)
    (x : (⟨2, ![len, 128]⟩ : Shape).Idx) :
    ((((Memref.whole main_v6).slice (Rect.unit (s := S655360x128) off ![len, 128] inb) (fun _ => rfl)).view.emb x : S655360x128.Idx) 0).val = b + (x 0).val := by
  subst hoff; simp [View.emb_slice]

/-- What a copy of 8 rows adds to its semaphore. -/
theorem credit_8 : RefSig.tileCredit S8x128 .f32 = 128 := by decide +kernel

/-- What a wait for 8192 rows takes from it: 1024 such copies. -/
theorem credit_8192 : RefSig.tileCredit S8192x128 .f32 = 1024 * 128 := by decide +kernel

/-- What a copy of 4096 rows adds. -/
theorem credit_4096 : RefSig.tileCredit S4096x128 .f32 = 65536 := by decide +kernel

/-- Where the result lies on device `c`. -/
abbrev xsL (c : Dev nD) : Loc nD τ sig := (Memref.whole main_v6 : Memref sig .tc .hbm S655360x128 .f32).view.loc (c : Thread nD τ)

/-- Its lane. -/
theorem emb_lane {off : Fin 2 → ℕ} {len : ℕ} (b : ℕ) (hoff : off = ![b, 0]) (inb : ∀ a, off a + ![len, 128] a ≤ S655360x128.size a)
    (x : (⟨2, ![len, 128]⟩ : Shape).Idx) :
    ((((Memref.whole main_v6).slice (Rect.unit (s := S655360x128) off ![len, 128] inb) (fun _ => rfl)).view.emb x : S655360x128.Idx) 1).val = (x 1).val := by
  subst hoff; simp [View.emb_slice]

section Send

variable (𝒱 : Variants) (c : Dev nD) (bd : Option 𝒱.V) {ιwm : ℕ}

/-- One send: the word read, its side condition, and the copy of 8 rows of the tile to the rows the word names. -/
theorem wp_send {α : Type} {Q : α → sProp 𝕄} {M3 : Memref sig .tc .smem S1x1x4096 .i32} {M4 : Memref sig .tc .vmem S8192x128 .f32} {sm : DmaSem sig}
    {P : BitVec 32 → Prop} {dec : ∀ v, Decidable (P v)}
    {offp : Fin 3 → ℕ} {inbp : ∀ a, offp a + S1x1x1.size a ≤ S1x1x4096.size a}
    {offd : BitVec 32 → Fin 2 → ℕ} {inbd : ∀ v, P v → ∀ a, offd v a + S8x128.size a ≤ S655360x128.size a}
    {offs : Fin 2 → ℕ} {inbs : ∀ a, offs a + S8x128.size a ≤ S8192x128.size a}
    {h1 : S1x1x1.numel = 1} {hp : EltTy.packing .i32 = 1}
    {k : PUnit → Prog (TpuEff nD τ sig (Elt F) Λ₀ .tc) α}
    {f3 : Buf (Elt F) (M3.view.loc (c : Thread nD τ))} {f4 : Buf (Elt F) (M4.view.loc (c : Thread nD τ))} {f0 g : Buf (Elt F) (xsL c)}
    {Wt : ℕ → Finset (Idx (xsL c))} {n j : ℕ}
    {w : BitVec 32}
    (hw : (M3.access (Rect.unit (s := S1x1x4096) offp S1x1x1.size inbp)).read (Elt F) f3 (Shape.Idx.first (h1.symm ▸ Nat.one_pos)) = w)
    (hP : P w) (hoffd : offd w = ![w.toNat, 0]) (hj : j < n) (hW : Wt j = rowSet w.toNat 8)
    (hg : ∀ x : S8x128.Idx, g (((Memref.whole main_v6).slice (Rect.unit (s := S655360x128) (offd w) S8x128.size (inbd w hP)) (fun _ => rfl)).view.emb x)
      = (M4.slice (Rect.unit (s := S8192x128) offs S8x128.size inbs) (fun _ => rfl)).view.read (Elt F) f4 x) :
    iprop(wmInv EW ιwm ∗ (M3.view.loc (c : Thread nD τ) ↦{fullShare} f3)
        ∗ racing EC EW (sℓ := M4.view.loc (c : Thread nD τ)) (dℓ := xsL c) f4 f0 g Wt c (.dma sm) () 128 n j 0)
      ⊢ iprop((iprop((M3.view.loc (c : Thread nD τ) ↦{fullShare} f3)
            ∗ racing EC EW (sℓ := M4.view.loc (c : Thread nD τ)) (dℓ := xsL c) f4 f0 g Wt c (.dma sm) () 128 n (j + 1) 0)
          -∗ wp frame (wpE defs₀ 𝒱 (c : Thread nD τ) bd) Set.univ (k ⟨⟩) Q)
        -∗ wp frame (wpE defs₀ 𝒱 (c : Thread nD τ) bd) Set.univ (do
            let v ← smemLoad (p := .tc) M3 (Rect.unit (s := S1x1x4096) offp S1x1x1.size inbp) h1 hp
            let h : PLift (P v) ← Prog.lift (TpuEff.assume (P v) (dec v))
            Prog.lift (.enqueueDma (M4.slice (Rect.unit (s := S8192x128) offs S8x128.size inbs) (fun _ => rfl))
              (.here ((Memref.whole main_v6).slice (Rect.unit (s := S655360x128) (offd v) S8x128.size (inbd v h.down)) (fun _ => rfl)))
              (.dma sm) (View.wordExact_bits rfl) (View.wordExact_bits rfl) ⟨Or.inl rfl, trivial⟩) >>= k) Q) := by
  have hprog : (do
      let v ← smemLoad (p := .tc) M3 (Rect.unit (s := S1x1x4096) offp S1x1x1.size inbp) h1 hp
      let h : PLift (P v) ← Prog.lift (TpuEff.assume (P v) (dec v))
      Prog.lift (.enqueueDma (M4.slice (Rect.unit (s := S8192x128) offs S8x128.size inbs) (fun _ => rfl))
        (.here ((Memref.whole main_v6).slice (Rect.unit (s := S655360x128) (offd v) S8x128.size (inbd v h.down)) (fun _ => rfl)))
        (.dma sm) (View.wordExact_bits rfl) (View.wordExact_bits rfl) ⟨Or.inl rfl, trivial⟩) >>= k : Prog (TpuEff nD τ sig (Elt F) Λ₀ .tc) α)
    = smemLoadElt (p := .tc) M3 (Rect.unit (s := S1x1x4096) offp S1x1x1.size inbp) (View.loads_smem_one hp h1) (Shape.Idx.first (h1.symm ▸ Nat.one_pos))
        (fun v => Prog.op (TpuEff.assume (P v) (dec v)) fun h =>
          Prog.op (.enqueueDma (M4.slice (Rect.unit (s := S8192x128) offs S8x128.size inbs) (fun _ => rfl))
            (.here ((Memref.whole main_v6).slice (Rect.unit (s := S655360x128) (offd v) S8x128.size (inbd v h.down)) (fun _ => rfl)))
            (.dma sm) (View.wordExact_bits rfl) (View.wordExact_bits rfl) ⟨Or.inl rfl, trivial⟩) k) := rfl
  rw [hprog]
  iintro ⟨#Hwm, Ht, HR⟩ Hk
  iapply (wp_smemLoadElt 𝒱 (c : Thread nD τ) bd Set.univ (Finset.subset_univ _)) $$ [Ht]
  · iexact Ht
  iintro Ht
  rw [hw]
  iapply (wp_assume 𝒱 (c : Thread nD τ) bd Set.univ hP)
  have hN : ((Memref.whole main_v6).slice (Rect.unit (s := S655360x128) (offd w) S8x128.size (inbd w hP)) (fun _ => rfl)).view.amount (.dma sm) = 128 := credit_8
  have hWs := (set_rows (len := 8) w.toNat hoffd (inbd w hP)).trans hW.symm
  have hadm : ((Memref.whole main_v6).slice (Rect.unit (s := S655360x128) (offd w) S8x128.size (inbd w hP)) (fun _ => rfl)).view.Admitted (Elt F) (fun i => some (g i))
      ((M4.slice (Rect.unit (s := S8192x128) offs S8x128.size inbs) (fun _ => rfl)).view.read (Elt F) f4) Finset.univ := by
    intro x _ u hu
    rw [← hg x]
    exact Option.some.inj hu
  have hr := wp_race (ιwm := ιwm) (Q := Q) (defs := defs₀) EC EW 𝒱 (c : Thread nD τ) bd (src := M4.slice (Rect.unit (s := S8192x128) offs S8x128.size inbs) (fun _ => rfl))
    (dst := (Memref.whole main_v6).slice (Rect.unit (s := S655360x128) (offd w) S8x128.size (inbd w hP)) (fun _ => rfl)) (sm := .dma sm) (hsrc := View.wordExact_bits rfl) (hdst := View.wordExact_bits rfl)
    (hsem := ⟨Or.inl rfl, trivial⟩) (k := k) (fs := f4) (f0 := f0) (g := g) (Wt := Wt) (ι := ()) hN hj (Nat.zero_le _) hWs hadm
  iapply hr $$ [HR]
  · isplitr
    · iexact Hwm
    · iexact HR
  iintro HR
  iapply Hk
  isplitl [Ht]
  · iexact Ht
  · iexact HR

/-! ### The words' places -/

theorem off9_eq : ∀ t : Fin k0_t7_loop.trips, k0_off9 t = ![0, 0, t.val] := by decide +kernel
theorem off12_eq : ∀ t : Fin k0_t7_loop.trips, k0_off12 t = ![0, 0, 1024 + t.val] := by decide +kernel
theorem off15_eq : ∀ t : Fin k0_t7_loop.trips, k0_off15 t = ![0, 0, 2048 + t.val] := by decide +kernel
theorem off18_eq : ∀ t : Fin k0_t7_loop.trips, k0_off18 t = ![0, 0, 3072 + t.val] := by decide +kernel
theorem off11_eq : ∀ t : Fin k0_t7_loop.trips, k0_off11 t = ![8 * t.val, 0] := by decide +kernel
theorem off14_eq : ∀ t : Fin k0_t7_loop.trips, k0_off14 t = ![8 * t.val, 0] := by decide +kernel
theorem off17_eq : ∀ t : Fin k0_t7_loop.trips, k0_off17 t = ![8 * t.val, 0] := by decide +kernel
theorem off20_eq : ∀ t : Fin k0_t7_loop.trips, k0_off20 t = ![8 * t.val, 0] := by decide +kernel
theorem trips7 : k0_t7_loop.trips = 1024 := by decide +kernel

/-- A word of the tile's table, at its place. -/
theorem word_at {c : Dev nD} (M3 : Memref sig .tc .smem S1x1x4096 .i32) (f3 : Buf (Elt F) (M3.view.loc (c : Thread nD τ))) {off : Fin 3 → ℕ} (e : ℕ) (he : e < 4096)
    (hoff : off = ![0, 0, e]) (inb : ∀ a, off a + S1x1x1.size a ≤ S1x1x4096.size a) (x : S1x1x1.Idx) :
    (M3.access (Rect.unit (s := S1x1x4096) off S1x1x1.size inb)).read (Elt F) f3 x = M3.view.read (Elt F) f3 (ix3 0 0 ⟨e, he⟩) := by
  subst hoff
  show M3.view.read (Elt F) f3 ((Rect.unit (s := S1x1x4096) ![0, 0, e] S1x1x1.size inb).emb x) = _
  congr 1
  funext a
  have hx : (x a).val = 0 := by have := (x a).isLt; match a with | ⟨0, _⟩ | ⟨1, _⟩ | ⟨2, _⟩ => exact Nat.lt_one_iff.mp this
  apply Fin.ext
  match a with
  | ⟨0, _⟩ => simpa using hx
  | ⟨1, _⟩ => simpa using hx
  | ⟨2, _⟩ => simpa using hx

/-- Eight rows of the tile, at their place. -/
theorem piece_at {c : Dev nD} (M4 : Memref sig .tc .vmem S8192x128 .f32) (f4 : Buf (Elt F) (M4.view.loc (c : Thread nD τ))) {off : Fin 2 → ℕ} (b : ℕ)
    (hoff : off = ![b, 0]) (inb : ∀ a, off a + S8x128.size a ≤ S8192x128.size a) (x : S8x128.Idx) (y : S8192x128.Idx)
    (h0 : (y 0).val = b + (x 0).val) (h1 : (y 1).val = (x 1).val) :
    (M4.slice (Rect.unit (s := S8192x128) off S8x128.size inb) (fun _ => rfl)).view.read (Elt F) f4 x = M4.view.read (Elt F) f4 y := by
  subst hoff
  show M4.view.read (Elt F) f4 ((Rect.unit (s := S8192x128) ![b, 0] S8x128.size inb).emb x) = _
  congr 1
  funext a
  apply Fin.ext
  match a with
  | ⟨0, _⟩ => simpa using h0.symm
  | ⟨1, _⟩ => simpa using h1.symm

/-- The entry of the tile the `t`-th send serves. -/
def entry (t : ℕ) : ℕ := 1024 * (t % 4) + t / 4

/-- The rows it writes. -/
def sendRows (w : ℕ → BitVec 32) (t : ℕ) : Finset (Idx (xsL c)) := rowSet (w (entry t)).toNat 8

/-- The tile's words are multiples of 8 naming 8 rows of the result. -/
def WordsIn (w : ℕ → BitVec 32) : Prop := ∀ e, e < 4096 → 8 ∣ (w e).toNat ∧ (w e).toNat + 8 ≤ 655360

/-- Each piece of the tile is what the result is to hold in the rows its word names. -/
def Served (w : ℕ → BitVec 32) (x4 : S8192x128.Idx → Elt F .f32) (g : S655360x128.Idx → Elt F .f32) : Prop :=
  ∀ e, e < 4096 → ∀ (i : S655360x128.Idx) (y : S8192x128.Idx), (w e).toNat ≤ (i 0).val → (i 0).val < (w e).toNat + 8 →
    (y 0).val = 8 * (e % 1024) + ((i 0).val - (w e).toNat) → (y 1).val = (i 1).val → g i = x4 y

section Trip

variable {M3 : Memref sig .tc .smem S1x1x4096 .i32} {M4 : Memref sig .tc .vmem S8192x128 .f32}
variable (f3 : Buf (Elt F) (M3.view.loc (c : Thread nD τ))) (f4 : Buf (Elt F) (M4.view.loc (c : Thread nD τ))) (f0 g : Buf (Elt F) (xsL c))
variable (w : ℕ → BitVec 32)

/-- The copies of the sends so far, in flight. -/
abbrev sending (sm : DmaSem sig) (j u : ℕ) : sProp 𝕄 :=
  racing EC EW (sℓ := M4.view.loc (c : Thread nD τ)) (dℓ := xsL c) f4 f0 g (sendRows c w) c (.dma sm) () 128 4096 j u

variable (hw : ∀ e (he : e < 4096), M3.view.read (Elt F) f3 (ix3 0 0 ⟨e, he⟩) = w e) (hwi : WordsIn w)
  (hsv : Served w (M4.view.read (Elt F) f4) g)

include hw hwi hsv in
/-- `wp_send` at the `j`-th send of a tile whose words and pieces are as the kernel needs them. -/
theorem wp_sendAt {α : Type} {Q : α → sProp 𝕄} {sm : DmaSem sig}
    {P : BitVec 32 → Prop} {dec : ∀ v, Decidable (P v)}
    {offp : Fin 3 → ℕ} {inbp : ∀ a, offp a + S1x1x1.size a ≤ S1x1x4096.size a}
    {offd : BitVec 32 → Fin 2 → ℕ} {inbd : ∀ v, P v → ∀ a, offd v a + S8x128.size a ≤ S655360x128.size a}
    {offs : Fin 2 → ℕ} {inbs : ∀ a, offs a + S8x128.size a ≤ S8192x128.size a}
    {h1 : S1x1x1.numel = 1} {hp : EltTy.packing .i32 = 1}
    {k : PUnit → Prog (TpuEff nD τ sig (Elt F) Λ₀ .tc) α} (j : ℕ) (hj : j < 4096)
    (hoffp : offp = ![0, 0, entry j]) (hoffs : offs = ![8 * (j / 4), 0]) (hoffd : ∀ v, offd v = ![v.toNat, 0])
    (hP : ∀ v : BitVec 32, 8 ∣ v.toNat → v.toNat + 8 ≤ 655360 → P v) :
    iprop(wmInv EW ιwm ∗ (M3.view.loc (c : Thread nD τ) ↦{fullShare} f3) ∗ sending c f4 f0 g w sm j 0)
      ⊢ iprop((iprop((M3.view.loc (c : Thread nD τ) ↦{fullShare} f3) ∗ sending c f4 f0 g w sm (j + 1) 0)
          -∗ wp frame (wpE defs₀ 𝒱 (c : Thread nD τ) bd) Set.univ (k ⟨⟩) Q)
        -∗ wp frame (wpE defs₀ 𝒱 (c : Thread nD τ) bd) Set.univ (do
            let v ← smemLoad (p := .tc) M3 (Rect.unit (s := S1x1x4096) offp S1x1x1.size inbp) h1 hp
            let h : PLift (P v) ← Prog.lift (TpuEff.assume (P v) (dec v))
            Prog.lift (.enqueueDma (M4.slice (Rect.unit (s := S8192x128) offs S8x128.size inbs) (fun _ => rfl))
              (.here ((Memref.whole main_v6).slice (Rect.unit (s := S655360x128) (offd v) S8x128.size (inbd v h.down)) (fun _ => rfl)))
              (.dma sm) (View.wordExact_bits rfl) (View.wordExact_bits rfl) ⟨Or.inl rfl, trivial⟩) >>= k) Q) := by
  have he : entry j < 4096 := by unfold entry; omega
  obtain ⟨h8, hin⟩ := hwi (entry j) he
  refine wp_send 𝒱 c bd (w := w (entry j)) ((word_at M3 f3 (entry j) he hoffp inbp _).trans (hw _ he)) (hP _ h8 hin) (hoffd _) hj rfl ?_
  intro x
  have e0 := emb_rows (len := 8) (w (entry j)).toNat (hoffd _) (inbd (w (entry j)) (hP _ h8 hin)) x
  have e1 := emb_lane (len := 8) (w (entry j)).toNat (hoffd _) (inbd (w (entry j)) (hP _ h8 hin)) x
  have hx0 : (x 0).val < 8 := (x 0).isLt
  have hx1 : (x 1).val < 128 := (x 1).isLt
  have hj4 : j / 4 < 1024 := by omega
  refine (hsv (entry j) he _ (ix2 ⟨8 * (j / 4) + (x 0).val, by omega⟩ ⟨(x 1).val, hx1⟩) (by rw [e0]; omega) (by rw [e0]; omega) ?_ ?_).trans
    (piece_at M4 f4 _ hoffs inbs x _ rfl rfl).symm
  · rw [e0]
    have : entry j % 1024 = j / 4 := by unfold entry; omega
    show 8 * (j / 4) + (x 0).val = _
    omega
  · rw [e1]; rfl

end Trip

end Send

end Cert.Proof.Body
-- ==== Proof.Sends.lean ====
/-
  The second phase of the dispatch kernel's body: the loop that starts a tile's 4096 sends, and the waits for them.
-/
module

public import proofs.«01_k».proof.Proof.Body
public import Idealize.ShloMosaic.Lib.Tactic

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU F) ℕ

variable (𝒱 : Variants) (c : Dev nD) (bd : Option 𝒱.V) {ιwm : ℕ}
variable {M3 : Memref sig .tc .smem S1x1x4096 .i32} {M4 : Memref sig .tc .vmem S8192x128 .f32}
variable (f3 : Buf (Elt F) (M3.view.loc (c : Thread nD τ))) (f4 : Buf (Elt F) (M4.view.loc (c : Thread nD τ))) (f0 g : Buf (Elt F) (xsL c))
variable (w : ℕ → BitVec 32)
variable (hw : ∀ e (he : e < 4096), M3.view.read (Elt F) f3 (ix3 0 0 ⟨e, he⟩) = w e) (hwi : WordsIn w)
  (hsv : Served w (M4.view.read (Elt F) f4) g)

theorem rows_in (v : BitVec 32) (h : v.toNat + 8 ≤ 655360) : ∀ a : Fin 2, ![v.toNat, 0] a + S8x128.size a ≤ S655360x128.size a
  | ⟨0, _⟩ => by simpa using h
  | ⟨1, _⟩ => by simp

include hw hwi hsv in
/-- One trip of the loop: four sends. -/
theorem trip7 (i : grid0.Coords) (M1 : Memref sig .tc .smem S32 .i32) (h1 : M1.IsWhole) (M2 : Memref sig .tc .smem S1 .i32) (h2 : M2.IsWhole)
    (h3 : M3.IsWhole) (h4 : M4.IsWhole) (h5 : (Memref.whole main_v6 : Memref sig .tc .hbm S655360x128 .f32).IsWhole)
    (M6 : Memref sig .tc .vmem S4096x128 .f32) (h6 : M6.IsWhole) (s7 : DmaSems sig S_) (s8 : DmaSems sig S_)
    (k : Fin k0_t7_loop.trips) :
    iprop(wmInv EW ιwm ∗ (M3.view.loc (c : Thread nD τ) ↦{fullShare} f3) ∗ sending c f4 f0 g w s7.sem (4 * k.val + 0) 0)
      ⊢ wp frame (wpE defs₀ 𝒱 (c : Thread nD τ) bd) Set.univ
          (k0_t7_body (F := F) i M1 h1 M2 h2 M3 h3 M4 h4 (Memref.whole main_v6) h5 M6 h6 s7 s8 k ⟨⟩)
          (fun _ => iprop(wmInv EW ιwm ∗ (M3.view.loc (c : Thread nD τ) ↦{fullShare} f3) ∗ sending c f4 f0 g w s7.sem (4 * (k.val + 1) + 0) 0)) := by
  have hk : k.val < 1024 := trips7 ▸ k.isLt
  iintro ⟨#Hwm, Ht, HR⟩
  unfold k0_t7_body
  iapply (wp_sendAt 𝒱 c bd f3 f4 f0 g w hw hwi hsv (P := k0_chk5) (dec := k0_chk5.dec) (offd := k0_off10) (inbd := k0_off10_inb) (4 * k.val + 0) (by omega)
    ((off9_eq k).trans (by rw [show entry (4 * k.val + 0) = 0 + k.val by unfold entry; omega]; simp))
    ((off11_eq k).trans (by rw [show (4 * k.val + 0) / 4 = k.val by omega])) (fun _ => rfl) (fun v h8 hin => ⟨h8, rows_in v hin⟩)) $$ [Ht HR]
  · isplitr; · iexact Hwm
    isplitl [Ht] <;> iassumption
  iintro ⟨Ht, HR⟩
  iapply (wp_sendAt 𝒱 c bd f3 f4 f0 g w hw hwi hsv (P := k0_chk6) (dec := k0_chk6.dec) (offd := k0_off13) (inbd := k0_off13_inb) (4 * k.val + 1) (by omega)
    ((off12_eq k).trans (by rw [show entry (4 * k.val + 1) = 1024 + k.val by unfold entry; omega]))
    ((off14_eq k).trans (by rw [show (4 * k.val + 1) / 4 = k.val by omega])) (fun _ => rfl) (fun v h8 hin => ⟨h8, rows_in v hin⟩)) $$ [Ht HR]
  · isplitr; · iexact Hwm
    isplitl [Ht] <;> iassumption
  iintro ⟨Ht, HR⟩
  iapply (wp_sendAt 𝒱 c bd f3 f4 f0 g w hw hwi hsv (P := k0_chk7) (dec := k0_chk7.dec) (offd := k0_off16) (inbd := k0_off16_inb) (4 * k.val + 2) (by omega)
    ((off15_eq k).trans (by rw [show entry (4 * k.val + 2) = 2048 + k.val by unfold entry; omega]))
    ((off17_eq k).trans (by rw [show (4 * k.val + 2) / 4 = k.val by omega])) (fun _ => rfl) (fun v h8 hin => ⟨h8, rows_in v hin⟩)) $$ [Ht HR]
  · isplitr; · iexact Hwm
    isplitl [Ht] <;> iassumption
  iintro ⟨Ht, HR⟩
  iapply (wp_sendAt 𝒱 c bd f3 f4 f0 g w hw hwi hsv (P := k0_chk8) (dec := k0_chk8.dec) (offd := k0_off19) (inbd := k0_off19_inb) (4 * k.val + 3) (by omega)
    ((off18_eq k).trans (by rw [show entry (4 * k.val + 3) = 3072 + k.val by unfold entry; omega]))
    ((off20_eq k).trans (by rw [show (4 * k.val + 3) / 4 = k.val by omega])) (fun _ => rfl) (fun v h8 hin => ⟨h8, rows_in v hin⟩)) $$ [Ht HR]
  · isplitr; · iexact Hwm
    isplitl [Ht] <;> iassumption
  iintro ⟨Ht, HR⟩
  sl_step
  isplitr; · iexact Hwm
  isplitl [Ht]
  · iexact Ht
  · iexact HR

include hw hwi hsv in
/-- The phase: the tile's 4096 sends started, then waited for, each element they name at what the result is to hold. -/
theorem wp_sends {α : Type} {Q : α → sProp 𝕄} (i : grid0.Coords) (M1 : Memref sig .tc .smem S32 .i32) (h1 : M1.IsWhole) (M2 : Memref sig .tc .smem S1 .i32) (h2 : M2.IsWhole)
    (h3 : M3.IsWhole) (h4 : M4.IsWhole) (h5 : (Memref.whole main_v6 : Memref sig .tc .hbm S655360x128 .f32).IsWhole)
    (M6 : Memref sig .tc .vmem S4096x128 .f32) (h6 : M6.IsWhole) (s7 : DmaSems sig S_) (s8 : DmaSems sig S_)
    (W : Waits sig Unit) {k : PUnit → Prog (TpuEff nD τ sig (Elt F) Λ₀ .tc) α} :
    iprop(wmInv EW ιwm ∗ (M3.view.loc (c : Thread nD τ) ↦{fullShare} f3) ∗ (M4.view.loc (c : Thread nD τ) ↦{fullShare} f4)
        ∗ (xsL c ↦{fullShare} f0) ∗ semVal ((c : Thread nD τ), .dma s7.sem) 0 ∗ owes (c : Thread nD τ) 0 W)
      ⊢ iprop((iprop((M3.view.loc (c : Thread nD τ) ↦{fullShare} f3) ∗ (M4.view.loc (c : Thread nD τ) ↦{fullShare} f4)
            ∗ (xsL c ↦{fullShare} (wrote (sendRows c w) 4096).piecewise g f0) ∗ semVal ((c : Thread nD τ), .dma s7.sem) 0
            ∗ ∃ W', owes (c : Thread nD τ) 0 W')
          -∗ wp frame (wpE defs₀ 𝒱 (c : Thread nD τ) bd) Set.univ (k ⟨⟩) Q)
        -∗ wp frame (wpE defs₀ 𝒱 (c : Thread nD τ) bd) Set.univ (do
            Scf.Loop.for k0_t7_loop k0_t7_ok ⟨⟩ (k0_t7_body (F := F) i M1 h1 M2 h2 M3 h3 M4 h4 (Memref.whole main_v6) h5 M6 h6 s7 s8)
            let v4 : Memref sig .tc .hbm S8192x128 .f32 := (Memref.whole main_v6).slice (Rect.unit (s := S655360x128) ![0, 0] S8192x128.size inb_S655360x128_S8192x128_0_0) (fun _ => rfl)
            Prog.lift (.waitDma2 s7.sem M4 v4 h4.wordExact (View.wordExact_bits rfl))
            Prog.lift (.waitDma2 s7.sem M4 v4 h4.wordExact (View.wordExact_bits rfl))
            Prog.lift (.waitDma2 s7.sem M4 v4 h4.wordExact (View.wordExact_bits rfl))
            Prog.lift (.waitDma2 s7.sem M4 v4 h4.wordExact (View.wordExact_bits rfl))
            k ⟨⟩) Q) := by
  iintro ⟨#Hwm, Ht, H4, Hx, Hs, HO⟩ Hk
  imod (race_start EC EW (sℓ := M4.view.loc (c : Thread nD τ)) (dℓ := xsL c) f4 f0 g (sendRows c w) c (.dma s7.sem) () 128 4096) $$ [H4 Hx Hs] with HR
  · isplitr; · iexact Hwm
    isplitl [H4]; · iexact H4
    isplitl [Hx] <;> iassumption
  iapply (Scf.wp_for_bind frame (wpE defs₀ 𝒱 (c : Thread nD τ) bd) Set.univ _ _ _ _ _ _
    (fun j _ => iprop(wmInv EW ιwm ∗ (M3.view.loc (c : Thread nD τ) ↦{fullShare} f3) ∗ sending c f4 f0 g w s7.sem (4 * j + 0) 0)) ?_) $$ [Ht HR]
  · intro j acc
    exact trip7 𝒱 c bd f3 f4 f0 g w hw hwi hsv i M1 h1 M2 h2 h3 h4 h5 M6 h6 s7 s8 j
  · isplitr; · iexact Hwm
    isplitl [Ht]; · iexact Ht
    iexact HR
  iintro %_ ⟨-, Ht, HR⟩
  rw [show Scf.trips k0_t7_loop.lb k0_t7_loop.ub k0_t7_loop.st = 1024 from trips7]
  have hJ : ((Memref.whole main_v6 : Memref sig .tc .hbm S655360x128 .f32).slice (Rect.unit (s := S655360x128) ![0, 0] S8192x128.size inb_S655360x128_S8192x128_0_0) (fun _ => rfl)).view.dmaCredit = 1024 * 128 := credit_8192
  iapply (wp_raceWait EC EW 𝒱 (c : Thread nD τ) bd (n := 4096) (j := 4096) (u := 0) 1024 hJ (by decide)) $$ [HR HO]
  · isplitl [HR] <;> iassumption
  iintro ⟨HR, HO⟩
  iapply (wp_raceWait EC EW 𝒱 (c : Thread nD τ) bd (n := 4096) (j := 4096) (u := 131072) 1024 hJ (by decide)) $$ [HR HO]
  · isplitl [HR] <;> iassumption
  iintro ⟨HR, HO⟩
  iapply (wp_raceWait EC EW 𝒱 (c : Thread nD τ) bd (n := 4096) (j := 4096) (u := 262144) 1024 hJ (by decide)) $$ [HR HO]
  · isplitl [HR] <;> iassumption
  iintro ⟨HR, HO⟩
  iapply (wp_raceWait EC EW 𝒱 (c : Thread nD τ) bd (n := 4096) (j := 4096) (u := 393216) 1024 hJ (by decide)) $$ [HR HO]
  · isplitl [HR] <;> iassumption
  iintro ⟨HR, HO⟩
  imod (race_end EC EW (sℓ := M4.view.loc (c : Thread nD τ)) (dℓ := xsL c) f4 f0 g (sendRows c w) (c := c) (sm := .dma s7.sem) (ι := ()) (N := 128) (n := 4096) (by decide)) $$ [HR] with ⟨H4, Hx, Hs⟩
  · isplitr; · iexact Hwm
    iexact HR
  iapply Hk
  isplitl [Ht]; · iexact Ht
  isplitl [H4]; · iexact H4
  isplitl [Hx]; · iexact Hx
  isplitl [Hs]; · iexact Hs
  iexists _; iexact HO

end Cert.Proof.Body
-- ==== Proof.ClearWords.lean ====
/-
  The words the first phase of the dispatch kernel computes with: the offsets of the blocks it clears and the bounds of its
  loops.
-/
module

public import proofs.«01_k».proof.Proof.Body
public import Idealize.ShloMosaic.Lib.Tactic
public import Idealize.ShloMosaic.Lib.LoopRemainder

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU F) ℕ

/-! ### Words -/

/-- The first row of the block an expert's word names as its last. -/
def tailRow (v : BitVec 32) : ℕ := k0_off2 v 0

theorem off2_eq (v : BitVec 32) : k0_off2 v = ![tailRow v, 0] := by
  funext a; match a with | ⟨0, _⟩ => rfl | ⟨1, _⟩ => rfl

theorem off6_eq (v : BitVec 32) : k0_off6 v = ![tailRow v, 0] := off2_eq v

theorem off1_eq : ∀ t : Fin k0_t1_loop.trips, k0_off1 t = ![t.val] := by decide +kernel
theorem off5_eq : ∀ t : Fin k0_t4_loop.trips, k0_off5 t = ![t.val] := by decide +kernel
theorem trips1 : k0_t1_loop.trips = 32 := by decide +kernel
theorem trips4 : k0_t4_loop.trips = 32 := by decide +kernel

theorem trips2' : ∀ u : Fin 161, (k0_t2_loop (BitVec.ofNat 32 u.val)).trips = 160 - u.val := by decide +kernel

theorem ok2' : ∀ u : Fin 161, (k0_t2_loop (BitVec.ofNat 32 u.val)).OK := by decide +kernel
theorem ok3' : ∀ u : Fin 161, (k0_t3_loop (BitVec.ofNat 32 u.val)).OK := by decide +kernel

theorem off3' : ∀ u : Fin 161, ∀ t : Fin (k0_t2_loop (BitVec.ofNat 32 u.val)).trips,
    k0_off3 (BitVec.ofNat 32 u.val) t = ![(u.val + t.val) * 4096, 0] := by decide +kernel

section Used

variable {v : BitVec 32} (hv : v.toNat ≤ 160)

include hv

theorem exists_count : ∃ u : Fin 161, v = BitVec.ofNat 32 u.val ∧ v.toNat = u.val :=
  ⟨⟨v.toNat, by omega⟩, by simp, rfl⟩

theorem trips2 : (k0_t2_loop v).trips = 160 - v.toNat := by
  obtain ⟨u, hu, hn⟩ := exists_count hv
  rw [hn, hu]; exact trips2' u

theorem off3_eq (t : Fin (k0_t2_loop v).trips) : k0_off3 v t = ![(v.toNat + t.val) * 4096, 0] := by
  obtain ⟨u, hu, hn⟩ := exists_count hv
  rw [hn]; subst hu; exact off3' u t

theorem off7_eq (t : Fin (k0_t5_loop v).trips) : k0_off7 v t = ![(v.toNat + t.val) * 4096, 0] := off3_eq hv t

/-- The side condition on the count of blocks in use holds when it is at most 160. -/
theorem chk2_of_le (i : grid0.Coords) : k0_chk2 i v := by
  have hoff : ∀ t, k0_off3 v t = ![(v.toNat + t.val) * 4096, 0] := off3_eq hv
  have htr := trips2 hv
  have hno : ∀ t : Fin (k0_t3_loop v).trips, False := fun t => Scf.rem_no_trip v (Scalar.subi 160#32 v) t
  refine ⟨fun _ => ?_, fun t _ => ?_, fun t _ => ?_, fun _ => ?_, fun t => (hno t).elim, fun t => (hno t).elim⟩
  · obtain ⟨u, rfl, -⟩ := exists_count hv; exact ok2' u
  · have h0 : (k0_mult2 v t).toNat = (v.toNat + t.val) * 4096 := congrFun (hoff t) 0
    exact ⟨_, h0.trans (Nat.mul_comm _ _)⟩
  · have ht : t.val < 160 - v.toNat := lt_of_lt_of_eq t.isLt htr
    rw [hoff t]
    intro a
    match a with
    | ⟨0, _⟩ => show (v.toNat + t.val) * 4096 + 4096 ≤ 655360; omega
    | ⟨1, _⟩ => show 0 + 128 ≤ 128; omega
  · obtain ⟨u, rfl, -⟩ := exists_count hv; exact ok3' u

theorem chk4_of_le (i : grid0.Coords) : k0_chk4 i v := chk2_of_le hv i

end Used

end Cert.Proof.Body
-- ==== Proof.Clears.lean ====
/-
  The first phase of the dispatch kernel's body, run at grid point 0: the tail block of each expert and every block past
  the ones in use are filled with zeros by copies of one zero block, started and then waited for.
-/
module

public import proofs.«01_k».proof.Proof.ClearWords

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU F) ℕ

variable (𝒱 : Variants) (c : Dev nD) (bd : Option 𝒱.V) {ιwm : ℕ}

/-- The block of rows the `t`-th clearing copy writes: the experts' tail blocks, then the blocks from the `u`-th on. -/
def clearRows (p : ℕ → BitVec 32) (u t : ℕ) : Finset (Idx (xsL c)) :=
  if t < 32 then rowSet (tailRow (p t)) 4096 else rowSet ((u + (t - 32)) * 4096) 4096

/-- The value the clearing copies write. -/
def zero32 : Elt F .f32 := (Scalar.ofBits .f32 0x00000000#32 : F .f32)

section Clear

variable {M6 : Memref sig .tc .vmem S4096x128 .f32}
variable (f6 : Buf (Elt F) (M6.view.loc (c : Thread nD τ))) (f0 : Buf (Elt F) (xsL c)) (p : ℕ → BitVec 32) (u : ℕ)

/-- The clearing copies so far, in flight. -/
abbrev clearing (sm : DmaSem sig) (n j a : ℕ) : sProp 𝕄 :=
  racing EC EW (sℓ := M6.view.loc (c : Thread nD τ)) (dℓ := xsL c) f6 f0 (fun _ => zero32 (F := F)) (clearRows c p u) c (.dma sm) () 65536 n j a

/-- Starting a clearing copy. -/
theorem wp_clear {α : Type} {Q : α → sProp 𝕄} {sm : DmaSem sig} (hf6 : ∀ x, M6.view.read (Elt F) f6 x = zero32 (F := F))
    {off : Fin 2 → ℕ} {inb : ∀ a, off a + S4096x128.size a ≤ S655360x128.size a} {hs : M6.view.WordExact}
    {k : PUnit → Prog (TpuEff nD τ sig (Elt F) Λ₀ .tc) α} (b : ℕ) (hoff : off = ![b, 0]) {n j : ℕ} (hj : j < n)
    (hW : clearRows c p u j = rowSet b 4096) :
    iprop(wmInv EW ιwm ∗ clearing c f6 f0 p u sm n j 0)
      ⊢ iprop((clearing c f6 f0 p u sm n (j + 1) 0 -∗ wp frame (wpE defs₀ 𝒱 (c : Thread nD τ) bd) Set.univ (k ⟨⟩) Q)
        -∗ wp frame (wpE defs₀ 𝒱 (c : Thread nD τ) bd) Set.univ
            (Prog.lift (.enqueueDma M6 (.here ((Memref.whole main_v6).slice (Rect.unit (s := S655360x128) off S4096x128.size inb) (fun _ => rfl)))
              (.dma sm) hs (View.wordExact_bits rfl) ⟨Or.inl rfl, trivial⟩) >>= k) Q) := by
  have hN : ((Memref.whole main_v6).slice (Rect.unit (s := S655360x128) off S4096x128.size inb) (fun _ => rfl)).view.amount (.dma sm) = 65536 := credit_4096
  have hadm : ((Memref.whole main_v6).slice (Rect.unit (s := S655360x128) off S4096x128.size inb) (fun _ => rfl)).view.Admitted (Elt F) (fun _ => some (zero32 (F := F)))
      (M6.view.read (Elt F) f6) Finset.univ := by
    intro x _ u hu
    rw [hf6 x]
    exact Option.some.inj hu
  exact wp_race (ιwm := ιwm) (Q := Q) (defs := defs₀) EC EW 𝒱 (c : Thread nD τ) bd (src := M6)
    (dst := (Memref.whole main_v6).slice (Rect.unit (s := S655360x128) off S4096x128.size inb) (fun _ => rfl)) (sm := .dma sm) (hsrc := hs) (hdst := View.wordExact_bits rfl)
    (hsem := ⟨Or.inl rfl, trivial⟩) (k := k) (fs := f6) (f0 := f0) (g := fun _ => zero32 (F := F)) (Wt := clearRows c p u) (ι := ()) hN hj (Nat.zero_le _)
    ((set_rows (len := 4096) b hoff inb).trans hW.symm) hadm

/-- Waiting for a clearing copy. -/
theorem wp_clearWait {α : Type} {Q : α → sProp 𝕄} {sm : DmaSem sig}
    {off : Fin 2 → ℕ} {inb : ∀ a, off a + S4096x128.size a ≤ S655360x128.size a} {hs : M6.view.WordExact}
    {k : PUnit → Prog (TpuEff nD τ sig (Elt F) Λ₀ .tc) α} {n a : ℕ} (ha : a < n) :
    iprop(clearing c f6 f0 p u sm n n (a * 65536) ∗ ∃ W, owes (c : Thread nD τ) 0 W)
      ⊢ iprop((iprop(clearing c f6 f0 p u sm n n ((a + 1) * 65536) ∗ ∃ W, owes (c : Thread nD τ) 0 W)
            -∗ wp frame (wpE defs₀ 𝒱 (c : Thread nD τ) bd) Set.univ (k ⟨⟩) Q)
        -∗ wp frame (wpE defs₀ 𝒱 (c : Thread nD τ) bd) Set.univ
            (Prog.lift (.waitDma2 sm M6 ((Memref.whole main_v6).slice (Rect.unit (s := S655360x128) off S4096x128.size inb) (fun _ => rfl))
              hs (View.wordExact_bits rfl)) >>= k) Q) := by
  have hJ : ((Memref.whole main_v6).slice (Rect.unit (s := S655360x128) off S4096x128.size inb) (fun _ => rfl)).view.dmaCredit = 1 * 65536 := credit_4096
  iintro ⟨HR, %W, HO⟩ Hk
  iapply (wp_raceWait EC EW 𝒱 (c : Thread nD τ) bd (n := n) (j := n) (u := a * 65536) 1 hJ (by omega)) $$ [HR HO]
  · isplitl [HR] <;> iassumption
  iintro ⟨HR, HO⟩
  rw [show a * 65536 + 1 * 65536 = (a + 1) * 65536 by omega]
  iapply Hk
  isplitl [HR]; · iexact HR
  iexists _; iexact HO

end Clear

/-- A loop without trips. -/
theorem wp_noTrips {α : Type} {Q : α → sProp 𝕄} {lb ub st : BitVec 32} {hok : Scf.OK lb ub st}
    {body : Fin (Scf.trips lb ub st) → Unit → Prog (TpuEff nD τ sig (Elt F) Λ₀ .tc) Unit} (h : Fin (Scf.trips lb ub st) → False)
    {k : Unit → Prog (TpuEff nD τ sig (Elt F) Λ₀ .tc) α} :
    wp frame (wpE defs₀ 𝒱 (c : Thread nD τ) bd) Set.univ (k ⟨⟩) Q
      ⊢ wp frame (wpE defs₀ 𝒱 (c : Thread nD τ) bd) Set.univ (Scf.for lb ub st hok ⟨⟩ body >>= k) Q := by
  iintro Hk
  iapply (Scf.wp_for_bind frame (wpE defs₀ 𝒱 (c : Thread nD τ) bd) Set.univ lb ub st hok () body (fun _ _ => iprop(emp)) (fun t => (h t).elim)) $$ []
  · iempintro
  iintro %_ -
  iexact Hk

/-! ### Reads of the prefetched tables -/

/-- A word read from scalar memory, at the head of a program. -/
theorem wp_word {α : Type} {Q : α → sProp 𝕄} {s : Shape} {M : Memref sig .tc .smem s .i32} {r : Rect s} {h1 : r.shape.numel = 1} {h : EltTy.packing .i32 = 1}
    {q : PosShare TreeShare} {f : Buf (Elt F) (M.view.loc (c : Thread nD τ))} {K : Elt F .i32 → Prog (TpuEff nD τ sig (Elt F) Λ₀ .tc) α} {w : BitVec 32}
    (hw : (M.access r).read (Elt F) f (Shape.Idx.first (h1.symm ▸ Nat.one_pos)) = w) :
    (M.view.loc (c : Thread nD τ) ↦{q} f)
      ⊢ iprop(((M.view.loc (c : Thread nD τ) ↦{q} f) -∗ wp frame (wpE defs₀ 𝒱 (c : Thread nD τ) bd) Set.univ (K w) Q)
        -∗ wp frame (wpE defs₀ 𝒱 (c : Thread nD τ) bd) Set.univ (smemLoad (p := .tc) M r h1 h >>= K) Q) := by
  have hprog : (smemLoad (p := .tc) M r h1 h >>= K : Prog (TpuEff nD τ sig (Elt F) Λ₀ .tc) α)
    = smemLoadElt (p := .tc) M r (View.loads_smem_one h h1) (Shape.Idx.first (h1.symm ▸ Nat.one_pos)) K := rfl
  rw [hprog]
  iintro Ht Hk
  iapply (wp_smemLoadElt 𝒱 (c : Thread nD τ) bd Set.univ (Finset.subset_univ _)) $$ [Ht]
  · iexact Ht
  iintro Ht
  rw [hw]
  iapply Hk
  iexact Ht

/-- An expert's word, at its place. -/
theorem expert_at {M1 : Memref sig .tc .smem S32 .i32} (f1 : Buf (Elt F) (M1.view.loc (c : Thread nD τ))) {off : Fin 1 → ℕ} (e : ℕ) (he : e < 32)
    (hoff : off = ![e]) (inb : ∀ a, off a + S1.size a ≤ S32.size a) (x : S1.Idx) :
    (M1.access (Rect.unit (s := S32) off S1.size inb)).read (Elt F) f1 x = M1.view.read (Elt F) f1 (ix1 ⟨e, he⟩) := by
  subst hoff
  show M1.view.read (Elt F) f1 ((Rect.unit (s := S32) ![e] S1.size inb).emb x) = _
  congr 1
  funext a
  have hx : (x a).val = 0 := by have := (x a).isLt; match a with | ⟨0, _⟩ => exact Nat.lt_one_iff.mp this
  apply Fin.ext
  match a with
  | ⟨0, _⟩ => simpa using hx

/-- The count's word. -/
theorem count_at {M2 : Memref sig .tc .smem S1 .i32} (f2 : Buf (Elt F) (M2.view.loc (c : Thread nD τ)))
    (inb : ∀ a, ![0] a + S1.size a ≤ S1.size a) (x : S1.Idx) :
    (M2.access (Rect.unit (s := S1) ![0] S1.size inb)).read (Elt F) f2 x = M2.view.read (Elt F) f2 (ix1 0) := by
  show M2.view.read (Elt F) f2 ((Rect.unit (s := S1) ![0] S1.size inb).emb x) = _
  congr 1
  funext a
  have hx : (x a).val = 0 := by have := (x a).isLt; match a with | ⟨0, _⟩ => exact Nat.lt_one_iff.mp this
  apply Fin.ext
  match a with
  | ⟨0, _⟩ => simpa using hx

end Cert.Proof.Body
-- ==== Proof.ClearPhase.lean ====
/-
  The first phase of the dispatch kernel's body, assembled: the zero block stored, the two loops that start the clearing
  copies, the two that wait for them.
-/
module

public import proofs.«01_k».proof.Proof.Clears

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU F) ℕ

variable (𝒱 : Variants) (c : Dev nD) (bd : Option 𝒱.V) {ιwm : ℕ}
variable {M1 : Memref sig .tc .smem S32 .i32} {M2 : Memref sig .tc .smem S1 .i32} {M6 : Memref sig .tc .vmem S4096x128 .f32}
variable (q1 q2 : PosShare TreeShare) (f1 : Buf (Elt F) (M1.view.loc (c : Thread nD τ))) (f2 : Buf (Elt F) (M2.view.loc (c : Thread nD τ)))
variable (f6 : Buf (Elt F) (M6.view.loc (c : Thread nD τ))) (f0 : Buf (Elt F) (xsL c)) (p : ℕ → BitVec 32) (v : BitVec 32)
variable (hp : ∀ e (he : e < 32), M1.view.read (Elt F) f1 (ix1 ⟨e, he⟩) = p e) (hv : v.toNat ≤ 160)

include hp in
/-- A trip of the loop over the experts: its word read, its tail block's clearing copy started. -/
theorem trip1 (i : grid0.Coords) (h1 : M1.IsWhole) (h2 : M2.IsWhole) (M3 : Memref sig .tc .smem S1x1x4096 .i32) (h3 : M3.IsWhole)
    (M4 : Memref sig .tc .vmem S8192x128 .f32) (h4 : M4.IsWhole) (h5 : (Memref.whole main_v6 : Memref sig .tc .hbm S655360x128 .f32).IsWhole)
    (h6 : M6.IsWhole) (s7 : DmaSems sig S_) (s8 : DmaSems sig S_) (hc : k0_cond1 i = 1#1) (hchk : ∀ e, e < 32 → k0_chk1 i (p e))
    (hf6 : ∀ x, M6.view.read (Elt F) f6 x = zero32 (F := F)) {n : ℕ} (hn : 32 ≤ n) (k : Fin k0_t1_loop.trips) :
    iprop(wmInv EW ιwm ∗ (M1.view.loc (c : Thread nD τ) ↦{q1} f1) ∗ clearing c f6 f0 p v.toNat s8.sem n k.val 0)
      ⊢ wp frame (wpE defs₀ 𝒱 (c : Thread nD τ) bd) Set.univ (k0_t1_body (F := F) i M1 h1 M2 h2 M3 h3 M4 h4 (Memref.whole main_v6) h5 M6 h6 s7 s8 hc k ⟨⟩)
          (fun _ => iprop(wmInv EW ιwm ∗ (M1.view.loc (c : Thread nD τ) ↦{q1} f1) ∗ clearing c f6 f0 p v.toNat s8.sem n (k.val + 1) 0)) := by
  have hk : k.val < 32 := lt_of_lt_of_eq k.isLt trips1
  iintro ⟨#Hwm, Ht, HR⟩
  unfold k0_t1_body
  iapply (wp_word 𝒱 c bd ((expert_at c f1 k.val hk (off1_eq k) _ _).trans (hp _ hk))) $$ [Ht]
  · iexact Ht
  iintro Ht
  iapply (wp_assume 𝒱 (c : Thread nD τ) bd Set.univ (hchk k.val hk))
  iapply (wp_clear (n := n) 𝒱 c bd f6 f0 p v.toNat hf6 (tailRow (p k.val)) (off2_eq _) (j := k.val) (by omega) (by unfold clearRows; rw [if_pos hk])) $$ [HR]
  · isplitr; · iexact Hwm
    iexact HR
  iintro HR
  sl_step
  isplitr; · iexact Hwm
  isplitl [Ht]; · iexact Ht
  iexact HR

include hv in
/-- A trip of the loop over the blocks past those in use. -/
theorem trip2 (i : grid0.Coords) (h1 : M1.IsWhole) (h2 : M2.IsWhole) (M3 : Memref sig .tc .smem S1x1x4096 .i32) (h3 : M3.IsWhole)
    (M4 : Memref sig .tc .vmem S8192x128 .f32) (h4 : M4.IsWhole) (h5 : (Memref.whole main_v6 : Memref sig .tc .hbm S655360x128 .f32).IsWhole)
    (h6 : M6.IsWhole) (s7 : DmaSems sig S_) (s8 : DmaSems sig S_) (hc : k0_cond1 i = 1#1) (hchk : k0_chk2 i v)
    (hf6 : ∀ x, M6.view.read (Elt F) f6 x = zero32 (F := F)) (k : Fin (k0_t2_loop v).trips) :
    iprop(wmInv EW ιwm ∗ clearing c f6 f0 p v.toNat s8.sem (32 + (160 - v.toNat)) (32 + k.val) 0)
      ⊢ wp frame (wpE defs₀ 𝒱 (c : Thread nD τ) bd) Set.univ (k0_t2_body (F := F) i M1 h1 M2 h2 M3 h3 M4 h4 (Memref.whole main_v6) h5 M6 h6 s7 s8 hc v hchk k ⟨⟩)
          (fun _ => iprop(wmInv EW ιwm ∗ clearing c f6 f0 p v.toNat s8.sem (32 + (160 - v.toNat)) (32 + (k.val + 1)) 0)) := by
  have hk : k.val < 160 - v.toNat := lt_of_lt_of_eq k.isLt (trips2 hv)
  iintro ⟨#Hwm, HR⟩
  unfold k0_t2_body
  iapply (wp_clear (n := (32 + (160 - v.toNat))) 𝒱 c bd f6 f0 p v.toNat hf6 ((v.toNat + k.val) * 4096) (off3_eq hv k) (j := 32 + k.val) (by omega)
    (by unfold clearRows; rw [if_neg (by omega), Nat.add_sub_cancel_left])) $$ [HR]
  · isplitr; · iexact Hwm
    iexact HR
  iintro HR
  sl_step
  isplitr; · iexact Hwm
  iexact HR

include hp in
/-- A trip of the loop that waits for the experts' copies. -/
theorem trip4 (i : grid0.Coords) (h1 : M1.IsWhole) (h2 : M2.IsWhole) (M3 : Memref sig .tc .smem S1x1x4096 .i32) (h3 : M3.IsWhole)
    (M4 : Memref sig .tc .vmem S8192x128 .f32) (h4 : M4.IsWhole) (h5 : (Memref.whole main_v6 : Memref sig .tc .hbm S655360x128 .f32).IsWhole)
    (h6 : M6.IsWhole) (s7 : DmaSems sig S_) (s8 : DmaSems sig S_) (hc : k0_cond1 i = 1#1) (hchk : ∀ e, e < 32 → k0_chk3 i (p e)) {n : ℕ} (hn : 32 ≤ n) (k : Fin k0_t4_loop.trips) :
    iprop((M1.view.loc (c : Thread nD τ) ↦{q1} f1) ∗ clearing c f6 f0 p v.toNat s8.sem n n (k.val * 65536) ∗ ∃ W, owes (c : Thread nD τ) 0 W)
      ⊢ wp frame (wpE defs₀ 𝒱 (c : Thread nD τ) bd) Set.univ (k0_t4_body (F := F) i M1 h1 M2 h2 M3 h3 M4 h4 (Memref.whole main_v6) h5 M6 h6 s7 s8 hc k ⟨⟩)
          (fun _ => iprop((M1.view.loc (c : Thread nD τ) ↦{q1} f1) ∗ clearing c f6 f0 p v.toNat s8.sem n n ((k.val + 1) * 65536) ∗ ∃ W, owes (c : Thread nD τ) 0 W)) := by
  have hk : k.val < 32 := lt_of_lt_of_eq k.isLt trips4
  iintro ⟨Ht, HR⟩
  unfold k0_t4_body
  iapply (wp_word 𝒱 c bd ((expert_at c f1 k.val hk (off5_eq k) _ _).trans (hp _ hk))) $$ [Ht]
  · iexact Ht
  iintro Ht
  iapply (wp_assume 𝒱 (c : Thread nD τ) bd Set.univ (hchk k.val hk))
  iapply (wp_clearWait (n := n) 𝒱 c bd f6 f0 p v.toNat (a := k.val) (by omega)) $$ [HR]
  · iexact HR
  iintro HR
  sl_step
  isplitl [Ht]; · iexact Ht
  iexact HR

include hv in
/-- A trip of the loop that waits for the other blocks' copies. -/
theorem trip5 (i : grid0.Coords) (h1 : M1.IsWhole) (h2 : M2.IsWhole) (M3 : Memref sig .tc .smem S1x1x4096 .i32) (h3 : M3.IsWhole)
    (M4 : Memref sig .tc .vmem S8192x128 .f32) (h4 : M4.IsWhole) (h5 : (Memref.whole main_v6 : Memref sig .tc .hbm S655360x128 .f32).IsWhole)
    (h6 : M6.IsWhole) (s7 : DmaSems sig S_) (s8 : DmaSems sig S_) (hc : k0_cond1 i = 1#1) (hchk : k0_chk4 i v) (k : Fin (k0_t5_loop v).trips) :
    iprop(clearing c f6 f0 p v.toNat s8.sem (32 + (160 - v.toNat)) (32 + (160 - v.toNat)) ((32 + k.val) * 65536) ∗ ∃ W, owes (c : Thread nD τ) 0 W)
      ⊢ wp frame (wpE defs₀ 𝒱 (c : Thread nD τ) bd) Set.univ (k0_t5_body (F := F) i M1 h1 M2 h2 M3 h3 M4 h4 (Memref.whole main_v6) h5 M6 h6 s7 s8 hc v hchk k ⟨⟩)
          (fun _ => iprop(clearing c f6 f0 p v.toNat s8.sem (32 + (160 - v.toNat)) (32 + (160 - v.toNat)) ((32 + (k.val + 1)) * 65536) ∗ ∃ W, owes (c : Thread nD τ) 0 W)) := by
  have hk : k.val < 160 - v.toNat := lt_of_lt_of_eq k.isLt (trips2 hv)
  iintro HR
  unfold k0_t5_body
  iapply (wp_clearWait (n := (32 + (160 - v.toNat))) 𝒱 c bd f6 f0 p v.toNat (a := 32 + k.val) (by omega)) $$ [HR]
  · iexact HR
  iintro HR
  sl_step
  iexact HR

/-- The zero block's buffer once the zeros are stored. -/
def zeroed (f6 : Buf (Elt F) (M6.view.loc (c : Thread nD τ))) : Buf (Elt F) (M6.view.loc (c : Thread nD τ)) :=
  (M6.access (Rect.unit (s := S4096x128) ![0, 0] S4096x128.size inb_S4096x128_S4096x128_0_0)).write (Elt F) f6 (k0_pay1 (F := F)) Finset.univ

theorem read_zeroed (x : S4096x128.Idx) : M6.view.read (Elt F) (zeroed c f6) x = zero32 (F := F) := by
  have hx : (Rect.unit (s := S4096x128) ![0, 0] S4096x128.size inb_S4096x128_S4096x128_0_0).emb x = x := by
    funext a; apply Fin.ext
    match a with
    | ⟨0, _⟩ => simp
    | ⟨1, _⟩ => simp
  have h := congrFun (View.read_write_univ (v := M6.access (Rect.unit (s := S4096x128) ![0, 0] S4096x128.size inb_S4096x128_S4096x128_0_0)) f6 (k0_pay1 (F := F))) x
  have h2 : M6.view.read (Elt F) (zeroed c f6) ((Rect.unit (s := S4096x128) ![0, 0] S4096x128.size inb_S4096x128_S4096x128_0_0).emb x) = zero32 (F := F) := h
  rwa [hx] at h2

include hp hv in
/-- The phase: every block it names ends at zero, nothing else of the result touched. -/
theorem wp_clears {Q : PUnit → sProp 𝕄} (i : grid0.Coords) (h1 : M1.IsWhole) (h2 : M2.IsWhole) (M3 : Memref sig .tc .smem S1x1x4096 .i32) (h3 : M3.IsWhole)
    (M4 : Memref sig .tc .vmem S8192x128 .f32) (h4 : M4.IsWhole) (h5 : (Memref.whole main_v6 : Memref sig .tc .hbm S655360x128 .f32).IsWhole)
    (h6 : M6.IsWhole) (s7 : DmaSems sig S_) (s8 : DmaSems sig S_) (hc : k0_cond1 i = 1#1) (hchk : ∀ e, e < 32 → k0_chk1 i (p e))
    (hv2 : M2.view.read (Elt F) f2 (ix1 0) = v) {k : PUnit → Prog (TpuEff nD τ sig (Elt F) Λ₀ .tc) PUnit} :
    iprop(wmInv EW ιwm ∗ (M1.view.loc (c : Thread nD τ) ↦{q1} f1) ∗ (M2.view.loc (c : Thread nD τ) ↦{q2} f2) ∗ (M6.view.loc (c : Thread nD τ) ↦{fullShare} f6)
        ∗ (xsL c ↦{fullShare} f0) ∗ semVal ((c : Thread nD τ), .dma s8.sem) 0 ∗ ∃ W, owes (c : Thread nD τ) 0 W)
      ⊢ iprop((iprop((M1.view.loc (c : Thread nD τ) ↦{q1} f1) ∗ (M2.view.loc (c : Thread nD τ) ↦{q2} f2) ∗ (∃ f, M6.view.loc (c : Thread nD τ) ↦{fullShare} f)
            ∗ (xsL c ↦{fullShare} (wrote (clearRows c p v.toNat) (32 + (160 - v.toNat))).piecewise (fun _ => zero32 (F := F)) f0)
            ∗ semVal ((c : Thread nD τ), .dma s8.sem) 0 ∗ ∃ W, owes (c : Thread nD τ) 0 W)
          -∗ wp frame (wpE defs₀ 𝒱 (c : Thread nD τ) bd) Set.univ (k ⟨⟩) Q)
        -∗ wp frame (wpE defs₀ 𝒱 (c : Thread nD τ) bd) Set.univ (do
            let v9 : Vec F S4096x128 .f32 ← Prog.lift (.load M6 (Rect.unit (s := S4096x128) ![0, 0] S4096x128.size inb_S4096x128_S4096x128_0_0).toLoadRect (View.loadsAt_vmem h_S4096x128))
            Prog.lift (.store M6 (Rect.unit (s := S4096x128) ![0, 0] S4096x128.size inb_S4096x128_S4096x128_0_0) (k0_pay1 (F := F)) Finset.univ (View.stores_vmem_bits_univ h_S4096x128 rfl) (.inl rfl))
            Scf.Loop.for k0_t1_loop (k0_t1_ok i hc) ⟨⟩ (k0_t1_body (F := F) i M1 h1 M2 h2 M3 h3 M4 h4 (Memref.whole main_v6) h5 M6 h6 s7 s8 hc)
            let v13 : Elt F .i32 ← smemLoad M2 (Rect.unit (s := S1) ![0] S1.size inb_S1_S1_0) numel1_S1 rfl
            have hw2 : k0_chk2 i v13 := (← Prog.lift (TpuEff.assume (k0_chk2 i v13) (k0_chk2.dec i v13))).down
            Scf.Loop.for (k0_t2_loop v13) (k0_t2_ok i v13 hw2 hc) ⟨⟩ (k0_t2_body (F := F) i M1 h1 M2 h2 M3 h3 M4 h4 (Memref.whole main_v6) h5 M6 h6 s7 s8 hc v13 hw2)
            Scf.Loop.for (k0_t3_loop v13) (k0_t3_ok i v13 hw2 hc) ⟨⟩ (k0_t3_body (F := F) i M1 h1 M2 h2 M3 h3 M4 h4 (Memref.whole main_v6) h5 M6 h6 s7 s8 hc v13 hw2)
            Scf.Loop.for k0_t4_loop (k0_t4_ok i hc) ⟨⟩ (k0_t4_body (F := F) i M1 h1 M2 h2 M3 h3 M4 h4 (Memref.whole main_v6) h5 M6 h6 s7 s8 hc)
            let v20 : Elt F .i32 ← smemLoad M2 (Rect.unit (s := S1) ![0] S1.size inb_S1_S1_0) numel1_S1 rfl
            have hw4 : k0_chk4 i v20 := (← Prog.lift (TpuEff.assume (k0_chk4 i v20) (k0_chk4.dec i v20))).down
            Scf.Loop.for (k0_t5_loop v20) (k0_t5_ok i v20 hw4 hc) ⟨⟩ (k0_t5_body (F := F) i M1 h1 M2 h2 M3 h3 M4 h4 (Memref.whole main_v6) h5 M6 h6 s7 s8 hc v20 hw4)
            Scf.Loop.for (k0_t6_loop v20) (k0_t6_ok i v20 hw4 hc) ⟨⟩ (k0_t6_body (F := F) i M1 h1 M2 h2 M3 h3 M4 h4 (Memref.whole main_v6) h5 M6 h6 s7 s8 hc v20 hw4)
            k ⟨⟩) Q) := by
  have hno : ∀ t : Fin (k0_t3_loop v).trips, False := fun t => Scf.rem_no_trip v (Scalar.subi 160#32 v) t
  iintro ⟨#Hwm, Ht, Hu, H6, Hx, Hs, HO⟩ Hk
  iapply (wp_load_rect 𝒱 (c : Thread nD τ) bd Set.univ (Finset.subset_univ _)) $$ [H6]
  · iexact H6
  iintro H6
  iapply (wp_store 𝒱 (c : Thread nD τ) bd Set.univ (Finset.subset_univ _)) $$ [H6]
  · iexact H6
  iintro H6
  imod (race_start EC EW (sℓ := M6.view.loc (c : Thread nD τ)) (dℓ := xsL c) (zeroed c f6) f0 (fun _ => zero32 (F := F)) (clearRows c p v.toNat) c (.dma s8.sem) () 65536 (32 + (160 - v.toNat))) $$ [H6 Hx Hs] with HR
  · isplitr; · iexact Hwm
    isplitl [H6]; · iexact H6
    isplitl [Hx] <;> iassumption
  iapply (Scf.wp_for_bind frame (wpE defs₀ 𝒱 (c : Thread nD τ) bd) Set.univ _ _ _ _ _ _
    (fun j _ => iprop(wmInv EW ιwm ∗ (M1.view.loc (c : Thread nD τ) ↦{q1} f1) ∗ clearing c (zeroed c f6) f0 p v.toNat s8.sem (32 + (160 - v.toNat)) j 0))
    (fun k acc => trip1 𝒱 c bd q1 f1 (zeroed c f6) f0 p v hp i h1 h2 M3 h3 M4 h4 h5 h6 s7 s8 hc hchk (read_zeroed c f6) (by omega) k)) $$ [Ht HR]
  · isplitr; · iexact Hwm
    isplitl [Ht] <;> iassumption
  iintro %_ ⟨-, Ht, HR⟩
  rw [show Scf.trips k0_t1_loop.lb k0_t1_loop.ub k0_t1_loop.st = 32 from trips1]
  iapply (wp_word 𝒱 c bd ((count_at c f2 _ _).trans hv2)) $$ [Hu]
  · iexact Hu
  iintro Hu
  iapply (wp_assume 𝒱 (c : Thread nD τ) bd Set.univ (chk2_of_le hv i))
  iapply (Scf.wp_for_bind frame (wpE defs₀ 𝒱 (c : Thread nD τ) bd) Set.univ _ _ _ _ _ _
    (fun j _ => iprop(wmInv EW ιwm ∗ clearing c (zeroed c f6) f0 p v.toNat s8.sem (32 + (160 - v.toNat)) (32 + j) 0))
    (fun k acc => trip2 𝒱 c bd (zeroed c f6) f0 p v hv i h1 h2 M3 h3 M4 h4 h5 h6 s7 s8 hc (chk2_of_le hv i) (read_zeroed c f6) k)) $$ [HR]
  · isplitr; · iexact Hwm
    iexact HR
  iintro %_ ⟨-, HR⟩
  rw [show Scf.trips (k0_t2_loop v).lb (k0_t2_loop v).ub (k0_t2_loop v).st = 160 - v.toNat from trips2 hv]
  iapply (wp_noTrips 𝒱 c bd hno)
  iapply (Scf.wp_for_bind frame (wpE defs₀ 𝒱 (c : Thread nD τ) bd) Set.univ _ _ _ _ _ _
    (fun j _ => iprop((M1.view.loc (c : Thread nD τ) ↦{q1} f1) ∗ clearing c (zeroed c f6) f0 p v.toNat s8.sem (32 + (160 - v.toNat)) (32 + (160 - v.toNat)) (j * 65536) ∗ ∃ W, owes (c : Thread nD τ) 0 W))
    (fun k acc => trip4 𝒱 c bd q1 f1 (zeroed c f6) f0 p v hp i h1 h2 M3 h3 M4 h4 h5 h6 s7 s8 hc hchk (by omega) k)) $$ [Ht HR HO]
  · isplitl [Ht]; · iexact Ht
    isplitl [HR]
    · rw [Nat.zero_mul]; iexact HR
    · iexact HO
  iintro %_ ⟨Ht, HR⟩
  rw [show Scf.trips k0_t4_loop.lb k0_t4_loop.ub k0_t4_loop.st = 32 from trips4]
  iapply (wp_word 𝒱 c bd ((count_at c f2 _ _).trans hv2)) $$ [Hu]
  · iexact Hu
  iintro Hu
  iapply (wp_assume 𝒱 (c : Thread nD τ) bd Set.univ (chk4_of_le hv i))
  iapply (Scf.wp_for_bind frame (wpE defs₀ 𝒱 (c : Thread nD τ) bd) Set.univ _ _ _ _ _ _
    (fun j _ => iprop(clearing c (zeroed c f6) f0 p v.toNat s8.sem (32 + (160 - v.toNat)) (32 + (160 - v.toNat)) ((32 + j) * 65536) ∗ ∃ W, owes (c : Thread nD τ) 0 W))
    (fun k acc => trip5 𝒱 c bd (zeroed c f6) f0 p v hv i h1 h2 M3 h3 M4 h4 h5 h6 s7 s8 hc (chk4_of_le hv i) k)) $$ [HR]
  · iexact HR
  iintro %_ ⟨HR, HO⟩
  rw [show Scf.trips (k0_t5_loop v).lb (k0_t5_loop v).ub (k0_t5_loop v).st = 160 - v.toNat from trips2 hv]
  iapply (wp_noTrips 𝒱 c bd hno)
  rw [Nat.mul_comm (32 + (160 - v.toNat)) 65536]
  imod (race_end EC EW (sℓ := M6.view.loc (c : Thread nD τ)) (dℓ := xsL c) (zeroed c f6) f0 (fun _ => zero32 (F := F)) (clearRows c p v.toNat) (c := c) (sm := .dma s8.sem) (ι := ()) (N := 65536) (n := (32 + (160 - v.toNat))) (by decide)) $$ [HR] with ⟨H6, Hx, Hs⟩
  · isplitr; · iexact Hwm
    iexact HR
  iapply Hk
  isplitl [Ht]; · iexact Ht
  isplitl [Hu]; · iexact Hu
  isplitl [H6]; · iexists _; iexact H6
  isplitl [Hx]; · iexact Hx
  isplitl [Hs]; · iexact Hs
  iexact HO

end Cert.Proof.Body
-- ==== Proof.Whole.lean ====
/-
  The dispatch kernel's whole body at one grid point, from the pieces of the two phases.
-/
module

public import proofs.«01_k».proof.Proof.Sends
public import proofs.«01_k».proof.Proof.ClearPhase

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU F) ℕ

/-- The result after grid point `t`'s first phase: cleared at the first point, as it was at the others. -/
def cleared (c : Dev nD) (p : ℕ → BitVec 32) (u : ℕ) (first : Bool) (f : Buf (Elt F) (xsL c)) : Buf (Elt F) (xsL c) :=
  if first then (wrote (clearRows c p u) (32 + (160 - u))).piecewise (fun _ => zero32 (F := F)) f else f

variable (𝒱 : Variants) (c : Dev nD) (bd : Option 𝒱.V) {ιwm : ℕ}
variable {M1 : Memref sig .tc .smem S32 .i32} {M2 : Memref sig .tc .smem S1 .i32} {M3 : Memref sig .tc .smem S1x1x4096 .i32}
  {M4 : Memref sig .tc .vmem S8192x128 .f32} {M6 : Memref sig .tc .vmem S4096x128 .f32}
variable (q1 q2 : PosShare TreeShare) (f1 : Buf (Elt F) (M1.view.loc (c : Thread nD τ))) (f2 : Buf (Elt F) (M2.view.loc (c : Thread nD τ)))
variable (f3 : Buf (Elt F) (M3.view.loc (c : Thread nD τ))) (f4 : Buf (Elt F) (M4.view.loc (c : Thread nD τ)))
variable (f6 : Buf (Elt F) (M6.view.loc (c : Thread nD τ))) (f0 g : Buf (Elt F) (xsL c)) (p w : ℕ → BitVec 32) (v : BitVec 32)

/-- The body, from its tables, its tile and the result held whole: the result is cleared (at the first point), then holds
    the tile's pieces at the rows their words name; everything else is as it was. -/
theorem wp_body {Q : PUnit → sProp 𝕄} (i : grid0.Coords) (h1 : M1.IsWhole) (h2 : M2.IsWhole) (h3 : M3.IsWhole) (h4 : M4.IsWhole)
    (h5 : (Memref.whole main_v6 : Memref sig .tc .hbm S655360x128 .f32).IsWhole) (h6 : M6.IsWhole) (s7 s8 : DmaSems sig S_)
    (first : Bool) (hfirst : k0_cond1 i = 1#1 ↔ first = true)
    (hp : ∀ e (he : e < 32), M1.view.read (Elt F) f1 (ix1 ⟨e, he⟩) = p e) (hv : v.toNat ≤ 160)
    (hchk : ∀ e, e < 32 → k0_chk1 i (p e)) (hv2 : M2.view.read (Elt F) f2 (ix1 0) = v)
    (hw : ∀ e (he : e < 4096), M3.view.read (Elt F) f3 (ix3 0 0 ⟨e, he⟩) = w e) (hwi : WordsIn w)
    (hsv : Served w (M4.view.read (Elt F) f4) g) :
    iprop(wmInv EW ιwm ∗ (M1.view.loc (c : Thread nD τ) ↦{q1} f1) ∗ (M2.view.loc (c : Thread nD τ) ↦{q2} f2)
        ∗ (M3.view.loc (c : Thread nD τ) ↦{fullShare} f3) ∗ (M4.view.loc (c : Thread nD τ) ↦{fullShare} f4)
        ∗ (M6.view.loc (c : Thread nD τ) ↦{fullShare} f6) ∗ (xsL c ↦{fullShare} f0)
        ∗ semVal ((c : Thread nD τ), .dma s7.sem) 0 ∗ semVal ((c : Thread nD τ), .dma s8.sem) 0 ∗ ∃ W, owes (c : Thread nD τ) 0 W)
      ⊢ iprop((iprop((M1.view.loc (c : Thread nD τ) ↦{q1} f1) ∗ (M2.view.loc (c : Thread nD τ) ↦{q2} f2)
            ∗ (M3.view.loc (c : Thread nD τ) ↦{fullShare} f3) ∗ (M4.view.loc (c : Thread nD τ) ↦{fullShare} f4)
            ∗ (∃ f, M6.view.loc (c : Thread nD τ) ↦{fullShare} f)
            ∗ (xsL c ↦{fullShare} (wrote (sendRows c w) 4096).piecewise g (cleared c p v.toNat first f0))
            ∗ semVal ((c : Thread nD τ), .dma s7.sem) 0 ∗ semVal ((c : Thread nD τ), .dma s8.sem) 0 ∗ ∃ W, owes (c : Thread nD τ) 0 W) -∗ Q ⟨⟩)
        -∗ wp frame (wpE defs₀ 𝒱 (c : Thread nD τ) bd) Set.univ
            (cc0__dispatch_kernel (F := F) i M1 h1 M2 h2 M3 h3 M4 h4 (Memref.whole main_v6) h5 M6 h6 s7 s8) Q) := by
  rw [cc0__dispatch_kernel_eq_skeleton]
  unfold cc0__dispatch_kernel_skel
  dsimp only
  iintro ⟨#Hwm, H1, H2, H3, H4, H6, Hx, Hs7, Hs8, HO⟩ Hk
  by_cases hc : k0_cond1 i = 1#1
  · rw [dif_pos hc]
    have hft : first = true := hfirst.mp hc
    iapply (wp_clears 𝒱 c bd q1 q2 f1 f2 f6 f0 p v hp hv i h1 h2 M3 h3 M4 h4 h5 h6 s7 s8 hc hchk hv2 (k := fun (_ : PUnit.{1}) => _)) $$ [H1 H2 H6 Hx Hs8 HO]
    · isplitr; · iexact Hwm
      isplitl [H1]; · iexact H1
      isplitl [H2]; · iexact H2
      isplitl [H6]; · iexact H6
      isplitl [Hx]; · iexact Hx
      isplitl [Hs8]; · iexact Hs8
      iexact HO
    iintro ⟨H1, H2, H6, Hx, Hs8, %W, HO⟩
    iapply (wp_sends 𝒱 c bd f3 f4 _ g w hw hwi hsv i M1 h1 M2 h2 h3 h4 h5 M6 h6 s7 s8 W) $$ [H3 H4 Hx Hs7 HO]
    · isplitr; · iexact Hwm
      isplitl [H3]; · iexact H3
      isplitl [H4]; · iexact H4
      isplitl [Hx]; · iexact Hx
      isplitl [Hs7] <;> iassumption
    iintro ⟨H3, H4, Hx, Hs7, HO⟩
    sl_step
    iapply Hk
    isplitl [H1]; · iexact H1
    isplitl [H2]; · iexact H2
    isplitl [H3]; · iexact H3
    isplitl [H4]; · iexact H4
    isplitl [H6]; · iexact H6
    isplitl [Hx]; · rw [cleared, if_pos hft]; iexact Hx
    isplitl [Hs7]; · iexact Hs7
    isplitl [Hs8]; · iexact Hs8
    iexact HO
  · rw [dif_neg hc]
    have hff : ¬ first = true := fun h => hc (hfirst.mpr h)
    icases HO with ⟨%W, HO⟩
    iapply (wp_sends 𝒱 c bd f3 f4 _ g w hw hwi hsv i M1 h1 M2 h2 h3 h4 h5 M6 h6 s7 s8 W) $$ [H3 H4 Hx Hs7 HO]
    · isplitr; · iexact Hwm
      isplitl [H3]; · iexact H3
      isplitl [H4]; · iexact H4
      isplitl [Hx]; · iexact Hx
      isplitl [Hs7] <;> iassumption
    iintro ⟨H3, H4, Hx, Hs7, HO⟩
    sl_step
    iapply Hk
    isplitl [H1]; · iexact H1
    isplitl [H2]; · iexact H2
    isplitl [H3]; · iexact H3
    isplitl [H4]; · iexact H4
    isplitl [H6]; · iexists _; iexact H6
    isplitl [Hx]; · rw [cleared, if_neg hff]; iexact Hx
    isplitl [Hs7]; · iexact Hs7
    isplitl [Hs8]; · iexact Hs8
    iexact HO

end Cert.Proof.Body
-- ==== Proof.Run.lean ====
/-
  The dispatch kernel's run, for any float values: seven host operations, then one region of sixteen points whose body
  sends each tile's pieces to the rows the routing names.

  The result is no window of the pipeline: the body writes it by its own copies, so its buffer travels in the invariant,
  with what is known of it after each point. The two tables lie in scalar memory and are read by the body. What the run
  asks of the launch memory is the structure `Fits`, which names the result's final contents `g`.
-/
module

public import proofs.«01_k».proof.Proof.Whole
public import proofs.«01_k».proof.Proof.Gen.KernelIdeal.Launch
public import Idealize.ShloMosaic.Lib.Pipeline.Regions
public import Idealize.ShloMosaic.Lib.Pipeline.Kit

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UU F) ℕ

/-- The pipeline library's algebra within the certificate's. -/
abbrev EP : Emb (UR sig nD τ) 𝕄 := embL

variable (m : (ℓ : Loc nD τ sig) → Buf (Elt F) ℓ) (ρ : Dev nD → PrngReg)

/-! ## Before the region -/

/-- A core's buffers at launch, -/
abbrev V₀ (c : Dev nD) : Valuation τ sig (Elt F) := fun b => (s₀ m ρ).mem ((c : Dev nD), b)
/-- and at the region's entry. -/
abbrev V (c : Dev nD) (b : Ref sig .tc) : Buf (Elt F) ((c : Thread nD τ).loc b) := StableHlo.after hostOps0 (V₀ m ρ c) b

/-- A buffer no host operation writes reaches the region as launched. -/
theorem V_kept (c : Dev nD) (b : Ref sig .tc) (hb : b ≠ main_c ∧ b ≠ main_v0 ∧ b ≠ main_v1 ∧ b ≠ main_v2 ∧ b ≠ main_v3 ∧ b ≠ main_v4 ∧ b ≠ main_v5) :
    V m ρ c b = m ((c : Thread nD τ).loc b) := by
  refine StableHlo.after_of_forall_not_mem (b := Proc.devRef .tc b) hostOps0 (V₀ m ρ c) ?_
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The core's unscoped buffers, within which the host operations run. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## What the tables and the windows hold -/

/-- The tables' contents. -/
abbrev adm : (p : Fin 1) → (pcfgs (F := F) p).Adm := fun _ => ⟨fun k => V m ρ 0 (pre0.ref k), trivial⟩

/-- Point `t`'s block of the routing words, and its block of the activations. -/
def block0 (c : Dev nD) (t : Fin grid0.N) : S1x1x4096.Idx → Elt F .i32 :=
  ((win0 (adm m ρ 0) 0).blk t).view.read (Elt F) (V m ρ c main_v4)
def block1 (c : Dev nD) (t : Fin grid0.N) : S8192x128.Idx → Elt F .f32 :=
  ((win0 (adm m ρ 0) 1).blk t).view.read (Elt F) (V m ρ c main_v5)

/-- Point `t`'s `e`-th routing word; -/
def words (c : Dev nD) (t : Fin grid0.N) (e : ℕ) : BitVec 32 := if h : e < 4096 then block0 m ρ c t (ix3 0 0 ⟨e, h⟩) else 0
/-- expert `e`'s padded end; -/
def ends (c : Dev nD) (e : ℕ) : BitVec 32 := if h : e < 32 then V m ρ c main_arg0 (ix1 ⟨e, h⟩) else 0
/-- the number of blocks in use. -/
def used (c : Dev nD) : BitVec 32 := V m ρ c main_arg1 (ix1 0)

/-- The rows point `t` writes, and those the clearing writes. -/
def sent (c : Dev nD) (t : Fin grid0.N) : Finset S655360x128.Idx := wrote (sendRows c (words m ρ c t)) 4096
def wiped (c : Dev nD) : Finset S655360x128.Idx := wrote (clearRows c (ends m ρ c) (used m ρ c).toNat) (32 + (160 - (used m ρ c).toNat))

/-- What the run asks of the launch memory: the blocks in use are at most all; each expert's padded end names a block of the
    result; every routing word names rows of it; and `g` agrees with every piece sent and is zero wherever none is, all of
    which is cleared. -/
structure Fits (g : (c : Dev nD) → Buf (Elt F) (xsL c)) : Prop where
  few : ∀ c, (used m ρ c).toNat ≤ 160
  chk : ∀ c i e, e < 32 → k0_chk1 i (ends m ρ c e)
  sound : ∀ c t, WordsIn (words m ρ c t)
  served : ∀ c t, Served (words m ρ c t) (block1 m ρ c t) (g c)
  done : ∀ c (i : S655360x128.Idx), (∃ t, i ∈ sent m ρ c t) ∨ (g c i = zero32 (F := F) ∧ i ∈ wiped m ρ c)

/-- What is known of contents `f` before point `n`, of points that each write a set `S t` as `g` has it and a clearing of
    `Z` at the first: the points before have written as `g`, and what was cleared and not written since is `z`. -/
def Known {ι α : Type} {N : ℕ} (S : Fin N → Finset ι) (Z : Finset ι) (g : ι → α) (z : α) (n : ℕ) (f : ι → α) : Prop :=
  (∀ i t, t.val < n → i ∈ S t → f i = g i) ∧ (1 ≤ n → ∀ i, i ∈ Z → (∀ t : Fin N, t.val < n → i ∉ S t) → f i = z)

section Known

variable {ι α : Type} {N : ℕ} {S : Fin N → Finset ι} {Z : Finset ι} {g : ι → α} {z : α}

theorem known_zero (f : ι → α) : Known S Z g z 0 f :=
  ⟨fun _ _ h => absurd h (Nat.not_lt_zero _), fun h => absurd h (by decide)⟩

/-- One more point. -/
theorem known_succ (t : Fin N) (f f' : ι → α) (h : Known S Z g z t.val f) (h0 : t.val = 0 → ∀ i ∈ Z, f' i = z)
    (h1 : t.val ≠ 0 → f' = f) [∀ i, Decidable (i ∈ S t)] : Known S Z g z (t.val + 1) ((S t).piecewise g f') := by
  refine ⟨fun i t' ht' hi => ?_, fun _ i hi hn => ?_⟩
  · by_cases hs : i ∈ S t
    · exact Finset.piecewise_eq_of_mem _ _ _ hs
    · rw [Finset.piecewise_eq_of_notMem _ _ _ hs]
      have hlt : t'.val < t.val := by
        refine lt_of_le_of_ne (Nat.lt_succ_iff.mp ht') fun he => hs ?_
        rw [← Fin.ext he]; exact hi
      rw [h1 (by omega)]
      exact h.1 i t' hlt hi
  · rw [Finset.piecewise_eq_of_notMem _ _ _ (hn t (Nat.lt_succ_self _))]
    by_cases ht : t.val = 0
    · exact h0 ht i hi
    · rw [h1 ht]
      exact h.2 (by omega) i hi fun t' ht' => hn t' (by omega)

/-- After the last point the contents are `g`, where every place was written, or cleared and `z` in `g`. -/
theorem known_last (hN : 1 ≤ N) (hd : ∀ i, (∃ t, i ∈ S t) ∨ (g i = z ∧ i ∈ Z)) (f : ι → α) (h : Known S Z g z N f) : f = g := by
  funext i
  by_cases hs : ∃ t, i ∈ S t
  · obtain ⟨t, ht⟩ := hs
    exact h.1 i t t.isLt ht
  · rcases hd i with ht | ⟨hz, hw⟩
    · exact absurd ht hs
    · rw [hz]
      exact h.2 hN i hw fun t _ ht => hs ⟨t, ht⟩

end Known

variable (g : (c : Dev nD) → Buf (Elt F) (xsL c))

/-- What is known of the result before point `n`. -/
def Good (c : Dev nD) (n : ℕ) (f : Buf (Elt F) (xsL c)) : Prop :=
  Known (sent m ρ c) (wiped m ρ c) (g c) (zero32 (F := F)) n f

theorem good_succ (c : Dev nD) (t : Fin grid0.N) (f : Buf (Elt F) (xsL c)) (h : Good m ρ g c t.val f) :
    Good m ρ g c (t.val + 1)
      ((wrote (sendRows c (words m ρ c t)) 4096).piecewise (g c) (cleared c (ends m ρ c) (used m ρ c).toNat (decide (t.val = 0)) f)) := by
  unfold Good at h ⊢
  refine known_succ (S := sent m ρ c) t f _ h (fun h0 i hi => ?_) (fun h0 => ?_)
  · unfold cleared
    exact (congrFun (if_pos (decide_eq_true h0)) i).trans (Finset.piecewise_eq_of_mem _ _ _ hi)
  · unfold cleared
    exact if_neg (fun h => h0 (of_decide_eq_true h))

theorem good_last (hF : Fits m ρ g) (c : Dev nD) (f : Buf (Elt F) (xsL c)) (h : Good m ρ g c grid0.N f) : f = g c :=
  known_last (by rw [N_0]; decide) (hF.done c) f h

/-! ## The pipeline's proof data -/

/-- The body's own two semaphores. -/
abbrev osem : Fin 2 → SemLoc sig := ![.dma cc0_scratch1.sem, .dma cc0_scratch2.sem]

/-- The invariant before point `n`. -/
def Inv (c : Dev nD) (n : ℕ) : sProp 𝕄 :=
  iprop((∃ ιwm, wmInv EW ιwm) ∗ (((c : Thread nD τ).loc main_arg0) ↦{fullShare} V m ρ c main_arg0)
    ∗ (((c : Thread nD τ).loc main_arg1) ↦{fullShare} V m ρ c main_arg1)
    ∗ (∃ f : Buf (Elt F) ((c : Thread nD τ).loc cc0_scratch0), ((c : Thread nD τ).loc cc0_scratch0) ↦{fullShare} f)
    ∗ (∃ f, ⌜Good m ρ g c n f⌝ ∗ (xsL c ↦{fullShare} f))
    ∗ semVal ((c : Thread nD τ), .dma cc0_scratch1.sem) 0 ∗ semVal ((c : Thread nD τ), .dma cc0_scratch2.sem) 0)

/-- The proof data: the arrays at their entry contents, the staging buffers left as fetched, the invariant, nothing owed. -/
def dats (p : Fin 1) (c : Dev nD) : Dat τ (Elt F) Unit ℕ (UU F) ℕ (Pipeline.pin (pcfgs (F := F)) (adm m ρ) p) c where
  A w := V m ρ c (Pipeline.arrRef spec0 w)
  after w t := match w with
    | ⟨0, _⟩ => block0 m ρ c t
    | ⟨1, _⟩ => block1 m ρ c t
  Φ t := Inv m ρ g c t.val
  q _ := fullShare
  owed _ := 0

theorem A_eq (c : Dev nD) (w : Fin 2) : (dats m ρ g 0 c).A w = V m ρ c (Pipeline.arrRef spec0 w) := by
  dsimp only [dats]

abbrev 𝒱₀ : Variants := Variants.none

theorem fetch_all (w : Fin 2) (t : Fin grid0.N) : ((win0 (adm m ρ 0) w).fetch t) = true := by
  rcases fin_N0 t with rfl | rfl | rfl | rfl | rfl | rfl | rfl | rfl | rfl | rfl | rfl | rfl | rfl | rfl | rfl | rfl <;>
    fin_cases w <;> rfl

theorem before0 (c : Dev nD) (t : Fin grid0.N) (d : S1x1x4096.Idx → Elt F .i32) : (dats m ρ g 0 c).before 0 t d = block0 m ρ c t := by
  unfold Dat.before; exact (if_pos (fetch_all m ρ 0 t)).trans rfl

theorem before1 (c : Dev nD) (t : Fin grid0.N) (d : S8192x128.Idx → Elt F .f32) : (dats m ρ g 0 c).before 1 t d = block1 m ρ c t := by
  unfold Dat.before; exact (if_pos (fetch_all m ρ 1 t)).trans rfl

theorem first_iff (t : Fin grid0.N) : k0_cond1 (grid0.coords t) = 1#1 ↔ decide (t.val = 0) = true := by
  rcases fin_N0 t with rfl | rfl | rfl | rfl | rfl | rfl | rfl | rfl | rfl | rfl | rfl | rfl | rfl | rfl | rfl | rfl <;> decide

end Cert.Proof.Body
-- ==== Proof.Point.lean ====
/-
  The dispatch kernel's body at a point as the pipeline asks for it, and the launch: the run of the whole program.
-/
module

public import proofs.«01_k».proof.Proof.Run

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UU F) ℕ

variable (m : (ℓ : Loc nD τ sig) → Buf (Elt F) ℓ) (ρ : Dev nD → PrngReg) (g : (c : Dev nD) → Buf (Elt F) (xsL c))

/-- A whole memref owned at contents `X`: the buffer at contents that read so. -/
theorem owns_isWhole (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ (M.view.loc (c : Thread nD τ) ↦{fullShare} f)) := by
  unfold owns; rw [h.set_eq_univ]

theorem sound_words (c : Dev nD) (t : Fin grid0.N) {M3 : Memref sig .tc .smem S1x1x4096 .i32} (f3 : Buf (Elt F) (M3.view.loc (c : Thread nD τ)))
    (h3 : M3.view.read (Elt F) f3 = block0 m ρ c t) (e : ℕ) (he : e < 4096) : M3.view.read (Elt F) f3 (ix3 0 0 ⟨e, he⟩) = words m ρ c t e := by
  rw [h3, words, dif_pos he]

/-- The body at point `t`, on the buffers the pipeline hands it. -/
theorem body_at (hF : Fits m ρ g) (c : Dev nD) (t : Fin grid0.N) (M3 : Memref sig .tc .smem S1x1x4096 .i32) (h3 : M3.IsWhole)
    (M4 : Memref sig .tc .vmem S8192x128 .f32) (h4 : M4.IsWhole) :
    iprop(Inv m ρ g c t.val ∗ (∃ W, owes (c : Thread nD τ) (0 : CellTallies nD τ sig Unit) W)
        ∗ owns (c : Thread nD τ) M3 fullShare (block0 m ρ c t) ∗ owns (c : Thread nD τ) M4 fullShare (block1 m ρ c t))
      ⊢ wp frame (wpE (defs₀ (F := F)) 𝒱₀ (c : Thread nD τ) none) Set.univ
          (cc0__dispatch_kernel (F := F) (grid0.coords t) (Memref.whole main_arg0) (Memref.isWhole_whole _) (Memref.whole main_arg1) (Memref.isWhole_whole _)
            M3 h3 M4 h4 (Memref.whole main_v6) (Memref.isWhole_whole _) (Memref.whole cc0_scratch0) (Memref.isWhole_whole _) cc0_scratch1 cc0_scratch2)
          fun _ => iprop(Inv m ρ g c (t.val + 1) ∗ (∃ W, owes (c : Thread nD τ) (0 : CellTallies nD τ sig Unit) W)
            ∗ owns (c : Thread nD τ) M3 fullShare (block0 m ρ c t) ∗ owns (c : Thread nD τ) M4 fullShare (block1 m ρ c t)) := by
  rw [owns_isWhole c M3 h3, owns_isWhole c M4 h4]
  unfold Inv
  iintro ⟨⟨⟨%ιwm, #Hwm⟩, H1, H2, ⟨%f6, H6⟩, ⟨%f0, %hg, Hx⟩, Hs7, Hs8⟩, HO, ⟨%f3, %hf3, H3⟩, ⟨%f4, %hf4, H4⟩⟩
  iapply (wp_body 𝒱₀ c none (M1 := Memref.whole main_arg0) (M2 := Memref.whole main_arg1) (M6 := Memref.whole cc0_scratch0) fullShare fullShare
    (V m ρ c main_arg0) (V m ρ c main_arg1) f3 f4 f6 f0 (g c) (ends m ρ c) (words m ρ c t) (used m ρ c)
    (grid0.coords t) (Memref.isWhole_whole _) (Memref.isWhole_whole _) h3 h4 (Memref.isWhole_whole _) (Memref.isWhole_whole _) cc0_scratch1 cc0_scratch2
    (decide (t.val = 0)) (first_iff t) (fun e he => by unfold ends; rw [dif_pos he]; rfl) (hF.few c) (hF.chk c (grid0.coords t)) rfl
    (sound_words m ρ c t f3 hf3) (hF.sound c t) (by rw [hf4]; exact hF.served c t)) $$ [H1 H2 H3 H4 H6 Hx Hs7 Hs8 HO]
  · isplitr; · iexact Hwm
    isplitl [H1]; · iexact H1
    isplitl [H2]; · iexact H2
    isplitl [H3]; · iexact H3
    isplitl [H4]; · iexact H4
    isplitl [H6]; · iexact H6
    isplitl [Hx]; · iexact Hx
    isplitl [Hs7]; · iexact Hs7
    isplitl [Hs8]; · iexact Hs8
    iexact HO
  iintro ⟨H1, H2, H3, H4, H6, Hx, Hs7, Hs8, HO⟩
  isplitl [H1 H2 H6 Hx Hs7 Hs8]
  · isplitr; · iexists ιwm; iexact Hwm
    isplitl [H1]; · iexact H1
    isplitl [H2]; · iexact H2
    isplitl [H6]; · iexact H6
    isplitl [Hx]
    · iexists _; isplitr; swap
      · iexact Hx
      · ipureintro; exact good_succ m ρ g c t f0 hg
    isplitl [Hs7]; · iexact Hs7
    iexact Hs8
  isplitl [HO]; · iexact HO
  isplitl [H3]
  · iexists f3; isplitr; · ipureintro; exact hf3
    iexact H3
  iexists f4; isplitr; · ipureintro; exact hf4
  iexact H4

/-- The pipeline's obligation at every point. -/
theorem body_obligation (hF : Fits m ρ g) (c : Dev nD) : BodyObligation (dats m ρ g 0 c) (defs₀ (F := F)) 𝒱₀ () Set.univ := fun t => by
  rw [bigSep_W0, bigSep_W0]
  rw [show (dats m ρ g 0 c).Φ t.castSucc = Inv m ρ g c t.val from rfl, show (dats m ρ g 0 c).Φ t.succ = Inv m ρ g c (t.val + 1) from rfl]
  unfold Dat.owesAt Pipeline.owesWithin
  rw [show (dats m ρ g 0 c).owed t.castSucc = 0 from rfl, show (dats m ρ g 0 c).owed t.succ = 0 from rfl]
  iintro ⟨HI, ⟨%W, -, HO⟩, ⟨%d0, H0⟩, ⟨%d1, H1⟩⟩
  ihave H0 := (Entails.of_eq (congrArg (owns (c : Thread nD τ) (stage0_0 ((Pipeline.pin (pcfgs (F := F)) (adm m ρ) 0).slots t 0)) fullShare) (before0 m ρ g c t d0))) $$ H0
  ihave H1 := (Entails.of_eq (congrArg (owns (c : Thread nD τ) (stage0_1 ((Pipeline.pin (pcfgs (F := F)) (adm m ρ) 0).slots t 1)) fullShare) (before1 m ρ g c t d1))) $$ H1
  iapply (wp_wand) $$ [HI HO H0 H1]
  · iapply (body_at m ρ g hF c t (stage0_0 ((Pipeline.pin (pcfgs (F := F)) (adm m ρ) 0).slots t 0)) (hstage0_0 _) (stage0_1 ((Pipeline.pin (pcfgs (F := F)) (adm m ρ) 0).slots t 1)) (hstage0_1 _)) $$ [HI HO H0 H1]
    isplitl [HI]; · iexact HI
    isplitl [HO]; · iexists W; iexact HO
    isplitl [H0]; · iexact H0
    iexact H1
  iintro %_ ⟨HI, ⟨%W', HO⟩, H0, H1⟩
  isplitl [HI]; · iexact HI
  isplitl [HO]
  · iexists W'; isplitr; · ipureintro; exact fun _ _ => Or.inl trivial
    iexact HO
  isplitl [H0]; · iexact H0
  iexact H1

end Cert.Proof.Body
-- ==== Proof.Entry.lean ====
/-
  The launch: `@main` as its host operations and its one region, and the run of the whole program from a memory that fits.
-/
module

public import proofs.«01_k».proof.Proof.Point

@[expose] public section

set_option maxRecDepth 16384

noncomputable section

namespace Cert.Proof.Body

open Cert.KernelIdeal Cert.KernelIdeal.Gen Cert.Proof.Race
open Idealize.ShloMosaic Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UU F) ℕ

variable (m : (ℓ : Loc nD τ sig) → Buf (Elt F) ℓ) (ρ : Dev nD → PrngReg) (g : (c : Dev nD) → Buf (Elt F) (xsL c))

theorem ownSemFacts : Pipeline.OwnSemFacts spec0 osem := by decide

/-- The launch element: the pipeline's at its staging cells, nothing in write mode, no counter. -/
def u₀ : UU F :=
  (initOf (Pipeline.cells (Pipeline.pin (pcfgs (F := F)) (adm m ρ)) (cellOf_inj (adm m ρ))) (Pipeline.launchToks (Pipeline.pin (pcfgs (F := F)) (adm m ρ)) (cellOf_inj (adm m ρ))),
    (wm₀ nD τ sig (Elt F), 1))

theorem ownSems0_list (c : Dev nD) :
    (Pipeline.ownSems0 (Ix := Unit) (Name := ℕ) (U := UU F) (Lvl := ℕ) (Val := Elt F) (τ := τ) osem c : sProp 𝕄)
      = iprop(semVal ((c : Thread nD τ), osem 0) 0 ∗ semVal ((c : Thread nD τ), osem 1) 0) :=
  Pipeline.ownSems0_eq_of_list c osem [0, 1] (by decide) (by decide)

theorem prefHeld_list (c : Dev nD) (W : pre0.Contents (Elt F)) :
    (Pipeline.prefHeld pre0 c (fun _ => fullShare) W : sProp 𝕄)
      = iprop((((c : Thread nD τ).loc main_arg0) ↦{fullShare} W 0) ∗ (((c : Thread nD τ).loc main_arg1) ↦{fullShare} W 1)) := by
  unfold Pipeline.prefHeld
  exact bigSep_univ_eq_bigSepL [(0 : Fin 2), (1 : Fin 2)] (by decide) (by decide) _

abbrev L : GSem nD τ sig → Finset Unit := fun _ => ∅
abbrev lv : GSem nD τ sig → Unit → ℕ := fun _ _ => 0

/-- What rides beside the buffers through the host operations. -/
abbrev R (c : Dev nD) : sProp 𝕄 := iprop((∃ W, owes (c : Thread nD τ) (0 : CellTallies nD τ sig Unit) W) ∗ ∃ ιwm, wmInv EW ιwm)

def seg0 : Pipeline.HostSeg (Name := ℕ) (U := UU F) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- What the region leaves: the arguments as it found them, the result at `g`. -/
abbrev Tₙ (c : Dev nD) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2) ∗ (((c : Thread nD τ).loc main_arg3) ↦{fullShare} V m ρ c main_arg3)
    ∗ (xsL c ↦{fullShare} g c))

theorem adm_eq (c : Dev nD) : (fun k => V m ρ c (pre0.ref k)) = (adm m ρ 0).1 := by
  rw [Subsingleton.elim c 0]

/-- The unscoped buffers that are no window's array: the tables, and the rest one by one. -/
theorem unscoped_list (c : Dev nD) :
    (Pipeline.unscopedRest spec0 c (V m ρ c) : sProp 𝕄)
      = iprop(Pipeline.prefHeld pre0 c (fun _ => fullShare) (adm m ρ 0).1
        ∗ (((c : Thread nD τ).loc main_arg2) ↦{fullShare} V m ρ c main_arg2) ∗ (((c : Thread nD τ).loc main_arg3) ↦{fullShare} V m ρ c main_arg3)
        ∗ (((c : Thread nD τ).loc main_c) ↦{fullShare} V m ρ c main_c) ∗ (((c : Thread nD τ).loc main_v0) ↦{fullShare} V m ρ c main_v0)
        ∗ (((c : Thread nD τ).loc main_v1) ↦{fullShare} V m ρ c main_v1) ∗ (((c : Thread nD τ).loc main_v2) ↦{fullShare} V m ρ c main_v2)
        ∗ (((c : Thread nD τ).loc main_v3) ↦{fullShare} V m ρ c main_v3) ∗ (((c : Thread nD τ).loc main_v6) ↦{fullShare} V m ρ c main_v6)) := by
  rw [Pipeline.unscopedRest_split preFacts0 c (V m ρ c), unscopedRestP0_eq c (V m ρ c), adm_eq m ρ c]

/-- The write-mode invariant, from the launch element's part. -/
theorem wm_start (m : (ℓ : Loc nD τ sig) → Buf (Elt F) ℓ) (ρ : Dev nD → PrngReg) :
    (BI.own (((Emb.inl : Emb (WmRA nD τ sig (Elt F)) (WmRA nD τ sig (Elt F) × Counters)).trans embR) (wm₀ nD τ sig (Elt F))) : sProp 𝕄)
    ⊢ iprop(|={Set.univ}=> ∃ ιwm, ⌜ιwm ∉ (∅ : Finset ℕ)⌝ ∧ wmInv EW ιwm) :=
  wmInv_alloc (nD := nD) (τ := τ) (sig := sig) (Ix := Unit) (Val := Elt F) (Name := ℕ) (U := UU F) (Lvl := ℕ) (emb := EW) (s₀ m ρ)

set_option backward.isDefEq.respectTransparency.types false in
/-- The region. -/
def reg0 (hF : Fits m ρ g) : Pipeline.RegionSeg (pcfgs (F := F)) (adm m ρ) (dats m ρ g) () defs₀ 𝒱₀ L lv 0 where
  win := (launch0 (F := F)).to₀.win
  block_pos := (launch0 (F := F)).to₀.block_pos
  stage_whole := (launch0 (F := F)).to₀.stage_whole
  K := Fin 2
  osem := osem
  ho := ownSemFacts
  hbody c := (body_obligation m ρ g hF c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ g c ∗ ∃ W, owes (c : Thread nD τ) (0 : CellTallies nD τ sig Unit) W)
  X c := iprop((∃ ιwm, wmInv EW ιwm) ∗ (xsL c ↦{fullShare} V m ρ c main_v6)
    ∗ semVal ((c : Thread nD τ), osem 0) 0 ∗ semVal ((c : Thread nD τ), osem 1) 0)
  Y c := iprop((((c : Thread nD τ).loc main_arg0) ↦{fullShare} V m ρ c main_arg0) ∗ (((c : Thread nD τ).loc main_arg1) ↦{fullShare} V m ρ c main_arg1)
    ∗ (xsL c ↦{fullShare} g c))
  Z c := iprop((((c : Thread nD τ).loc main_arg2) ↦{fullShare} V m ρ c main_arg2) ∗ (((c : Thread nD τ).loc main_arg3) ↦{fullShare} V m ρ c main_arg3))
  hentry c := by
    rw [show StableHlo.held (c : Thread nD τ) ucRefs (StableHlo.after hostOps0 (V₀ m ρ c)) = unscopedBufs c (V m ρ c) from (unscopedBufs_held c _).symm,
      ownSems0_list]
    have hsplit := Pipeline.arrays_of_unscopedBufs (pcfgs (F := F)) (adm m ρ) (dats m ρ g) (launch0 (F := F)).win (launch0 (F := F)).arr_whole c
      ((dats m ρ g 0 c).share_full fun _ => rfl) (V m ρ c) (A_eq m ρ g c)
    have hrest := Entails.of_eq (unscoped_list (F := F) m ρ c)
    iintro ⟨⟨Hub, HO, Hwm⟩, ⟨Hs7, Hs8⟩, -⟩
    ihave H := hsplit $$ Hub
    icases H with ⟨Ha, Hrest⟩
    ihave H := hrest $$ Hrest
    icases H with ⟨Hpf, H2, H3, -, -, -, -, -, H6⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H6 Hwm Hs7 Hs8]
    · isplitl [Hwm]; · iexact Hwm
      isplitl [H6]; · iexact H6
      isplitl [Hs7]; · iexact Hs7
      iexact Hs8
    isplitl [H2]; · iexact H2
    iexact H3
  hin c := by
    rw [show (dats m ρ g 0 c).Φ 0 = Inv m ρ g c 0 from rfl]; unfold Inv
    rw [show (Pipeline.prefHeld (pcfgs (F := F) 0).pre c (fun _ => fullShare) ((adm m ρ) 0).1 : sProp 𝕄)
      = iprop((((c : Thread nD τ).loc main_arg0) ↦{fullShare} V m ρ c main_arg0) ∗ (((c : Thread nD τ).loc main_arg1) ↦{fullShare} V m ρ c main_arg1)) from
      (congrArg (Pipeline.prefHeld pre0 c (fun _ => fullShare)) (adm_eq m ρ c)).symm.trans (prefHeld_list c _)]
    rw [show (Pipeline.scopedRest (pcfgs (F := F) 0).spec c : sProp 𝕄) = _ from scopedRest0_eq c]
    iintro ⟨⟨Hwm, H6, Hs7, Hs8⟩, ⟨H0, H1⟩, Hr⟩
    isplitl [Hwm]; · iexact Hwm
    isplitl [H0]; · iexact H0
    isplitl [H1]; · iexact H1
    isplitl [Hr]; · iexact Hr
    isplitl [H6]
    · iexists _; isplitr; swap
      · iexact H6
      · ipureintro; exact known_zero _
    isplitl [Hs7]; · iexact Hs7
    iexact Hs8
  hout c := by
    rw [ownSems0_list, show (dats m ρ g 0 c).Φ (Fin.last _) = Inv m ρ g c grid0.N from rfl]; unfold Inv
    rw [show (Pipeline.scopedRest (pcfgs (F := F) 0).spec c : sProp 𝕄) = _ from scopedRest0_eq c]
    iintro ⟨-, H0, H1, Hr, ⟨%f, %hf, H6⟩, Hs7, Hs8⟩
    obtain rfl := good_last m ρ g hF c f hf
    isplitl [H0 H1 H6]
    · isplitl [H0]; · iexact H0
      isplitl [H1]; · iexact H1
      iexact H6
    isplitl [Hs7 Hs8]
    · isplitl [Hs7]; · iexact Hs7
      iexact Hs8
    iexact Hr
  hexit c := by
    iintro ⟨-, HO, ⟨H0, H1, H6⟩, ⟨H2, H3⟩⟩
    imodintro
    isplitr [HO]
    · isplitl [H0]; · iexact H0
      isplitl [H1]; · iexact H1
      isplitl [H2]; · iexact H2
      isplitl [H3]; · iexact H3
      iexact H6
    · unfold Pipeline.Dat.owesAt Pipeline.owesWithin
      icases HO with ⟨%W, -, HO⟩; iexists W; iexact HO

abbrev segs (hF : Fits m ρ g) : List (Pipeline.Seg (pcfgs (F := F)) (adm m ρ) (dats m ρ g) () defs₀ 𝒱₀ L lv) :=
  [.host (seg0 m ρ), .region (reg0 m ρ g hF)]

/-- What a final state has: the result at `g`, the arguments as launched. -/
def Final (r : MemSt nD τ sig (Elt F)) : Prop :=
  ∀ c : Dev nD, r.mem (xsL c) = g c ∧ r.mem ((c : Thread nD τ).loc main_arg0) = m ((c : Thread nD τ).loc main_arg0)
    ∧ r.mem ((c : Thread nD τ).loc main_arg1) = m ((c : Thread nD τ).loc main_arg1) ∧ r.mem ((c : Thread nD τ).loc main_arg2) = m ((c : Thread nD τ).loc main_arg2)
    ∧ r.mem ((c : Thread nD τ).loc main_arg3) = m ((c : Thread nD τ).loc main_arg3)

set_option backward.isDefEq.respectTransparency.types false in
/-- From a memory that fits, with zero counters, every weakly fair execution of `@main` terminates; the result is `g`, the
    arguments are as launched and every counter is zero. -/
theorem run_main (hF : Fits m ρ g) : θ_run defs (onTc (τ := τ) (main (F := F))) (s₀ m ρ) (fun r => Final m g r.2 ∧ r.2.sem = fun _ => 0) :=
  Pipeline.θ_run_regions_kit_sems (pcfgs (F := F)) (adm m ρ) (dats m ρ g) () (cellOf_inj (adm m ρ)) EP defs₀ 𝒱₀ L lv m ρ main (segs m ρ g hF)
    (fun c Q => by rw [main_segs (adm m ρ) (dats m ρ g) () 𝒱₀ L lv (seg0 m ρ) (reg0 m ρ g hF) rfl c])
    (by simp only [Pipeline.Seg.pipes_host, Pipeline.Seg.pipes_region, Pipeline.Seg.pipes_nil]; decide) (O₀ := 0) (hL := fun _ _ => rfl)
    (G := fun _ => iprop(∃ ιwm, wmInv EW ιwm)) (u₀ := u₀ m ρ)
    (hu₀ := by
      unfold u₀
      iintro Hu
      ihave H := (ownU_pair _ _) $$ Hu
      icases H with ⟨HP, HW⟩
      ihave HW := (own_pair_emb embR (wm₀ nD τ sig (Elt F)) (1 : Counters)) $$ HW
      icases HW with ⟨HW, -⟩
      imod (wm_start m ρ) $$ HW with ⟨%ιwm, -, #Hwm⟩
      imodintro
      isplitl [HP]; · iexact HP
      rw [show (Finset.univ : Finset (Dev nD)) = {0} from rfl, bigSep_singleton]
      iexists ιwm; iexact Hwm)
    (T₀ := fun c => iprop(StableHlo.held (c : Thread nD τ) ucRefs (V₀ m ρ c) ∗ R c)) (Tₙ := Tₙ m ρ g)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, HG⟩, -⟩
      imodintro
      isplitl [Hh]; · iexact Hh
      isplitl [HO]; · iexists ∅; iexact HO
      iexact HG)
    (QY := fun c s => s.mem (xsL c) = g c ∧ s.mem ((c : Thread nD τ).loc main_arg0) = m ((c : Thread nD τ).loc main_arg0)
      ∧ s.mem ((c : Thread nD τ).loc main_arg1) = m ((c : Thread nD τ).loc main_arg1) ∧ s.mem ((c : Thread nD τ).loc main_arg2) = m ((c : Thread nD τ).loc main_arg2)
      ∧ s.mem ((c : Thread nD τ).loc main_arg3) = m ((c : Thread nD τ).loc main_arg3))
    (hfin := fun c s' => by
      dsimp only [Tₙ]; rw [V_kept m ρ c main_arg0 (by decide), V_kept m ρ c main_arg1 (by decide), V_kept m ρ c main_arg2 (by decide), V_kept m ρ c main_arg3 (by decide)]
      iintro ⟨⟨H0, H1, H2, H3, H6⟩, HSI⟩
      icombine HSI H0 gives %h0
      icombine HSI H1 gives %h1
      icombine HSI H2 gives %h2
      icombine HSI H3 gives %h3
      icombine HSI H6 gives %h6
      imodintro
      isplitr
      · ipureintro
        exact ⟨Buf.eq_of_forall_mem_univ h6, Buf.eq_of_forall_mem_univ h0, Buf.eq_of_forall_mem_univ h1, Buf.eq_of_forall_mem_univ h2, Buf.eq_of_forall_mem_univ h3⟩
      iexact HSI)
    (hQ := fun _ h hz => ⟨h, funext fun g => hz g (.inr (by revert g; decide))⟩)

end Cert.Proof.Body
-- ==== Proof.Routed.lean ====
/-
  What the precondition says of the arguments: the routing words name distinct rows of the result, the experts' padded ends and
  the count of blocks in use are in range, and every row is named by a routing word or lies in a block that the kernel clears.
-/
module

public import proofs.«01_k».proof.Pre_routed
public import proofs.«01_k».proof.KernelIdeal
public import Idealize.ShloMosaic.Lib.StableHlo.Predicate
public import Idealize.ShloMosaic.Lib.Routing.Words
public import Idealize.ShloMosaic.Lib.Routing.OpsSet

@[expose] public section

set_option maxRecDepth 16384

noncomputable section

namespace Cert.Proof.Routed

open Idealize.ShloMosaic Idealize.ShloMosaic.Routing Idealize.ShloMosaic.ValueIdx Idealize.ShloMosaic.StableHlo.Predicate

/-- The row that routing word `e` names, the words taken in order of their tokens. -/
def slot (x2 : IVec Cert.Pre_routed.S16384x4 32) (e : Fin 65536) : BitVec 32 :=
  x2 (ix2 (⟨e.val / 4, by omega⟩ : Fin 16384) (⟨e.val % 4, by omega⟩ : Fin 4))

/-- The precondition, read at the arguments' words. -/
structure Holds (x0 : IVec Cert.Pre_routed.S32 32) (x1 : IVec Cert.Pre_routed.S1 32) (x2 : IVec Cert.Pre_routed.S16384x4 32) : Prop where
  inRange : ∀ e, (slot x2 e).toNat < 81920
  inj : ∀ a b, slot x2 a = slot x2 b → a = b
  full : ∀ r : Fin 81920, (∃ e, (slot x2 e).toNat = r.val) ∨ (∃ k : Fin 32, (x0 (ix1 k)).toNat / 512 - 1 = r.val / 512) ∨ (x1 (ix1 0)).toNat ≤ r.val / 512
  ends : ∀ k : Fin 32, (x0 (ix1 k)).toNat ≤ 81920
  few : (x1 (ix1 0)).toNat ≤ 160

/-! ### Words -/

theorem word_of {w : BitVec 32} : w = BitVec.ofNat 32 w.toNat := by simp

/-- A word that is from 0 to `b`, compared signed, is so as a number. -/
theorem range_le {w : BitVec 32} {b : ℕ} (hb : b < 2 ^ 31) (h : IntOp.andi (IntOp.cmpi .sge w 0#32) (IntOp.cmpi .sle w (BitVec.ofNat 32 b)) = 1#1) : w.toNat ≤ b := by
  obtain ⟨h0, h1⟩ := (by
    rcases BitVec.eq_zero_or_eq_one (IntOp.cmpi .sge w 0#32) with e | e <;> rcases BitVec.eq_zero_or_eq_one (IntOp.cmpi .sle w (BitVec.ofNat 32 b)) with e' | e' <;>
      rw [e, e'] at h <;> first | exact ⟨e, e'⟩ | exact absurd h (by decide) :
    IntOp.cmpi .sge w 0#32 = 1#1 ∧ IntOp.cmpi .sle w (BitVec.ofNat 32 b) = 1#1)
  simp only [IntOp.cmpi, ofBool_eq_one_iff, BitVec.sle, decide_eq_true_eq, toInt_ofNat_small b hb] at h0 h1
  have hz : (0#32 : BitVec 32).toInt = 0 := by decide
  rw [hz] at h0
  have := BitVec.toInt_eq_toNat_cond w
  split at this <;> omega

theorem range_lt {w : BitVec 32} {b : ℕ} (hb : b < 2 ^ 31) (h : IntOp.andi (IntOp.cmpi .sge w 0#32) (IntOp.cmpi .slt w (BitVec.ofNat 32 b)) = 1#1) : w.toNat < b := by
  obtain ⟨h0, h1⟩ := (by
    rcases BitVec.eq_zero_or_eq_one (IntOp.cmpi .sge w 0#32) with e | e <;> rcases BitVec.eq_zero_or_eq_one (IntOp.cmpi .slt w (BitVec.ofNat 32 b)) with e' | e' <;>
      rw [e, e'] at h <;> first | exact ⟨e, e'⟩ | exact absurd h (by decide) :
    IntOp.cmpi .sge w 0#32 = 1#1 ∧ IntOp.cmpi .slt w (BitVec.ofNat 32 b) = 1#1)
  simp only [IntOp.cmpi, ofBool_eq_one_iff, BitVec.sle, BitVec.slt, decide_eq_true_eq, toInt_ofNat_small b hb] at h0 h1
  have hz : (0#32 : BitVec 32).toInt = 0 := by decide
  rw [hz] at h0
  have := BitVec.toInt_eq_toNat_cond w
  split at this <;> omega

theorem or_cases {a b : BitVec 1} (h : IntOp.ori a b = 1#1) : a = 1#1 ∨ b = 1#1 := by
  rcases BitVec.eq_zero_or_eq_one a with rfl | rfl
  · rcases BitVec.eq_zero_or_eq_one b with rfl | rfl
    · exact absurd h (by decide)
    · exact Or.inr rfl
  · exact Or.inl rfl

/-- The block that holds an expert's last rows, as the kernel computes its first row of pieces. -/
theorem tail_word {n : ℕ} (hn : n ≤ 81920) : Cert.KernelIdeal.k0_mult1 (BitVec.ofNat 32 n) = BitVec.ofNat 32 ((n / 512 - 1) * 4096) := by
  rcases Nat.eq_zero_or_pos n with rfl | hp
  · decide
  have e1 : Scalar.cmpi .sgt (BitVec.ofNat 32 n) 0#32 = 1#1 := by
    show IntOp.cmpi .sgt (BitVec.ofNat 32 n) (BitVec.ofNat 32 0) = 1#1
    unfold IntOp.cmpi; exact (slt_ofNat_iff 0 n (by omega) (by omega)).2 hp
  have e2 : Scalar.cmpi .slt (BitVec.ofNat 32 n) 0#32 = 0#1 := by
    rcases BitVec.eq_zero_or_eq_one (Scalar.cmpi .slt (BitVec.ofNat 32 n) 0#32) with e | e
    · exact e
    · exact absurd ((slt_ofNat_iff n 0 (by omega) (by omega)).1 e) (by omega)
  unfold Cert.KernelIdeal.k0_mult1
  dsimp only
  rw [e1, e2, show Scalar.cmpi .ne (Scalar.subi (Scalar.extui 1#1 : BitVec 32) (Scalar.extui 0#1)) (Scalar.subi (Scalar.extui (Scalar.cmpi .sgt 512#32 0#32) : BitVec 32) (Scalar.extui (Scalar.cmpi .slt 512#32 0#32))) = 0#1 from by decide,
    show ∀ y : BitVec 1, Scalar.andi 0#1 y = 0#1 from by decide, show ∀ a b : BitVec 32, Scalar.select 0#1 a b = b from fun _ _ => rfl,
    show Scalar.divsi (BitVec.ofNat 32 n) 512#32 = BitVec.ofNat 32 (n / 512) from divsi_word _ (by omega) (by decide) (by decide),
    show Scalar.maxsi (Scalar.subi (BitVec.ofNat 32 (n / 512)) 1#32) 0#32 = BitVec.ofNat 32 (n / 512 - 1) from maxsi_pred (by omega)]
  show BitVec.ofNat 32 (n / 512 - 1) * BitVec.ofNat 32 4096 = _
  exact (BitVec.ofNat_mul ..).symm

/-! ### The precondition -/

section Decode

open Cert.Pre_routed Cert.Pre_routed.Facts

variable [Cert.Pre_routed.Facts] {F : FTy → Type} [FloatOps F]
variable {x0 : IVec S32 32} {x1 : IVec S1 32} {x2 : IVec S16384x4 32} {x3 : FVec F S16384x1024 .f32}

/-- The routing words as the precondition lays them out. -/
theorem flat_at (x2 : IVec S16384x4 32) (e : Fin 65536) : shapeCast S65536 x2 shapeCasts_S16384x4_S65536 (ix1 e) = slot x2 e :=
  cast21 x2 _ _ _ e (by show e.val = e.val / 4 * 4 + e.val % 4; omega)

theorem in_range (h : (fn (F := F) x0 x1 x2 x3).1 = fun _ => 1#1) (e : Fin 65536) : (slot x2 e).toNat < 81920 := by
  refine range_lt (by decide) ?_
  rw [← flat_at]
  exact congrFun h (ix1 e)

/-- The entry of a table of the result's rows that a word names, as a table is read: the word counted from the end if negative,
    and kept inside the table. -/
def spot (w : BitVec 32) : (⟨1, ![81920]⟩ : Shape).Idx :=
  Shape.Idx.ofFin ⟨min (Scalar.select (IntOp.cmpi .slt w 0#32) (w + 81920#32) w).toInt.toNat (81920 - 1), by omega⟩

theorem injective (h : (fn (F := F) x0 x1 x2 x3).2.1 = fun _ => 1#1) (a b : Fin 65536) (hab : slot x2 a = slot x2 b) : a = b := by
  have key : ∃ owner : (⟨1, ![81920]⟩ : Shape).Idx → BitVec 32, ∀ e : Fin 65536,
      IntOp.cmpi .eq (owner (spot (slot x2 e))) (BitVec.ofNat 32 e.val) = 1#1 := by
    unfold fn fn_part1 fn_part2 fn_part3 at h
    dsimp only at h
    apply Exists.intro
    intro e
    have hx := (WordCmp.cmpi_at ..).symm.trans (congrFun h (ix1 e))
    rw [iota1_ap] at hx
    rw [← flat_at x2 e]
    refine Eq.trans (congrArg (fun v => IntOp.cmpi .eq v (BitVec.ofNat 32 e.val)) ?_) hx
    rw [← ofFin_eq_ix1 e]
    refine Eq.trans (congrArg _ ?_) (gather_take gather_S81920_S65536x1_S65536_n_0_n_n_0_1_1 rfl rfl rfl rfl _ _ e (by decide)).symm
    refine congrArg Shape.Idx.ofFin (Fin.ext ?_)
    refine congrArg (fun v : BitVec 32 => min v.toInt.toNat (81920 - 1)) ?_
    exact Eq.symm ((bcast_col1 bcast_S65536_S65536x1_0 _ e).trans rfl)
  obtain ⟨f, hf⟩ := key
  have ha := cmpi_eq_iff.1 (hf a)
  have hb := cmpi_eq_iff.1 (hf b)
  rw [hab] at ha
  have := congrArg BitVec.toNat (ha.symm.trans hb)
  rw [BitVec.toNat_ofNat, BitVec.toNat_ofNat] at this
  exact Fin.ext (by omega)

theorem ends_le (h : (fn (F := F) x0 x1 x2 x3).2.2.2.1 = fun _ => 1#1) (k : Fin 32) : (x0 (ix1 k)).toNat ≤ 81920 :=
  range_le (by decide) (congrFun h (ix1 k))

theorem few_le (h : (fn (F := F) x0 x1 x2 x3).2.2.2.2 = fun _ => 1#1) : (x1 (ix1 0)).toNat ≤ 160 :=
  range_le (by decide) (congrFun h (ix1 0))

/-- The expert's last block, as the precondition computes it. -/
def lastOf (x0 : IVec S32 32) : IVec S32 32 :=
  maxsi (subi (fn_floor_divide (F := F) x0 (constantI S_ 32 512#32)) (broadcastInDim S32 ![] bcast_S_S32 (constantI S_ 32 1#32)))
    (broadcastInDim S32 ![] bcast_S_S32 (constantI S_ 32 0#32))

theorem lastOf_at (k : Fin 32) (hk : (x0 (ix1 k)).toNat ≤ 81920) : lastOf (F := F) x0 (ix1 k) = BitVec.ofNat 32 ((x0 (ix1 k)).toNat / 512 - 1) := by
  show IntOp.maxsi (pyDiv bcast_S_S32 x0 (constantI S_ 32 512#32) (ix1 k) - 1#32) 0#32 = _
  rw [pyDiv_ap bcast_S_S32 x0 (constantI S_ 32 512#32) (ix1 k) word_of (b := 512) rfl (by omega) (by decide) (by decide)]
  exact maxsi_pred (by omega)

theorem covered (h : (fn (F := F) x0 x1 x2 x3).2.2.1 = fun _ => 1#1) (h3 : (fn (F := F) x0 x1 x2 x3).2.2.2.1 = fun _ => 1#1)
    (h4 : (fn (F := F) x0 x1 x2 x3).2.2.2.2 = fun _ => 1#1) (r : Fin 81920) :
    (∃ e, (slot x2 e).toNat = r.val) ∨ (∃ k : Fin 32, (x0 (ix1 k)).toNat / 512 - 1 = r.val / 512) ∨ (x1 (ix1 0)).toNat ≤ r.val / 512 := by
  have key : ∃ (e : Fin 65536) (k : Fin 32), IntOp.ori (IntOp.cmpi .eq (shapeCast S65536 x2 shapeCasts_S16384x4_S65536 (ix1 e)) (BitVec.ofNat 32 r.val))
      (IntOp.ori (IntOp.cmpi .eq (lastOf (F := F) x0 (ix1 k)) (BitVec.ofNat 32 (r.val / 512))) (IntOp.cmpi .sge (BitVec.ofNat 32 (r.val / 512)) (x1 (ix1 0)))) = 1#1 := by
    have hx := congrFun h (ix2 (⟨r.val / 512, by omega⟩ : Fin 160) (⟨r.val % 512, by omega⟩ : Fin 512))
    apply Exists.intro
    apply Exists.intro
    refine (congr (congrArg IntOp.ori ?hit) ?cleared).trans hx
    case hit =>
      refine Eq.symm ((cast12 _ _ _ _ r (by show r.val = r.val / 512 * 512 + r.val % 512; omega)).trans ?_)
      refine congrArg (fun v => IntOp.cmpi .eq v (BitVec.ofNat 32 r.val)) ?_
      rw [← ofFin_eq_ix1 r]
      refine (gather_take gather_S65536_S81920x1_S81920_n_0_n_n_0_1_1 rfl rfl rfl rfl _ _ r (by decide)).trans ?_
      exact congrArg _ (ofFin_eq_ix1 _)
    case cleared =>
      refine Eq.symm ((bcast_rows bcast_S160_S160x1_0 bcast_S160x1_S160x512_0_1 _ (⟨r.val / 512, by omega⟩ : Fin 160) (⟨r.val % 512, by omega⟩ : Fin 512)).trans ?_)
      refine congr (congrArg IntOp.ori ?_) ?_
      · refine congrArg (fun v => IntOp.cmpi .eq v (BitVec.ofNat 32 (r.val / 512))) ?_
        refine (gather_take gather_S32_S160x1_S160_n_0_n_n_0_1_1 rfl rfl rfl rfl _ _ _ (by decide)).trans ?_
        exact congrArg _ (ofFin_eq_ix1 _)
      · refine congrArg (fun v => IntOp.cmpi .sge (BitVec.ofNat 32 (r.val / 512)) v) ?_
        exact congrArg x1 (funext fun a => by match a with | ⟨0, _⟩ => exact Subsingleton.elim (α := Fin 1) _ _)
  obtain ⟨e, k, hk⟩ := key
  rw [flat_at, lastOf_at k (ends_le h3 k)] at hk
  rcases or_cases hk with h1 | h1
  · left; refine ⟨e, ?_⟩
    rw [cmpi_eq_iff.1 h1, BitVec.toNat_ofNat]; omega
  · right
    rcases or_cases h1 with h2 | h2
    · left; refine ⟨k, ?_⟩
      have := congrArg BitVec.toNat (cmpi_eq_iff.1 h2)
      have := ends_le h3 k
      rw [BitVec.toNat_ofNat, BitVec.toNat_ofNat] at *
      omega
    · right
      have h5 := few_le h4
      have := (sge_iff_toNat (by rw [BitVec.toNat_ofNat]; omega) (by omega)).1 h2
      rw [BitVec.toNat_ofNat] at this
      omega

/-- The precondition's five results, all true, say what `Holds` does. -/
theorem holds (h : (fn (F := F) x0 x1 x2 x3).1 = (fun _ => 1#1) ∧ (fn (F := F) x0 x1 x2 x3).2.1 = (fun _ => 1#1) ∧ (fn (F := F) x0 x1 x2 x3).2.2.1 = (fun _ => 1#1)
    ∧ (fn (F := F) x0 x1 x2 x3).2.2.2.1 = (fun _ => 1#1) ∧ (fn (F := F) x0 x1 x2 x3).2.2.2.2 = (fun _ => 1#1)) : Holds x0 x1 x2 :=
  ⟨in_range h.1, injective h.2.1, covered h.2.2.1 h.2.2.2.1 h.2.2.2.2, ends_le h.2.2.2.1, few_le h.2.2.2.2⟩

end Decode

end Cert.Proof.Routed

end
-- ==== Proof.Blocks.lean ====
/-
  What the run's tables and blocks hold, read off the launch memory: a tile's routing words, its pieces, the experts' ends.
-/
module

public import proofs.«01_k».proof.Proof.Run
public import proofs.«01_k».proof.Proof.Routed
public import Idealize.ShloMosaic.Lib.Claim
public import Idealize.ShloMosaic.Lib.Pointwise

@[expose] public section

set_option maxRecDepth 16384

noncomputable section

namespace Cert.Proof.Body

open Cert.KernelIdeal Cert.KernelIdeal.Gen Cert.Proof.Race
open Idealize.ShloMosaic hiding ix0 ix1 ix2 ix3
open Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UU F) ℕ

open Idealize.ShloMosaic.Routing Idealize.ShloMosaic.ValueIdx Cert.Proof.Routed

variable (m : (ℓ : Loc nD τ sig) → Buf (Elt F) ℓ) (ρ : Dev nD → PrngReg)

/-- The arguments at a core's launch. -/
abbrev a0 (c : Dev nD) : IVec S32 32 := m ((c : Thread nD τ).loc main_arg0)
abbrev a1 (c : Dev nD) : IVec S1 32 := m ((c : Thread nD τ).loc main_arg1)
abbrev a2 (c : Dev nD) : IVec S16384x4 32 := m ((c : Thread nD τ).loc main_arg2)
abbrev a3 (c : Dev nD) : FVec F S16384x1024 .f32 := m ((c : Thread nD τ).loc main_arg3)

/-- The routing words at the region's entry: scaled to rows of pieces, and each tile's sorted by their place in a token. -/
theorem V_words (c : Dev nD) : (V m ρ c main_v4 : IVec S16x1x4096 32)
    = shapeCast S16x1x4096 (transpose S16x4x1024 [0, 2, 1] (shapeCast S16x1024x4 (muli (a2 m c) (broadcastInDim S16384x4 ![] bcast_S_S16384x4 (constantI S_ 32 8#32)))
        shapeCasts_S16384x4_S16x1024x4) transposes_S16x1024x4_S16x4x1024_0_2_1) shapeCasts_S16x4x1024_S16x1x4096 := by
  simp only [V, hostOps0]; after_results_simp <;> rfl

theorem V_tokens (c : Dev nD) : (V m ρ c main_v5 : FVec F S131072x128 .f32) = shapeCast S131072x128 (a3 m c) shapeCasts_S16384x1024_S131072x128 := by
  simp only [V, hostOps0]; after_results_simp <;> rfl

theorem tile0 (t : Fin grid0.N) : cc0_transform_0 (grid0.coords t) = ![t.val, 0, 0] := by
  rcases fin_N0 t with rfl | rfl | rfl | rfl | rfl | rfl | rfl | rfl | rfl | rfl | rfl | rfl | rfl | rfl | rfl | rfl <;> decide

theorem tile1 (t : Fin grid0.N) : cc0_transform_1 (grid0.coords t) = ![t.val, 0] := by
  rcases fin_N0 t with rfl | rfl | rfl | rfl | rfl | rfl | rfl | rfl | rfl | rfl | rfl | rfl | rfl | rfl | rfl | rfl <;> decide

theorem block0_at (c : Dev nD) (t : Fin grid0.N) (e : Fin 4096) (t' : Fin 16) (ht : t'.val = t.val) :
    block0 m ρ c t (ix3 (0 : Fin 1) (0 : Fin 1) e) = (V m ρ c main_v4 : IVec S16x1x4096 32) (ix3 t' (0 : Fin 1) e) := by
  refine congrArg (V m ρ c main_v4 : IVec S16x1x4096 32) (funext fun a => Fin.ext ?_)
  match a with
  | ⟨0, _⟩ =>
    show cc0_transform_0 (grid0.coords t) 0 * 1 + 1 * 0 = t'.val
    rw [tile0, ht]; show t.val * 1 + 1 * 0 = t.val; omega
  | ⟨1, _⟩ =>
    show cc0_transform_0 (grid0.coords t) 1 * 1 + 1 * 0 = 0
    rw [tile0]; rfl
  | ⟨2, _⟩ =>
    show cc0_transform_0 (grid0.coords t) 2 * 4096 + 1 * e.val = e.val
    rw [tile0]; show 0 * 4096 + 1 * e.val = e.val; omega

theorem block1_at (c : Dev nD) (t : Fin grid0.N) (y : S8192x128.Idx) (r : Fin 131072) (hr : r.val = 8192 * t.val + (y 0).val) :
    block1 m ρ c t y = (V m ρ c main_v5 : FVec F S131072x128 .f32) (ix2 r (y 1 : Fin 128)) := by
  refine congrArg (V m ρ c main_v5 : FVec F S131072x128 .f32) (funext fun a => Fin.ext ?_)
  match a with
  | ⟨0, _⟩ =>
    show cc0_transform_1 (grid0.coords t) 0 * 8192 + 1 * (y 0).val = r.val
    rw [tile1, hr]; show t.val * 8192 + 1 * (y 0).val = _; omega
  | ⟨1, _⟩ =>
    show cc0_transform_1 (grid0.coords t) 1 * 128 + 1 * (y 1).val = (y 1).val
    rw [tile1]; show 0 * 128 + 1 * (y 1).val = _; omega

end Cert.Proof.Body

end
-- ==== Proof.Final.lean ====
/-
  The contents the dispatch leaves: the row that a routing word names is its token's row, and every other row is zero.
-/
module

public import proofs.«01_k».proof.Proof.Blocks

@[expose] public section

set_option maxRecDepth 16384

noncomputable section

namespace Cert.Proof.Body

open Cert.KernelIdeal Cert.KernelIdeal.Gen Cert.Proof.Race
open Idealize.ShloMosaic hiding ix0 ix1 ix2 ix3
open Idealize.ShloMosaic.TcCoe Idealize.ShloMosaic.Routing Idealize.ShloMosaic.ValueIdx Cert.Proof.Routed

variable {F : FTy → Type} [FloatOps F]

/-- Element `i` of the result: its row's token's entry if a routing word names the row, else zero. A row of the result is eight
    pieces of 128. -/
def final (x2 : IVec S16384x4 32) (x3 : FVec F S16384x1024 .f32) (i : S655360x128.Idx) : F .f32 :=
  open Classical in
  if h : ∃ e : Fin 65536, (slot x2 e).toNat = (i 0).val / 8 then
    x3 (ix2 (⟨h.choose.val / 4, by omega⟩ : Fin 16384) (⟨(i 0).val % 8 * 128 + (i 1).val, by have : (i (1 : Fin 2)).val < 128 := (i (1 : Fin 2)).isLt; omega⟩ : Fin 1024))
  else zero32 (F := F)

theorem final_hit {x0 : IVec S32 32} {x1 : IVec S1 32} {x2 : IVec S16384x4 32} (H : Holds x0 x1 x2) (x3 : FVec F S16384x1024 .f32) (i : S655360x128.Idx) (e : Fin 65536)
    (he : (slot x2 e).toNat = (i 0).val / 8) (t : Fin 16384) (d : Fin 1024) (ht : t.val = e.val / 4) (hd : d.val = (i 0).val % 8 * 128 + (i 1).val) :
    final x2 x3 i = x3 (ix2 t d) := by
  have h : ∃ e : Fin 65536, (slot x2 e).toNat = (i 0).val / 8 := ⟨e, he⟩
  have q : h.choose = e := H.inj _ _ (BitVec.eq_of_toNat_eq (h.choose_spec.trans he.symm))
  unfold final
  rw [dif_pos h]
  refine congrArg x3 (congrArg₂ ix2 (Fin.ext ?_) (Fin.ext hd.symm))
  show h.choose.val / 4 = _
  rw [q, ht]

theorem final_miss (x2 : IVec S16384x4 32) (x3 : FVec F S16384x1024 .f32) (i : S655360x128.Idx) (h : ¬ ∃ e : Fin 65536, (slot x2 e).toNat = (i 0).val / 8) :
    final x2 x3 i = zero32 (F := F) := dif_neg h

variable (m : (ℓ : Loc nD τ sig) → Buf (Elt F) ℓ) (ρ : Dev nD → PrngReg)

/-- Tile `t`'s word `e` is the routing word of token `e % 1024` of the tile at place `e / 1024`, in rows of pieces. -/
theorem tileWord_at (c : Dev nD) (t : Fin grid0.N) (e : ℕ) (he : e < 4096) (p : Fin 65536) (hp : p.val = 4 * (1024 * t.val + e % 1024) + e / 1024) :
    words m ρ c t e = slot (a2 m c) p * 8#32 := by
  have ht : t.val < 16 := t.isLt
  unfold words
  rw [dif_pos he]
  refine (block0_at m ρ c t ⟨e, he⟩ ⟨t.val, ht⟩ rfl).trans ?_
  rw [V_words]
  refine (shapeCast_apply _ _ _ (ix3 (⟨t.val, ht⟩ : Fin 16) (⟨e / 1024, by omega⟩ : Fin 4) (⟨e % 1024, by omega⟩ : Fin 1024)) ?_).trans ?_
  · rw [Shape.rowMajor_val_three, Shape.rowMajor_val_three]
    show (t.val * 4 + e / 1024) * 1024 + e % 1024 = (t.val * 1 + 0) * 4096 + e
    omega
  refine (transpose_apply _ _ _ _ (ix3 (⟨t.val, ht⟩ : Fin 16) (⟨e % 1024, by omega⟩ : Fin 1024) (⟨e / 1024, by omega⟩ : Fin 4)) ?_).trans ?_
  · intro b
    match b with
    | ⟨0, _⟩ => rfl
    | ⟨1, _⟩ => rfl
    | ⟨2, _⟩ => rfl
  refine (shapeCast_apply _ _ _ (ix2 (⟨1024 * t.val + e % 1024, by omega⟩ : Fin 16384) (⟨e / 1024, by omega⟩ : Fin 4)) ?_).trans ?_
  · rw [Shape.rowMajor_val_two, Shape.rowMajor_val_three]
    show (1024 * t.val + e % 1024) * 4 + e / 1024 = (t.val * 1024 + e % 1024) * 4 + e / 1024
    omega
  show a2 m c _ * 8#32 = a2 m c _ * 8#32
  refine congrArg (fun i => a2 m c i * 8#32) (congrArg₂ ix2 (Fin.ext ?_) (Fin.ext ?_))
  · show 1024 * t.val + e % 1024 = p.val / 4; omega
  · show e / 1024 = p.val % 4; omega

theorem eight_mul {w : BitVec 32} (h : w.toNat < 81920) : (w * 8#32).toNat = 8 * w.toNat := by
  rw [BitVec.toNat_mul, BitVec.toNat_ofNat]; omega

theorem tail_at {v : BitVec 32} (h : v.toNat ≤ 81920) : tailRow v = (v.toNat / 512 - 1) * 4096 := by
  have q : tailRow v = (k0_mult1 v).toNat := rfl
  rw [q, word_of (w := v), tail_word h, ← word_of, BitVec.toNat_ofNat]; omega

theorem ends_at (c : Dev nD) (k : Fin 32) : ends m ρ c k.val = a0 m c (ix1 k) := by
  unfold ends
  rw [dif_pos k.isLt, V_kept m ρ c main_arg0 (by decide)]
  rfl

theorem used_at (c : Dev nD) : used m ρ c = a1 m c (ix1 0) := by
  unfold used
  rw [V_kept m ρ c main_arg1 (by decide)]
  rfl

variable {m}

/-- Under the precondition the run asks nothing more, and leaves `final`. -/
theorem fits (H : ∀ c, Holds (a0 m c) (a1 m c) (a2 m c)) : Fits m ρ fun c => final (a2 m c) (a3 m c) where
  few c := by rw [used_at]; exact (H c).few
  chk c i e he := by
    have h := (H c).ends ⟨e, he⟩
    rw [show ends m ρ c e = a0 m c (ix1 ⟨e, he⟩) from ends_at m ρ c ⟨e, he⟩]
    have q := tail_at h
    refine ⟨fun _ => ?_, fun _ a => ?_⟩
    · show 4096 ∣ tailRow _
      rw [q]; exact Nat.dvd_mul_left _ _
    · match a with
      | ⟨0, _⟩ => show tailRow _ + 4096 ≤ 655360; rw [q]; omega
      | ⟨1, _⟩ => show 0 + 128 ≤ 128; omega
  sound c t e he := by
    have ht : t.val < 16 := t.isLt
    rw [tileWord_at m ρ c t e he ⟨4 * (1024 * t.val + e % 1024) + e / 1024, by omega⟩ rfl]
    have h := (H c).inRange ⟨4 * (1024 * t.val + e % 1024) + e / 1024, by omega⟩
    rw [eight_mul h]
    exact ⟨Nat.dvd_mul_right _ _, by omega⟩
  served c t e he i y h0 h1 hy0 hy1 := by
    have ht : t.val < 16 := t.isLt
    have hi1 : (i (1 : Fin 2)).val < 128 := (i (1 : Fin 2)).isLt
    rw [tileWord_at m ρ c t e he ⟨4 * (1024 * t.val + e % 1024) + e / 1024, by omega⟩ rfl] at h0 h1 hy0
    have h := (H c).inRange ⟨4 * (1024 * t.val + e % 1024) + e / 1024, by omega⟩
    rw [eight_mul h] at h0 h1 hy0
    refine (final_hit (H c) (a3 m c) i ⟨4 * (1024 * t.val + e % 1024) + e / 1024, by omega⟩ (by omega) ⟨1024 * t.val + e % 1024, by omega⟩
      ⟨(i 0).val % 8 * 128 + (i 1).val, by omega⟩ (by show 1024 * t.val + e % 1024 = (4 * (1024 * t.val + e % 1024) + e / 1024) / 4; omega) rfl).trans ?_
    rw [block1_at m ρ c t y ⟨8192 * t.val + (y 0).val, by omega⟩ rfl, V_tokens]
    refine Eq.symm (shapeCast_apply _ _ _ _ ?_)
    rw [Shape.rowMajor_val_two, Shape.rowMajor_val_two]
    show (1024 * t.val + e % 1024) * 1024 + ((i 0).val % 8 * 128 + (i 1).val) = (8192 * t.val + (y 0).val) * 128 + (y 1).val
    omega
  done c i := by
    have hi0 : (i (0 : Fin 2)).val < 655360 := (i (0 : Fin 2)).isLt
    by_cases hit : ∃ e : Fin 65536, (slot (a2 m c) e).toNat = (i 0).val / 8
    · left
      obtain ⟨e, he⟩ := hit
      have h := (H c).inRange e
      refine ⟨(⟨e.val / 4096, by show _ < 16; omega⟩ : Fin grid0.N), ?_⟩
      rw [sent, mem_wrote]
      refine ⟨e.val % 4096, by omega, ?_⟩
      rw [sendRows, mem_rowSet, tileWord_at m ρ c _ _ (by unfold entry; omega) e (by unfold entry; show e.val = 4 * (1024 * (e.val / 4096) + _) + _; omega), eight_mul h]
      omega
    · right
      refine ⟨final_miss _ _ _ hit, (mem_wrote _).2 ?_⟩
      rcases (H c).full ⟨(i 0).val / 8, by omega⟩ with h | ⟨k, h⟩ | h
      · exact absurd h hit
      · refine ⟨k.val, by omega, ?_⟩
        unfold clearRows
        rw [if_pos k.isLt, ends_at, mem_rowSet, tail_at ((H c).ends k), h]
        show (i 0).val / 8 / 512 * 4096 ≤ _ ∧ _ < (i 0).val / 8 / 512 * 4096 + 4096
        omega
      · have hu := (H c).few
        rw [used_at]
        change (a1 m c (ix1 0)).toNat ≤ (i 0).val / 8 / 512 at h
        refine ⟨32 + ((i 0).val / 8 / 512 - (a1 m c (ix1 0)).toNat), by omega, ?_⟩
        unfold clearRows
        rw [if_neg (by omega), mem_rowSet]
        omega

end Cert.Proof.Body

end
-- ==== Proof.Rows.lean ====
/-
  The reference, which sets the named rows of a table of zeros to the tokens' rows, read at an element: it is what the
  dispatch leaves.
-/
module

public import proofs.«01_k».proof.Proof.Final
public import proofs.«01_k».proof.Proof.Gen.ReferenceIdeal
public import Idealize.ShloMosaic.Lib.Routing.OpsPair

@[expose] public section

set_option maxRecDepth 16384

noncomputable section

namespace Cert.Proof.Rows

open Idealize.ShloMosaic hiding ix0 ix1 ix2 ix3
open Idealize.ShloMosaic.StableHlo.Predicate Idealize.ShloMosaic.Routing Idealize.ShloMosaic.ValueIdx Cert.Proof.Routed Cert.Proof.Body

/-- Update `(e, y)` of `x.at[rows].set(v)` lands at `(r, c)` exactly when its row's word, read signed, is `r` and `y` is `c`. -/
theorem lands_row {R C N w : ℕ} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) w) (e : Fin N) (y : Fin C) (r : Fin R) (c : Fin C) :
    d.resultIdx? (ix2 e y) idx = some (ix2 r c) ↔ (idx (ix2 e (0 : Fin 1))).toInt = r.val ∧ y = c := by
  have hm : (0 : Fin 2) ∈ d.scatterDimsToOperandDims := by rw [hsd]; exact List.mem_singleton.2 rfl
  have hkept : d.sKept = [1] := by
    show (shape2 R C).kept d.insertedWindowDims = _
    rw [hiw]; rfl
  have hwin0 : d.window (ix2 e y) 0 = 0 := by
    unfold ScatterDims.window
    rw [dif_neg fun h => (of_decide_eq_true (List.mem_filter.1 h).2) (by rw [hiw]; exact List.mem_singleton.2 rfl)]
  have hwin1 : d.window (ix2 e y) 1 = y.val := by
    unfold ScatterDims.window
    rw [dif_pos (by rw [hkept]; exact List.mem_singleton.2 rfl)]
    have q : ∀ X ∈ d.updateWindowDims, ((ix2 e y : (shape2 N C).Idx) X).val = y.val := fun X hX => by
      rw [huw] at hX
      obtain rfl := List.mem_singleton.1 hX
      rfl
    exact q _ (List.getElem_mem _)
  have hstart1 : d.start (ix2 e y) idx 1 = 0 := by
    unfold ScatterDims.start
    rw [dif_neg fun h => by rw [hsd] at h; exact absurd (List.mem_singleton.1 h) (by decide : (1 : Fin 2) ≠ 0)]
  have hstart0 : d.start (ix2 e y) idx 0 = (idx (ix2 e (0 : Fin 1))).toInt := by
    unfold ScatterDims.start
    rw [dif_pos hm]
    refine congrArg (fun i => (idx i).toInt) (funext fun b => Fin.ext ?_)
    have hs : ∀ X ∈ d.uScatter, ((ix2 e y : (shape2 N C).Idx) X).val = e.val := fun X hX => by
      have hX' : X ∉ d.updateWindowDims := of_decide_eq_true (List.mem_filter.1 hX).2
      rw [huw] at hX'
      match X, hX' with
      | ⟨0, _⟩, _ => rfl
      | ⟨1, _⟩, h => exact absurd (List.mem_singleton.2 rfl) h
    match b with
    | ⟨0, _⟩ =>
      unfold ScatterDims.siIdx
      rw [dif_neg (by rw [hivd]; exact Nat.zero_ne_one)]
      exact hs _ (List.getElem_mem _)
    | ⟨1, _⟩ =>
      unfold ScatterDims.siIdx
      rw [dif_pos (by rw [hivd])]
      show List.idxOf (0 : Fin 2) d.scatterDimsToOperandDims = 0
      rw [hsd]; simp
  rw [resultIdx?_ix2, hstart0, hwin0, hstart1, hwin1, Fin.ext_iff]
  omega

section Reference

open Cert.ReferenceIdeal Cert.ReferenceIdeal.Gen

variable {F : FTy → Type} [FloatOps F]

/-- A table of words as the rows of a table are read by it: a negative word counted from the end, `n`, one word a row. -/
abbrev asIndices (x : IVec S65536 32) (n : BitVec 32) : IVec S65536x1 32 :=
  broadcastInDim S65536x1 ![0] bcast_S65536_S65536x1_0 (select (cmpi .slt x (broadcastInDim S65536 ![] bcast_S_S65536 (constantI S_ 32 0#32)))
    (addi x (broadcastInDim S65536 ![] bcast_S_S65536 (constantI S_ 32 n))) x)

/-- A word below 2^31 among them is as it stands. -/
theorem asIndices_at (x : IVec S65536 32) (n : BitVec 32) (e : Fin 65536) (h : (x (ix1 e)).toNat < 2 ^ 31) : asIndices x n (ix2 e (0 : Fin 1)) = x (ix1 e) := by
  refine Eq.trans (congrArg _ ?_) ((bcast_col1 bcast_S65536_S65536x1_0 _ e).trans ?_)
  · funext a; match a with | ⟨0, _⟩ => rfl | ⟨1, _⟩ => rfl
  rw [ofFin_eq_ix1]
  exact wrap_of_lt (x (ix1 e)) (x (ix1 e) + n) h

/-- The token of each routing word: the word's number over the words of a token. -/
abbrev tokens : IVec S65536 32 := pyDiv bcast_S_S65536 (iotaInDim S65536 32 0) (constantI S_ 32 4#32)

theorem tokens_at (e : Fin 65536) : tokens (ix1 e) = BitVec.ofNat 32 (e.val / 4) :=
  pyDiv_ap bcast_S_S65536 _ _ _ (iota1_ap e) rfl (by omega) (by decide) (by decide)

/-- The reference's result: a table of zeros, its rows that the routing words name set to their tokens' rows. -/
def asWritten (x2 : IVec S16384x4 32) (x3 : FVec F S16384x1024 .f32) : FVec F S655360x128 .f32 :=
  shapeCast S655360x128 (Host.scatter scatter_S81920x1024_S65536x1_S65536x1024_1_0_0_1 (fun _ b => b)
    (broadcastInDim S81920x1024 ![] bcast_S_S81920x1024 (constant S_ .f32 0x00000000#32)) (asIndices (shapeCast S65536 x2 shapeCasts_S16384x4_S65536) 81920#32)
    (Host.gather gather_S16384x1024_S65536x1_S65536x1024_1_0_n_n_0_1_11024 x3 (asIndices tokens 16384#32))) shapeCasts_S81920x1024_S655360x128

/-- Under the precondition that is what the dispatch leaves. -/
theorem asWritten_eq {x0 : IVec S32 32} {x1 : IVec S1 32} {x2 : IVec S16384x4 32} (H : Holds x0 x1 x2) (x3 : FVec F S16384x1024 .f32) : asWritten x2 x3 = final x2 x3 := by
  funext i
  have hi0 : (i (0 : Fin 2)).val < 655360 := (i (0 : Fin 2)).isLt
  have hi1 : (i (1 : Fin 2)).val < 128 := (i (1 : Fin 2)).isLt
  have hword : ∀ e : Fin 65536, shapeCast S65536 x2 shapeCasts_S16384x4_S65536 (ix1 e) = slot x2 e :=
    fun e => cast21 x2 _ _ _ e (by show e.val = e.val / 4 * 4 + e.val % 4; omega)
  have hint : ∀ e : Fin 65536, (asIndices (shapeCast S65536 x2 shapeCasts_S16384x4_S65536) 81920#32 (ix2 e (0 : Fin 1))).toInt = (slot x2 e).toNat := fun e => by
    have h := H.inRange e
    rw [asIndices_at _ _ e (by rw [hword]; omega), hword, toInt_eq_toNat_of_lt (by omega)]
  refine (shapeCast_apply _ _ i (ix2 (⟨(i 0).val / 8, by omega⟩ : Fin 81920) (⟨(i 0).val % 8 * 128 + (i 1).val, by omega⟩ : Fin 1024)) ?_).trans ?_
  · rw [Shape.rowMajor_val_two, Shape.rowMajor_val_two]
    show (i 0).val / 8 * 1024 + ((i 0).val % 8 * 128 + (i 1).val) = (i 0).val * 128 + (i 1).val
    omega
  have lands := fun (e : Fin 65536) (y : Fin 1024) => lands_row scatter_S81920x1024_S65536x1_S65536x1024_1_0_0_1 rfl rfl rfl rfl
    (asIndices (shapeCast S65536 x2 shapeCasts_S16384x4_S65536) 81920#32) e y (⟨(i 0).val / 8, by omega⟩ : Fin 81920) (⟨(i 0).val % 8 * 128 + (i 1).val, by omega⟩ : Fin 1024)
  by_cases hit : ∃ e : Fin 65536, (slot x2 e).toNat = (i 0).val / 8
  · obtain ⟨e, he⟩ := hit
    refine scatter_set_hit _ _ _ _ _ _ (fun k hk => ?_) (ix2 e (⟨(i 0).val % 8 * 128 + (i 1).val, by omega⟩ : Fin 1024)) ((lands e _).2 ⟨(hint e).trans (by exact_mod_cast he), rfl⟩)
    obtain ⟨e', y, rfl⟩ : ∃ (e' : Fin 65536) (y : Fin 1024), k = ix2 e' y := ⟨k 0, k 1, ValueIdx.eq_ix2 k⟩
    obtain ⟨h1, h2⟩ := (lands e' y).1 hk
    have htok := tokens_at e'
    refine (gather_row _ rfl rfl rfl rfl rfl _ _ e' y (⟨e'.val / 4, by omega⟩ : Fin 16384) ((asIndices_at tokens 16384#32 e' ?_).trans htok) (by decide)).trans ?_
    · rw [htok, BitVec.toNat_ofNat]; omega
    · exact (final_hit H x3 i e' (by exact_mod_cast (hint e').symm.trans h1) _ _ rfl (congrArg Fin.val h2)).symm
  · refine (scatter_set_miss _ _ _ _ _ fun k hk => hit ?_).trans (final_miss x2 x3 i hit).symm
    obtain ⟨e', y, rfl⟩ : ∃ (e' : Fin 65536) (y : Fin 1024), k = ix2 e' y := ⟨k 0, k 1, ValueIdx.eq_ix2 k⟩
    exact ⟨e', by exact_mod_cast (hint e').symm.trans ((lands e' y).1 hk).1⟩

end Reference

end Cert.Proof.Rows

end
-- ==== Proof.Twin.lean ====
/-
  The kernel's program and its reading at the ideal instance are the same program: their body tables are equal, at any float
  values.
-/
module

public import proofs.«01_k».proof.Proof.Gen.Kernel
public import proofs.«01_k».proof.Proof.Gen.KernelIdeal

@[expose] public section

set_option maxRecDepth 16384

noncomputable section

namespace Cert.Proof

open Idealize.ShloMosaic

variable {F : FTy → Type} [FloatOps F]

set_option maxHeartbeats 2000000 in
theorem bodies_eq : @Cert.Kernel.defs₀ F _ Cert.Kernel.Gen.facts = @Cert.KernelIdeal.defs₀ F _ Cert.KernelIdeal.Gen.facts := by
  funext p
  cases p with
  | tc =>
    funext l a
    obtain rfl : l = (0 : Fin 1) := Subsingleton.elim (α := Fin 1) _ _
    obtain ⟨t, s⟩ := a
    unfold Cert.Kernel.defs₀ Cert.KernelIdeal.defs₀
    rfl
  | scScalar _ => rfl
  | scVector _ _ => rfl

theorem tables_eq : @Cert.Kernel.defs F _ Cert.Kernel.Gen.facts = @Cert.KernelIdeal.defs F _ Cert.KernelIdeal.Gen.facts :=
  congrArg (Pipeline.defs (@Cert.KernelIdeal.pcfgs F _ Cert.KernelIdeal.Gen.facts)) bodies_eq

end Cert.Proof

end
-- ==== Proof.Slots.lean ====
/-
  The experts' weight copies: expert `e`'s plane of a weight array in HBM is copied into slot `s` of a two-slot ring in
  VMEM, and waited for at a later grid point.
-/
module

public import proofs.«01_k».proof.Proof.Gen.Kernel2Ideal.Skeleton
public import proofs.«01_k».proof.Proof.Gen.Kernel2Ideal.Launch
public import Idealize.ShloMosaic.Lib.Pointwise.Index
public import Idealize.ShloMosaic.Lib.ValueLayout

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra beside the machine's: the launch's rounds and the counters of the copies. -/
abbrev UU := UR sig nD τ × Counters

local notation "𝕄" => MT nD τ sig Unit (Elt F) ℕ UU ℕ

/-- The counters' place in it. -/
abbrev EC : UEmb Counters 𝕄 := ((UEmb.inr : UEmb Counters UU).trans uEmb)

/-- A weight array of `n` planes of 1024 rows and `C` columns. -/
abbrev Planes (n C : ℕ) : Shape := ⟨3, ![n, 1024, C]⟩

section Plane

variable {n C : ℕ}

/-- The indices of plane `s`. -/
def planeIdx (n C s : ℕ) : Finset (Planes n C).Idx := Finset.univ.filter fun i => (i 0).val = s

/-- A slice that takes a plane takes its indices. -/
theorem rect_plane {off : Fin 3 → ℕ} {s : ℕ} (hoff : off = ![s, 0, 0]) (inb : ∀ a, off a + (Planes 1 C).size a ≤ (Planes n C).size a) :
    (Rect.unit (s := Planes n C) off (Planes 1 C).size inb).set = planeIdx n C s := by
  subst hoff
  ext i
  rw [Rect.mem_set_unit, planeIdx, Finset.mem_filter]
  have h1 : ((i (1 : Fin 3)).val : ℕ) < 1024 := (i (1 : Fin 3)).isLt
  have h2 : ((i (2 : Fin 3)).val : ℕ) < C := (i (2 : Fin 3)).isLt
  constructor
  · intro h
    have h0 := h 0
    have h0' : s ≤ (i 0).val ∧ (i 0).val < s + 1 := by simpa using h0
    exact ⟨Finset.mem_univ _, by omega⟩
  · rintro ⟨-, h⟩ a
    match a with
    | ⟨0, _⟩ => exact ⟨by simpa using h.ge, by simpa using Nat.lt_succ_of_le h.le⟩
    | ⟨1, _⟩ => exact ⟨Nat.zero_le _, by simpa using h1⟩
    | ⟨2, _⟩ => exact ⟨Nat.zero_le _, by simpa using h2⟩

variable {sp : Space}

/-- The elements of plane `s` of an array. -/
def plane (M : Memref sig .tc sp (Planes n C) .f32) (s : ℕ) : Finset M.view.ty.Idx := M.view.setOn (planeIdx n C s)

theorem set_plane (M : Memref sig .tc sp (Planes n C) .f32) {off : Fin 3 → ℕ} {s : ℕ} (hoff : off = ![s, 0, 0])
    (inb : ∀ a, off a + (Planes 1 C).size a ≤ (Planes n C).size a) (hq : (Planes 1 C).Squeezes ⟨2, ![1024, C]⟩) :
    ((M.slice (Rect.unit (s := Planes n C) off (Planes 1 C).size inb) (fun _ => rfl)).squeeze ⟨2, ![1024, C]⟩ hq).view.set = plane M s := by
  refine Eq.trans (b := (M.view.slice (Rect.unit (s := Planes n C) off (Planes 1 C).size inb)).set) (View.set_reshape _ hq.numel_eq) ?_
  rw [View.set_slice, rect_plane hoff]; rfl

/-- The index under row `a`, column `b` of a squeezed plane. -/
theorem idx_plane {off : Fin 3 → ℕ} (s : Fin n) (hoff : off = ![s.val, 0, 0])
    (inb : ∀ a, off a + (Planes 1 C).size a ≤ (Planes n C).size a) (hq : (Planes 1 C).Squeezes ⟨2, ![1024, C]⟩) (a : Fin 1024) (b : Fin C) :
    (Rect.unit (s := Planes n C) off (Planes 1 C).size inb).emb (Shape.reshapeEquiv hq.numel_eq (ix2 a b)) = ix3 s a b := by
  subst hoff
  have h : Shape.reshapeEquiv hq.numel_eq (ix2 a b) = ix3 (0 : Fin 1) a b :=
    Shape.reshapeEquiv_eq_of_rowMajor _ (by
      rw [Shape.rowMajor_val_three, Shape.rowMajor_val_two]
      show (0 * 1024 + a.val) * C + b.val = a.val * C + b.val
      simp only [Nat.zero_mul, Nat.zero_add])
  rw [h]
  funext x
  apply Fin.ext
  match x with
  | ⟨0, _⟩ => simp
  | ⟨1, _⟩ => simp
  | ⟨2, _⟩ => simp

/-- What a squeezed plane reads. -/
theorem read_plane (M : Memref sig .tc sp (Planes n C) .f32) {off : Fin 3 → ℕ} (s : Fin n) (hoff : off = ![s.val, 0, 0])
    (inb : ∀ a, off a + (Planes 1 C).size a ≤ (Planes n C).size a) (hq : (Planes 1 C).Squeezes ⟨2, ![1024, C]⟩)
    (f : M.view.ty.Contents (Elt F)) (a : Fin 1024) (b : Fin C) :
    ((M.slice (Rect.unit (s := Planes n C) off (Planes 1 C).size inb) (fun _ => rfl)).squeeze ⟨2, ![1024, C]⟩ hq).view.read (Elt F) f (ix2 a b)
      = M.view.read (Elt F) f (ix3 s a b) := by
  show M.view.read (Elt F) f ((Rect.unit (s := Planes n C) off (Planes 1 C).size inb).emb (Shape.reshapeEquiv hq.numel_eq (ix2 a b))) = _
  rw [idx_plane s hoff inb hq]

end Plane

section Copy

variable (𝒱 : Variants) (c : Dev nD) (bd : Option 𝒱.V) {n C : ℕ}
variable {M : Memref sig .tc .vmem (Planes 2 C) .f32} {W : Memref sig .tc .hbm (Planes n C) .f32}
variable (fW : Buf (Elt F) (W.view.loc (c : Thread nD τ)))

/-- Slot `s` at the weights of expert `e`. -/
def loaded (M : Memref sig .tc .vmem (Planes 2 C) .f32) (s : Fin 2) (e : Fin n) : sProp 𝕄 :=
  iprop(∃ f, ⌜∀ (a : Fin 1024) (b : Fin C), M.view.read (Elt F) f (ix3 s a b) = W.view.read (Elt F) fW (ix3 e a b)⌝
    ∗ (M.view.loc (c : Thread nD τ) ↦[plane M s.val]{fullShare} f))

/-- What a copy of expert `e`'s plane into slot `s` delivers: the slot loaded, and the plane back. -/
abbrev delivery (M : Memref sig .tc .vmem (Planes 2 C) .f32) (s : Fin 2) (e : Fin n) : sProp 𝕄 :=
  iprop(loaded c fW M s e ∗ (W.view.loc (c : Thread nD τ) ↦[plane W e.val]{fullShare} fW))

/-- The copy, issued: from the expert's plane, the slot and the semaphore at zero. -/
theorem wp_fetch {α : Type} {Q : α → sProp 𝕄} {N : ℕ} (s : Fin 2) (e : Fin n) {sm : SemLoc sig} {sm' : SemLoc sig}
    {offs offd : Fin 3 → ℕ} {inbs : ∀ a, offs a + (Planes 1 C).size a ≤ (Planes n C).size a} {inbd : ∀ a, offd a + (Planes 1 C).size a ≤ (Planes 2 C).size a}
    {hq : (Planes 1 C).Squeezes ⟨2, ![1024, C]⟩} {hq' : (Planes 1 C).Squeezes ⟨2, ![1024, C]⟩} {hsrc} {hdst} {hsem} {k : PUnit → Prog (TpuEff nD τ sig (Elt F) Λ₀ .tc) α}
    (hoffs : offs = ![e.val, 0, 0]) (hoffd : offd = ![s.val, 0, 0]) (hsm : sm = sm')
    (hN : ((M.slice (Rect.unit (s := Planes 2 C) offd (Planes 1 C).size inbd) (fun _ => rfl)).squeeze ⟨2, ![1024, C]⟩ hq').view.amount sm' = N) (hN0 : 0 < N) :
    iprop((W.view.loc (c : Thread nD τ) ↦[plane W e.val]{fullShare} fW) ∗ (∃ fd, M.view.loc (c : Thread nD τ) ↦[plane M s.val]{fullShare} fd)
        ∗ semVal ((c : Thread nD τ), sm') 0)
      ⊢ iprop((Flight EC (c : Thread nD τ) sm' () N (delivery c fW M s e) -∗ wp frame (wpE (defs₀ (F := F)) 𝒱 (c : Thread nD τ) bd) Set.univ (k ⟨⟩) Q)
        -∗ wp frame (wpE (defs₀ (F := F)) 𝒱 (c : Thread nD τ) bd) Set.univ
          (.op (.enqueueDma ((W.slice (Rect.unit (s := Planes n C) offs (Planes 1 C).size inbs) (fun _ => rfl)).squeeze ⟨2, ![1024, C]⟩ hq)
            (.here ((M.slice (Rect.unit (s := Planes 2 C) offd (Planes 1 C).size inbd) (fun _ => rfl)).squeeze ⟨2, ![1024, C]⟩ hq')) sm hsrc hdst hsem) k) Q) := by
  subst hsm
  iintro ⟨HW, ⟨%fd, HM⟩, Hs⟩ Hk
  have hsetS := set_plane W hoffs inbs hq
  have hsetD := set_plane M hoffd inbd hq'
  iapply (wp_dmaLocal EC 𝒱 (c : Thread nD τ) bd (src := (W.slice (Rect.unit (s := Planes n C) offs (Planes 1 C).size inbs) (fun _ => rfl)).squeeze ⟨2, ![1024, C]⟩ hq)
    (dst := (M.slice (Rect.unit (s := Planes 2 C) offd (Planes 1 C).size inbd) (fun _ => rfl)).squeeze ⟨2, ![1024, C]⟩ hq') (q := fullShare) (fs := fW) (fd := fd)
    (Sd := plane M s.val) () N hN hN0 hsetD.subset) $$ [HW HM Hs]
  · isplitl [HW]
    · rw [hsetS]; iexact HW
    isplitl [HM]; · iexact HM
    iexact Hs
  iintro HF
  iapply Hk
  iapply (Flight_mono EC (c : Thread nD τ) ?_) $$ HF
  iintro ⟨HM, HW⟩
  isplitl [HM]
  · unfold loaded
    iexists _
    isplitr
    swap
    · iexact HM
    ipureintro
    intro a b
    rw [← read_plane M s hoffd inbd hq', ← read_plane W e hoffs inbs hq]
    exact congrFun (View.read_write_univ _ _) (ix2 a b)
  · rw [hsetS]; iexact HW

/-- The wait for it. -/
theorem wp_landed {α : Type} {Q : α → sProp 𝕄} {N : ℕ} {s : Fin 2} {e : Fin n} {sm sm' : DmaSem sig} {D : sProp 𝕄} (Wt : Waits sig Unit)
    {sp' : Space} {s' : Shape} {srcw : Memref sig .tc sp' s' .f32}
    {offd : Fin 3 → ℕ} {inbd : ∀ a, offd a + (Planes 1 C).size a ≤ (Planes 2 C).size a}
    {hq' : (Planes 1 C).Squeezes ⟨2, ![1024, C]⟩} {hsrc} {hdst} {k : PUnit → Prog (TpuEff nD τ sig (Elt F) Λ₀ .tc) α} (hsm : sm = sm')
    (hN : ((M.slice (Rect.unit (s := Planes 2 C) offd (Planes 1 C).size inbd) (fun _ => rfl)).squeeze ⟨2, ![1024, C]⟩ hq').view.dmaCredit = N) :
    iprop(Flight EC (c : Thread nD τ) (.dma sm') () N D ∗ owes (c : Thread nD τ) 0 Wt)
      ⊢ iprop((iprop(D ∗ semVal ((c : Thread nD τ), .dma sm') 0 ∗ ∃ Wt, owes (c : Thread nD τ) (0 : CellTallies nD τ sig Unit) Wt)
            -∗ wp frame (wpE (defs₀ (F := F)) 𝒱 (c : Thread nD τ) bd) Set.univ (k ⟨⟩) Q)
        -∗ wp frame (wpE (defs₀ (F := F)) 𝒱 (c : Thread nD τ) bd) Set.univ
          (.op (.waitDma2 sm srcw ((M.slice (Rect.unit (s := Planes 2 C) offd (Planes 1 C).size inbd) (fun _ => rfl)).squeeze ⟨2, ![1024, C]⟩ hq') hsrc hdst) k) Q) := by
  subst hsm
  iintro ⟨HF, HO⟩ Hk
  iapply (wp_waitLocal EC 𝒱 (c : Thread nD τ) bd (dstw := (M.slice (Rect.unit (s := Planes 2 C) offd (Planes 1 C).size inbd) (fun _ => rfl)).squeeze ⟨2, ![1024, C]⟩ hq') () hN (W := Wt)) $$ [HF HO]
  · isplitl [HF] <;> iassumption
  iintro ⟨HD, Hs, HO⟩
  iapply Hk
  isplitl [HD]; · iexact HD
  isplitl [Hs]; · iexact Hs
  iexists _; iexact HO

end Copy

end Cert.Proof.Experts
-- ==== Proof.Fetch.lean ====
/-
  The experts' two weight arrays together: both planes of an expert fetched into a slot, and awaited; and what the kernel's
  words decide at a grid point.
-/
module

public import proofs.«01_k».proof.Proof.Slots

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the words decide -/

theorem bit_iff (p : Bool) : Scalar.cmpi .ne (Scalar.extui (BitVec.ofBool p) : BitVec 32) 0#32 = 1#1 ↔ p = true := by
  cases p <;> decide

theorem and_bits (p q : Bool) : Scalar.andi (BitVec.ofBool p) (BitVec.ofBool q) = BitVec.ofBool (p && q) := by
  cases p <;> cases q <;> rfl

theorem or_bits (p q : Bool) : Scalar.ori (BitVec.ofBool p) (BitVec.ofBool q) = BitVec.ofBool (p || q) := by
  cases p <;> cases q <;> rfl

theorem not_bit (p : Bool) : Scalar.xori (BitVec.ofBool p) 1#1 = BitVec.ofBool (!p) := by
  cases p <;> rfl

/-- The grid coordinate as a word is itself. -/
theorem coord_lt (i : grid0.Coords) : (i 0).val < 160 := (i 0).isLt

section Conds

variable (i : grid0.Coords) {v0 : BitVec 32} (hv : v0.toNat ≤ 160)

theorem toInt_small {v : BitVec 32} {n : ℕ} (h : v.toNat ≤ n) (hn : n < 2 ^ 31) : v.toInt = (v.toNat : ℤ) :=
  BitVec.toInt_eq_toNat_of_lt (by omega)

theorem coord_toNat : (BitVec.ofNat 32 (i 0).val).toNat = (i 0).val := by
  have := coord_lt i
  rw [BitVec.toNat_ofNat]; omega

include hv in
theorem used_bit : Scalar.cmpi .slt (BitVec.ofNat 32 (i 0).val) v0 = BitVec.ofBool (decide ((i 0).val < v0.toNat)) := by
  show BitVec.ofBool (decide ((BitVec.ofNat 32 (i 0).val).toInt < v0.toInt)) = _
  have h := coord_lt i
  rw [toInt_small (n := 160) (by rw [coord_toNat]; omega) (by decide), toInt_small hv (by decide), coord_toNat]
  congr 1
  exact decide_eq_decide.mpr (by omega)

theorem first_bit : Scalar.cmpi .eq (BitVec.ofNat 32 (i 0).val) 0#32 = BitVec.ofBool (decide ((i 0).val = 0)) := by
  show BitVec.ofBool (BitVec.ofNat 32 (i 0).val == 0#32) = _
  congr 1
  rw [Bool.eq_iff_iff, beq_iff_eq, decide_eq_true_iff, ← BitVec.toNat_inj, coord_toNat]
  simp

theorem ne_bit (v w : BitVec 32) : Scalar.cmpi .ne v w = BitVec.ofBool (decide (v ≠ w)) := by
  show BitVec.ofBool (v != w) = _
  congr 1
  rw [Bool.eq_iff_iff, bne_iff_ne, decide_eq_true_iff]

include hv in
/-- The first copies are started at point 0 when it is in use. -/
theorem cond1_iff : k0_cond1 i v0 = 1#1 ↔ (i 0).val < v0.toNat ∧ (i 0).val = 0 := by
  unfold k0_cond1
  dsimp only
  rw [used_bit i hv, first_bit, and_bits, bit_iff]
  simp

include hv in
/-- New weights are taken at a point in use whose expert is not the one before's. -/
theorem cond2_iff (v3 v10 : BitVec 32) : k0_cond2 i v0 v3 v10 = 1#1 ↔ (i 0).val < v0.toNat ∧ ((i 0).val = 0 ∨ v3 ≠ v10) := by
  unfold k0_cond2
  dsimp only
  rw [used_bit i hv, first_bit, ne_bit v3 v10, or_bits, and_bits, bit_iff]
  simp

include hv in
theorem cond4_iff : k0_cond4 i v0 = 1#1 ↔ (i 0).val < v0.toNat := by
  unfold k0_cond4
  dsimp only
  rw [used_bit i hv, bit_iff]
  simp

include hv in
theorem cond5_iff : k0_cond5 i v0 = 1#1 ↔ ¬ (i 0).val < v0.toNat := by
  unfold k0_cond5
  dsimp only
  rw [used_bit i hv, not_bit, bit_iff]
  simp

/-- The next copies are started when there is a next expert. -/
theorem cond3_iff (v : BitVec 32) : k0_cond3 v = 1#1 ↔ 0 ≤ v.toInt := by
  unfold k0_cond3
  dsimp only
  rw [show Scalar.cmpi .sge v 0#32 = BitVec.ofBool (decide (0 ≤ v.toInt)) from rfl, bit_iff]
  simp

end Conds

/-! ## Places the words name -/

/-- The slot that is not `s`. -/
def other : Fin 2 → Fin 2 := ![1, 0]

theorem other_word (s : Fin 2) : Scalar.subi 1#32 (BitVec.ofNat 32 s.val) = BitVec.ofNat 32 (other s).val := by
  revert s; decide

theorem slot_toNat (s : Fin 2) : (BitVec.ofNat 32 s.val).toNat = s.val := by revert s; decide

theorem expert_toNat (e : Fin 32) : (BitVec.ofNat 32 e.val).toNat = e.val := by revert e; decide

/-- A plane within its array. -/
theorem plane_in {n C s : ℕ} (hs : s < n) : ∀ a, (![s, 0, 0] : Fin 3 → ℕ) a + (Planes 1 C).size a ≤ (Planes n C).size a := fun a => by
  match a with
  | ⟨0, _⟩ => exact hs
  | ⟨1, _⟩ => exact (Nat.zero_add 1024).le
  | ⟨2, _⟩ => exact (Nat.zero_add C).le

theorem cell_in (s k : Fin 2) : ∀ a, (![s.val, k.val] : Fin 2 → ℕ) a + S1x1.size a ≤ S2x2.size a := by
  revert s k; decide

/-- Slot `s`'s semaphore for the `k`-th array. -/
def cell (sems : DmaSems sig S2x2) (s k : Fin 2) : DmaSem sig :=
  ((sems.slice (Rect.unit (s := S2x2) ![s.val, k.val] S1x1.size (cell_in s k))).squeeze S_ squeezes_S1x1_S_).sem

theorem cell_eq (sems : DmaSems sig S2x2) (s k : Fin 2) {off : Fin 2 → ℕ} (hoff : off = ![s.val, k.val]) (inb : ∀ a, off a + S1x1.size a ≤ S2x2.size a) :
    ((sems.slice (Rect.unit (s := S2x2) off S1x1.size inb)).squeeze S_ squeezes_S1x1_S_).sem = cell sems s k := by
  subst hoff; rfl

/-! ## Both arrays -/

/-- What a copy of a plane of each array adds to its semaphore. -/
abbrev amount1 : ℕ := RefSig.tileCredit S1024x2048 .f32
abbrev amount2 : ℕ := RefSig.tileCredit S1024x1024 .f32

theorem amount1_pos : 0 < amount1 := by decide +kernel
theorem amount2_pos : 0 < amount2 := by decide +kernel

abbrev R1 : Memref sig .tc .vmem S2x1024x2048 .f32 := Memref.whole cc0_scratch0
abbrev R2 : Memref sig .tc .vmem S2x1024x1024 .f32 := Memref.whole cc0_scratch1

variable (𝒱 : Variants) (c : Dev nD) (bd : Option 𝒱.V)
variable {W1 : Memref sig .tc .hbm S32x1024x2048 .f32} {W2 : Memref sig .tc .hbm S32x1024x1024 .f32} (sems : DmaSems sig S2x2)
variable (f1 : Buf (Elt F) (W1.view.loc (c : Thread nD τ))) (f2 : Buf (Elt F) (W2.view.loc (c : Thread nD τ)))

/-- Both weight arrays, whole. -/
def weights : sProp 𝕄 := iprop((W1.view.loc (c : Thread nD τ) ↦{fullShare} f1) ∗ (W2.view.loc (c : Thread nD τ) ↦{fullShare} f2))

/-- Slot `s` of both rings, at anything; -/
def home (s : Fin 2) : sProp 𝕄 :=
  iprop((∃ f, R1.view.loc (c : Thread nD τ) ↦[plane R1 s.val]{fullShare} f) ∗ (∃ f, R2.view.loc (c : Thread nD τ) ↦[plane R2 s.val]{fullShare} f))

/-- its semaphores at zero. -/
def quiet (s : Fin 2) : sProp 𝕄 :=
  iprop(semVal ((c : Thread nD τ), .dma (cell sems s 0)) 0 ∗ semVal ((c : Thread nD τ), .dma (cell sems s 1)) 0)

/-- Expert `e`'s planes under way into slot `s`, and the rest of the arrays. -/
def flying (s : Fin 2) (e : Fin 32) : sProp 𝕄 :=
  iprop((Flight EC (c : Thread nD τ) (.dma (cell sems s 0)) () amount1 (delivery (n := 32) (C := 2048) (W := W1) c f1 R1 s e)
      ∗ (W1.view.loc (c : Thread nD τ) ↦[Finset.univ \ plane (n := 32) (C := 2048) W1 e.val]{fullShare} f1))
    ∗ (Flight EC (c : Thread nD τ) (.dma (cell sems s 1)) () amount2 (delivery (n := 32) (C := 1024) (W := W2) c f2 R2 s e)
      ∗ (W2.view.loc (c : Thread nD τ) ↦[Finset.univ \ plane (n := 32) (C := 1024) W2 e.val]{fullShare} f2)))

/-- Between two points: nothing under way, or an expert's planes into a slot. -/
def between : Option (Fin 2 × Fin 32) → sProp 𝕄
  | none => iprop(home c 0 ∗ home c 1 ∗ quiet c sems 0 ∗ quiet c sems 1 ∗ weights c f1 f2)
  | some (s, e) => iprop(home c (other s) ∗ quiet c sems (other s) ∗ flying c sems f1 f2 s e)

/-- Nothing under way, told from slot `s`. -/
theorem between_none (s : Fin 2) : (between c sems f1 f2 none : sProp 𝕄)
    ⊣⊢ iprop(home c s ∗ home c (other s) ∗ quiet c sems s ∗ quiet c sems (other s) ∗ weights c f1 f2) := by
  match s with
  | ⟨0, _⟩ => exact ⟨.rfl, .rfl⟩
  | ⟨1, _⟩ =>
    constructor
    · unfold between
      iintro ⟨H0, H1, Q0, Q1, HW⟩
      isplitl [H1]; · iexact H1
      isplitl [H0]; · iexact H0
      isplitl [Q1]; · iexact Q1
      isplitl [Q0]; · iexact Q0
      iexact HW
    · unfold between
      iintro ⟨H1, H0, Q1, Q0, HW⟩
      isplitl [H0]; · iexact H0
      isplitl [H1]; · iexact H1
      isplitl [Q0]; · iexact Q0
      isplitl [Q1]; · iexact Q1
      iexact HW

/-- Both copies of expert `e` into slot `s`, issued. -/
theorem wp_start {α : Type} {Q : α → sProp 𝕄} (s : Fin 2) (e : Fin 32) {sm1 sm2 : DmaSem sig}
    {offs1 offd1 offs2 offd2 : Fin 3 → ℕ} {inbs1} {inbd1} {inbs2} {inbd2} {hsrc1} {hdst1} {hsem1} {hsrc2} {hdst2} {hsem2}
    {k : PUnit → Prog (TpuEff nD τ sig (Elt F) Λ₀ .tc) α}
    (hs1 : offs1 = ![e.val, 0, 0]) (hd1 : offd1 = ![s.val, 0, 0]) (hs2 : offs2 = ![e.val, 0, 0]) (hd2 : offd2 = ![s.val, 0, 0])
    (hm1 : sm1 = cell sems s 0) (hm2 : sm2 = cell sems s 1) :
    iprop(home c s ∗ quiet c sems s ∗ weights c f1 f2)
      ⊢ iprop((flying c sems f1 f2 s e -∗ wp frame (wpE (defs₀ (F := F)) 𝒱 (c : Thread nD τ) bd) Set.univ (k ⟨⟩) Q)
        -∗ wp frame (wpE (defs₀ (F := F)) 𝒱 (c : Thread nD τ) bd) Set.univ
          (.op (.enqueueDma ((W1.slice (Rect.unit (s := S32x1024x2048) offs1 S1x1024x2048.size inbs1) (fun _ => rfl)).squeeze S1024x2048 squeezes_S1x1024x2048_S1024x2048)
            (.here ((R1.slice (Rect.unit (s := S2x1024x2048) offd1 S1x1024x2048.size inbd1) (fun _ => rfl)).squeeze S1024x2048 squeezes_S1x1024x2048_S1024x2048)) (.dma sm1) hsrc1 hdst1 hsem1) fun _ =>
          .op (.enqueueDma ((W2.slice (Rect.unit (s := S32x1024x1024) offs2 S1x1024x1024.size inbs2) (fun _ => rfl)).squeeze S1024x1024 squeezes_S1x1024x1024_S1024x1024)
            (.here ((R2.slice (Rect.unit (s := S2x1024x1024) offd2 S1x1024x1024.size inbd2) (fun _ => rfl)).squeeze S1024x1024 squeezes_S1x1024x1024_S1024x1024)) (.dma sm2) hsrc2 hdst2 hsem2) k) Q) := by
  unfold home quiet weights flying
  iintro ⟨⟨H1, H2⟩, ⟨Q1, Q2⟩, W1, W2⟩ Hk
  ihave W1 := (pointsTo_split_subset (Finset.subset_univ (plane (n := 32) (C := 2048) W1 e.val))).1 $$ W1
  icases W1 with ⟨W1, X1⟩
  ihave W2 := (pointsTo_split_subset (Finset.subset_univ (plane (n := 32) (C := 1024) W2 e.val))).1 $$ W2
  icases W2 with ⟨W2, X2⟩
  iapply (wp_fetch (n := 32) (C := 2048) (M := R1) (W := W1) 𝒱 c bd f1 s e hs1 hd1 (congrArg SemLoc.dma hm1) (N := amount1) rfl amount1_pos) $$ [H1 Q1 W1]
  · isplitl [W1]; · iexact W1
    isplitl [H1]; · iexact H1
    iexact Q1
  iintro F1
  iapply (wp_fetch (n := 32) (C := 1024) (M := R2) (W := W2) 𝒱 c bd f2 s e hs2 hd2 (congrArg SemLoc.dma hm2) (N := amount2) rfl amount2_pos) $$ [H2 Q2 W2]
  · isplitl [W2]; · iexact W2
    isplitl [H2]; · iexact H2
    iexact Q2
  iintro F2
  iapply Hk
  isplitl [F1 X1]
  · isplitl [F1] <;> iassumption
  · isplitl [F2] <;> iassumption

/-- Both copies, awaited. -/
theorem wp_await {α : Type} {Q : α → sProp 𝕄} (s : Fin 2) (e : Fin 32) {sm1 sm2 : DmaSem sig} (Wt : Waits sig Unit)
    {sp' : Space} {s1 s2 : Shape} {src1 : Memref sig .tc sp' s1 .f32} {src2 : Memref sig .tc sp' s2 .f32}
    {offd1 offd2 : Fin 3 → ℕ} {inbd1} {inbd2} {hsrc1} {hdst1} {hsrc2} {hdst2}
    {k : PUnit → Prog (TpuEff nD τ sig (Elt F) Λ₀ .tc) α}
    (hm1 : sm1 = cell sems s 0) (hm2 : sm2 = cell sems s 1) :
    iprop(flying c sems f1 f2 s e ∗ owes (c : Thread nD τ) 0 Wt)
      ⊢ iprop((iprop(loaded (n := 32) (C := 2048) (W := W1) c f1 R1 s e ∗ loaded (n := 32) (C := 1024) (W := W2) c f2 R2 s e ∗ quiet c sems s ∗ weights c f1 f2
              ∗ ∃ Wt, owes (c : Thread nD τ) (0 : CellTallies nD τ sig Unit) Wt)
            -∗ wp frame (wpE (defs₀ (F := F)) 𝒱 (c : Thread nD τ) bd) Set.univ (k ⟨⟩) Q)
        -∗ wp frame (wpE (defs₀ (F := F)) 𝒱 (c : Thread nD τ) bd) Set.univ
          (.op (.waitDma2 sm1 src1
            ((R1.slice (Rect.unit (s := S2x1024x2048) offd1 S1x1024x2048.size inbd1) (fun _ => rfl)).squeeze S1024x2048 squeezes_S1x1024x2048_S1024x2048) hsrc1 hdst1) fun _ =>
          .op (.waitDma2 sm2 src2
            ((R2.slice (Rect.unit (s := S2x1024x1024) offd2 S1x1024x1024.size inbd2) (fun _ => rfl)).squeeze S1024x1024 squeezes_S1x1024x1024_S1024x1024) hsrc2 hdst2) k) Q) := by
  unfold quiet weights flying
  iintro ⟨⟨⟨F1, X1⟩, ⟨F2, X2⟩⟩, HO⟩ Hk
  iapply (wp_landed (C := 2048) (M := R1) (n := 32) (s := s) (e := e) (D := delivery (n := 32) (C := 2048) (W := W1) c f1 R1 s e) 𝒱 c bd Wt hm1 (N := amount1) rfl) $$ [F1 HO]
  · isplitl [F1] <;> iassumption
  unfold delivery
  iintro ⟨⟨L1, W1⟩, Q1, ⟨%Wt', HO⟩⟩
  iapply (wp_landed (C := 1024) (M := R2) (n := 32) (s := s) (e := e) (D := delivery (n := 32) (C := 1024) (W := W2) c f2 R2 s e) 𝒱 c bd Wt' hm2 (N := amount2) rfl) $$ [F2 HO]
  · isplitl [F2] <;> iassumption
  unfold delivery
  iintro ⟨⟨L2, W2⟩, Q2, HO⟩
  ihave W1 := (pointsTo_split_subset (ℓ := W1.view.loc (c : Thread nD τ)) (q := fullShare) (f := f1) (Finset.subset_univ (plane (n := 32) (C := 2048) W1 e.val))).2 $$ [W1 X1]
  · isplitl [W1] <;> iassumption
  ihave W2 := (pointsTo_split_subset (ℓ := W2.view.loc (c : Thread nD τ)) (q := fullShare) (f := f2) (Finset.subset_univ (plane (n := 32) (C := 1024) W2 e.val))).2 $$ [W2 X2]
  · isplitl [W2] <;> iassumption
  iapply Hk
  isplitl [L1]; · iexact L1
  isplitl [L2]; · iexact L2
  isplitl [Q1 Q2]; · isplitl [Q1] <;> iassumption
  isplitl [W1 W2]; · isplitl [W1] <;> iassumption
  iexact HO

end Cert.Proof.Experts
-- ==== Proof.Compute.lean ====
/-
  One block of rows through its expert: what the kernel's arithmetic part computes from the block, the expert's cast
  weights and its biases, and where it stores it.
-/
module

public import proofs.«01_k».proof.Proof.Fetch
public import proofs.«01_k».proof.Proof.Gen.Kernel2Ideal.Skeleton
public import Idealize.ShloMosaic.Lib.Tactic

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every eighth line, from line `j`. -/
def lines (j : Fin 8) : Rect S4096x128 :=
  ⟨⟨![j.val, 0], Cert.Kernel2Ideal.S512x128.size, ![8, 1], by revert j; decide⟩, fun a => by revert a; exact spos_8_1⟩

/-- The block's lines `j, j + 8, …`: the `j`-th eighth of every row of activations. -/
def eighth (X : S4096x128.Idx → F .f32) (j : Fin 8) : Vec F S512x128 .f32 := fun y => X ((lines j).idx y)

theorem lines_idx (j : Fin 8) (y : S512x128.Idx) (y' : S4096x128.Idx) (h0 : (y' 0).val = j.val + 8 * (y 0).val) (h1 : (y' 1).val = (y 1).val) :
    (lines j).idx y = y' := by
  funext a
  match a with
  | ⟨0, _⟩ => exact Fin.ext h0.symm
  | ⟨1, _⟩ => exact Fin.ext (show 0 + 1 * (y 1).val = (y' 1).val by omega)

/-- The gate half and the linear half of the hidden layer, and the scaled gate. -/
def gate (X : S4096x128.Idx → F .f32) (G : Vec F S1024x2048 .bf16) (b : Vec F S1x1x2048 .f32) : FVec F S512x1024 .f32 :=
  k0_pay5 (eighth X 0) (eighth X 1) (eighth X 2) (eighth X 3) (eighth X 4) (eighth X 5) (eighth X 6) (eighth X 7) G b
def linear (X : S4096x128.Idx → F .f32) (G : Vec F S1024x2048 .bf16) (b : Vec F S1x1x2048 .f32) : FVec F S512x1024 .f32 :=
  k0_pay6 (eighth X 0) (eighth X 1) (eighth X 2) (eighth X 3) (eighth X 4) (eighth X 5) (eighth X 6) (eighth X 7) G b
def scaled (X : S4096x128.Idx → F .f32) (G : Vec F S1024x2048 .bf16) (b : Vec F S1x1x2048 .f32) : FVec F S512x1024 .f32 :=
  k0_pay7 (eighth X 0) (eighth X 1) (eighth X 2) (eighth X 3) (eighth X 4) (eighth X 5) (eighth X 6) (eighth X 7) G b

/-- The rows the expert makes of the block. -/
def rowsOut (X : S4096x128.Idx → F .f32) (G : Vec F S1024x2048 .bf16) (b : Vec F S1x1x2048 .f32) (D : Vec F S1024x1024 .bf16)
    (b' : Vec F S1x1x1024 .f32) : FVec F S512x1024 .f32 :=
  k0_pay8 (gate X G b) (linear X G b) (scaled X G b) D b'

/-- A block's line `y 0` holds eighth `y 0 % 8` of row `y 0 / 8`. -/
def unfolded (R : FVec F S512x1024 .f32) : S4096x128.Idx → F .f32 := fun y =>
  R (ix2 ⟨(y 0).val / 8, by have h : (y 0).val < 4096 := (y 0).isLt; omega⟩
    ⟨128 * ((y 0).val % 8) + (y 1).val, by have h : (y 1).val < 128 := (y 1).isLt; omega⟩)

/-- A slice of the expert's rows is what the block's lines hold. -/
theorem slice_lines (R : FVec F S512x1024 .f32) (j : Fin 8) (h) (x : S512x128.Idx) :
    extractStridedSlice S512x128 ![0, 128 * j.val] R h x = unfolded R ((lines j).idx x) := by
  unfold extractStridedSlice unfolded
  have h0 : (((lines j).idx x) 0).val = j.val + 8 * (x 0).val := rfl
  have h1 : (((lines j).idx x) 1).val = 0 + 1 * (x 1).val := rfl
  have hj := j.isLt
  congr 1
  funext a
  match a with
  | ⟨0, _⟩ => exact Fin.ext (by show 0 + (x 0).val = (((lines j).idx x) 0).val / 8; rw [h0]; omega)
  | ⟨1, _⟩ => exact Fin.ext (by show 128 * j.val + (x 1).val = 128 * ((((lines j).idx x) 0).val % 8) + (((lines j).idx x) 1).val; rw [h0, h1]; omega)

/-- The eight strided stores together leave the expert's rows. -/
theorem stored {sp : Space} (M : Memref sig .tc sp S4096x128 .f32) (f : M.view.ty.Contents (Elt F)) (p q r : FVec F S512x1024 .f32)
    (D : Vec F S1024x1024 .bf16) (b : Vec F S1x1x1024 .f32) :
    M.view.read (Elt F) (M.view.writes (Elt F) f [⟨lines 7, k0_pay16 p q r D b⟩, ⟨lines 6, k0_pay15 p q r D b⟩, ⟨lines 5, k0_pay14 p q r D b⟩,
      ⟨lines 4, k0_pay13 p q r D b⟩, ⟨lines 3, k0_pay12 p q r D b⟩, ⟨lines 2, k0_pay11 p q r D b⟩, ⟨lines 1, k0_pay10 p q r D b⟩, ⟨lines 0, k0_pay9 p q r D b⟩])
      = unfolded (k0_pay8 p q r D b) := by
  funext y
  refine View.read_writes_apply_of_pieces (Val := Elt F) M.view f (unfolded (k0_pay8 p q r D b)) _ ?_ y ?_
  · simp only [List.forall_mem_cons]
    exact ⟨fun x => slice_lines (k0_pay8 p q r D b) 7 slices_S512x1024_o0_896_S512x128 x, fun x => slice_lines (k0_pay8 p q r D b) 6 slices_S512x1024_o0_768_S512x128 x, fun x => slice_lines (k0_pay8 p q r D b) 5 slices_S512x1024_o0_640_S512x128 x, fun x => slice_lines (k0_pay8 p q r D b) 4 slices_S512x1024_o0_512_S512x128 x,
      fun x => slice_lines (k0_pay8 p q r D b) 3 slices_S512x1024_o0_384_S512x128 x, fun x => slice_lines (k0_pay8 p q r D b) 2 slices_S512x1024_o0_256_S512x128 x, fun x => slice_lines (k0_pay8 p q r D b) 1 slices_S512x1024_o0_128_S512x128 x, fun x => slice_lines (k0_pay8 p q r D b) 0 slices_S512x1024_o0_0_S512x128 x, fun _ h => absurd h List.not_mem_nil⟩
  · have hy : (y 0).val < 4096 := (y 0).isLt
    have key : y ∈ (lines ⟨(y 0).val % 8, Nat.mod_lt _ (Nat.zero_lt_succ 7)⟩).set :=
      (lines _).mem_set.mpr fun a => match a with
        | ⟨0, _⟩ => ⟨(y 0).val / 8, show (y 0).val / 8 < 512 by omega, show (y 0).val = (y 0).val % 8 + 8 * ((y 0).val / 8) by omega⟩
        | ⟨1, _⟩ => ⟨(y 1).val, (y 1).isLt, show (y 1).val = 0 + 1 * (y 1).val by omega⟩
    generalize (⟨(y 0).val % 8, _⟩ : Fin 8) = j at key
    fin_cases j
    · exact ⟨⟨lines 0, k0_pay9 p q r D b⟩, by simp, key⟩
    · exact ⟨⟨lines 1, k0_pay10 p q r D b⟩, by simp, key⟩
    · exact ⟨⟨lines 2, k0_pay11 p q r D b⟩, by simp, key⟩
    · exact ⟨⟨lines 3, k0_pay12 p q r D b⟩, by simp, key⟩
    · exact ⟨⟨lines 4, k0_pay13 p q r D b⟩, by simp, key⟩
    · exact ⟨⟨lines 5, k0_pay14 p q r D b⟩, by simp, key⟩
    · exact ⟨⟨lines 6, k0_pay15 p q r D b⟩, by simp, key⟩
    · exact ⟨⟨lines 7, k0_pay16 p q r D b⟩, by simp, key⟩

/-- The whole of an array, loaded. -/
theorem readAt_all {sp : Space} {s : Shape} {e : EltTy} {M : Memref sig .tc sp s e} (f : M.view.ty.Contents (Elt F))
    {off : Fin s.rank → ℕ} (h : ∀ a, off a = 0) (inb) :
    M.view.readAt (Elt F) (Rect.unit (s := s) off s.size inb).toLoadRect f = M.view.read (Elt F) f := by
  funext y
  rw [View.readAt_apply]
  congr 1
  funext a
  exact Fin.ext (show off a + 1 * (y a).val = (y a).val by rw [h a]; omega)

variable (𝒱 : Variants) (c : Dev nD) (bd : Option 𝒱.V)

set_option maxHeartbeats 4000000 in
/-- The arithmetic part at a point: the output block ends as the expert's rows. -/
theorem compute_ends {M5 M10 : Memref sig .tc .vmem S4096x128 .f32} {M7 : Memref sig .tc .vmem S1x1x2048 .f32} {M9 : Memref sig .tc .vmem S1x1x1024 .f32}
    {M13 : Memref sig .tc .vmem S1024x2048 .bf16} {M14 : Memref sig .tc .vmem S1024x1024 .bf16}
    (f5 : Buf (Elt F) (M5.view.loc (c : Thread nD τ))) (f7 : Buf (Elt F) (M7.view.loc (c : Thread nD τ))) (f9 : Buf (Elt F) (M9.view.loc (c : Thread nD τ)))
    (f10 : Buf (Elt F) (M10.view.loc (c : Thread nD τ))) (f13 : Buf (Elt F) (M13.view.loc (c : Thread nD τ))) (f14 : Buf (Elt F) (M14.view.loc (c : Thread nD τ)))
    (i : grid0.Coords) {T1 T3 T4 : Memref sig .tc .smem S160 .i32} {T2 : Memref sig .tc .smem S1 .i32} {W1 : Memref sig .tc .hbm S32x1024x2048 .f32}
    {W2 : Memref sig .tc .hbm S32x1024x1024 .f32} {S1 : Memref sig .tc .vmem S2x1024x2048 .f32} {S2 : Memref sig .tc .vmem S2x1024x1024 .f32}
    (h1 : T1.IsWhole) (h2 : T2.IsWhole) (h3 : T3.IsWhole) (h4 : T4.IsWhole) (h5 : M5.IsWhole) (h6 : W1.IsWhole) (h7 : M7.IsWhole) (h8 : W2.IsWhole)
    (h9 : M9.IsWhole) (h10 : M10.IsWhole) (h11 : S1.IsWhole) (h12 : S2.IsWhole) (h13 : M13.IsWhole) (h14 : M14.IsWhole) (sems : DmaSems sig S2x2) :
    (iprop((M5.view.loc (c : Thread nD τ) ↦{fullShare} f5) ∗ (M7.view.loc (c : Thread nD τ) ↦{fullShare} f7) ∗ (M9.view.loc (c : Thread nD τ) ↦{fullShare} f9)
        ∗ (M10.view.loc (c : Thread nD τ) ↦{fullShare} f10) ∗ (M13.view.loc (c : Thread nD τ) ↦{fullShare} f13) ∗ (M14.view.loc (c : Thread nD τ) ↦{fullShare} f14)) : sProp 𝕄)
      ⊢ wp frame (wpE (defs₀ (F := F)) 𝒱 (c : Thread nD τ) bd) Set.univ
          (k0_part2 (F := F) i T1 h1 T2 h2 T3 h3 T4 h4 M5 h5 W1 h6 M7 h7 W2 h8 M9 h9 M10 h10 S1 h11 S2 h12 M13 h13 M14 h14 sems)
          fun _ => iprop((M5.view.loc (c : Thread nD τ) ↦{fullShare} f5) ∗ (M7.view.loc (c : Thread nD τ) ↦{fullShare} f7) ∗ (M9.view.loc (c : Thread nD τ) ↦{fullShare} f9)
        ∗ (M13.view.loc (c : Thread nD τ) ↦{fullShare} f13) ∗ (M14.view.loc (c : Thread nD τ) ↦{fullShare} f14)
        ∗ ∃ f, ⌜M10.view.read (Elt F) f = unfolded (rowsOut (M5.view.read (Elt F) f5) (M13.view.read (Elt F) f13) (M7.view.read (Elt F) f7) (M14.view.read (Elt F) f14) (M9.view.read (Elt F) f9))⌝
            ∗ (M10.view.loc (c : Thread nD τ) ↦{fullShare} f)) := by
  rw [k0_part2_eq_skeleton]
  unfold k0_part2_skel
  rw [k0_part1_eq_skeleton]
  unfold k0_part1_skel
  iintro ⟨H5, H7, H9, H10, H13, H14⟩
  sl_exec
  sl_step
  isplitl [H5]; · iexact H5
  isplitl [H7]; · iexact H7
  isplitl [H9]; · iexact H9
  isplitl [H13]; · iexact H13
  isplitl [H14]; · iexact H14
  iexists _; isplitr; swap
  · iexact H10
  · ipureintro
    refine (stored M10 f10 _ _ _ _ _).trans ?_
    rw [readAt_all (M := M7) (off := ![0, 0, 0]) f7 (by decide) inb_S1x1x2048_S1x1x2048_0_0_0, readAt_all (M := M9) (off := ![0, 0, 0]) f9 (by decide) inb_S1x1x1024_S1x1x1024_0_0_0,
      readAt_all (M := M13) (off := ![0, 0]) f13 (by decide) inb_S1024x2048_S1024x2048_0_0, readAt_all (M := M14) (off := ![0, 0]) f14 (by decide) inb_S1024x1024_S1024x1024_0_0]
    rfl

end Cert.Proof.Experts
-- ==== Proof.Stages.lean ====
/-
  The experts' body at a grid point, in four stages: the first expert's copies started, new weights taken and the next
  expert's copies started, the block of rows computed, or cleared where no block is in use.
-/
module

public import proofs.«01_k».proof.Proof.Compute

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Words and offsets at a point -/

theorem off2_eq : ∀ i : grid0.Coords, k0_off2 i = ![(i 0).val - 1] := by decide +kernel

theorem slot_off (s : Fin 2) : k0_off4 (BitVec.ofNat 32 s.val) = ![s.val, 0, 0] := by revert s; decide
theorem next_off (s : Fin 2) : k0_off18 (BitVec.ofNat 32 s.val) = ![(other s).val, 0, 0] := by revert s; decide
theorem expert_off (e : Fin 32) : k0_off5 (BitVec.ofNat 32 e.val) = ![e.val, 0, 0] := by revert e; decide
theorem slot_cell (s : Fin 2) : k0_off3 (BitVec.ofNat 32 s.val) = ![s.val, (0 : Fin 2).val] ∧ k0_off6 (BitVec.ofNat 32 s.val) = ![s.val, (1 : Fin 2).val] := by
  revert s; decide
theorem next_cell (s : Fin 2) : k0_off17 (BitVec.ofNat 32 s.val) = ![(other s).val, (0 : Fin 2).val] ∧ k0_off20 (BitVec.ofNat 32 s.val) = ![(other s).val, (1 : Fin 2).val] := by
  revert s; decide

/-- A plane named by a word lies within its array. -/
theorem plane_word {n C : ℕ} {off : Fin 3 → ℕ} {s : Fin n} (h : off = ![s.val, 0, 0]) :
    ∀ a, off a + (Planes 1 C).size a ≤ (Planes n C).size a := by subst h; exact plane_in s.isLt

theorem cell_word {off : Fin 2 → ℕ} {s k : Fin 2} (h : off = ![s.val, k.val]) : ∀ a, off a + S1x1.size a ≤ S2x2.size a := by
  subst h; exact cell_in s k

section Checks

variable (i : grid0.Coords) (v0 v10 v38 : BitVec 32) (s : Fin 2) (e e' : Fin 32)

theorem chk1 : k0_chk1 i v0 (BitVec.ofNat 32 s.val) :=
  ⟨fun _ => cell_word (slot_cell s).1, fun _ => plane_word (slot_off s), fun _ => cell_word (slot_cell s).2, fun _ => plane_word (slot_off s)⟩
theorem chk2 : k0_chk2 i v0 (BitVec.ofNat 32 e.val) := ⟨fun _ => plane_word (expert_off e), fun _ => plane_word (expert_off e)⟩
theorem chk3 : k0_chk3 i v0 (BitVec.ofNat 32 e.val) (BitVec.ofNat 32 s.val) v10 :=
  ⟨fun _ => cell_word (slot_cell s).1, fun _ => plane_word (slot_off s), fun _ => plane_word (expert_off e), fun _ => cell_word (slot_cell s).2,
    fun _ => plane_word (slot_off s), fun _ => plane_word (expert_off e), fun _ => plane_word (slot_off s), fun _ => plane_word (slot_off s)⟩
theorem chk4 : k0_chk4 i v0 (BitVec.ofNat 32 e.val) (BitVec.ofNat 32 s.val) v10 v38 :=
  ⟨fun _ _ => cell_word (next_cell s).1, fun _ _ => plane_word (next_off s), fun _ _ => cell_word (next_cell s).2, fun _ _ => plane_word (next_off s)⟩
theorem chk5 : k0_chk5 i v0 (BitVec.ofNat 32 e.val) v10 v38 (BitVec.ofNat 32 e'.val) :=
  ⟨fun _ _ => plane_word (expert_off e'), fun _ _ => plane_word (expert_off e')⟩

end Checks

/-- A word of a table, loaded. -/
theorem word_at {T : Memref sig .tc .smem S160 .i32} (f : T.view.ty.Contents (Elt F)) (n : Fin 160) {off : Fin 1 → ℕ} (h : off = ![n.val]) (inb)
    (x : (Rect.unit (s := S160) off S1.size inb).shape.Idx) :
    (T.access (Rect.unit (s := S160) off S1.size inb)).read (Elt F) f x = T.view.read (Elt F) f (ix1 n) := by
  subst h
  have hx : (x 0).val = 0 := Nat.lt_one_iff.mp (x 0).isLt
  show T.view.read (Elt F) f ((Rect.unit (s := S160) ![n.val] S1.size inb).emb x) = _
  congr 1
  funext a
  match a with
  | ⟨0, _⟩ => exact Fin.ext (show n.val + 1 * (x 0).val = n.val by rw [hx]; rfl)

theorem word_of {T : Memref sig .tc .smem S1 .i32} (f : T.view.ty.Contents (Elt F)) (inb)
    (x : (Rect.unit (s := S1) ![0] S1.size inb).shape.Idx) :
    (T.access (Rect.unit (s := S1) ![0] S1.size inb)).read (Elt F) f x = T.view.read (Elt F) f (ix1 0) := by
  have hx : (x 0).val = 0 := Nat.lt_one_iff.mp (x 0).isLt
  show T.view.read (Elt F) f ((Rect.unit (s := S1) ![0] S1.size inb).emb x) = _
  congr 1
  funext a
  match a with
  | ⟨0, _⟩ => exact Fin.ext (show 0 + 1 * (x 0).val = 0 by rw [hx])

/-! ## The cast weights -/

/-- Expert `e`'s gate-and-linear weights as the kernel casts them, and its down weights. -/
def castUp (X : S32x1024x2048.Idx → F .f32) (e : Fin 32) : Vec F S1024x2048 .bf16 := k0_pay1 fun z => X (ix3 e (z 1) (z 2))
def castDown (X : S32x1024x1024.Idx → F .f32) (e : Fin 32) : Vec F S1024x1024 .bf16 := k0_pay2 fun z => X (ix3 e (z 1) (z 2))

/-- A plane of a ring, loaded. -/
theorem readAt_plane {C : ℕ} {M : Memref sig .tc .vmem (Planes 2 C) .f32} (f : M.view.ty.Contents (Elt F)) (s : Fin 2) {off : Fin 3 → ℕ}
    (h : off = ![s.val, 0, 0]) (inb) (z : (Planes 1 C).Idx) :
    M.view.readAt (Elt F) (Rect.unit (s := Planes 2 C) off (Planes 1 C).size inb).toLoadRect f z = M.view.read (Elt F) f (ix3 s (z 1) (z 2)) := by
  subst h
  have hz : (z 0).val = 0 := Nat.lt_one_iff.mp (z 0).isLt
  rw [View.readAt_apply]
  congr 1
  funext a
  match a with
  | ⟨0, _⟩ => exact Fin.ext (show s.val + 1 * (z 0).val = s.val by rw [hz]; rfl)
  | ⟨1, _⟩ => exact Fin.ext (show 0 + 1 * (z 1).val = (z 1).val by omega)
  | ⟨2, _⟩ => exact Fin.ext (show 0 + 1 * (z 2).val = (z 2).val by omega)

theorem setOn_plane {C : ℕ} (M : Memref sig .tc .vmem (Planes 2 C) .f32) (s : Fin 2) {off : Fin 3 → ℕ} (h : off = ![s.val, 0, 0]) (inb) :
    M.view.setOn (Rect.unit (s := Planes 2 C) off (Planes 1 C).size inb).toLoadRect.set ⊆ plane M s.val := by
  rw [rect_plane h]
  exact subset_rfl

end Cert.Proof.Experts
-- ==== Proof.Turn.lean ====
/-
  The experts' body at a grid point, from the words its tables hold there.
-/
module

public import proofs.«01_k».proof.Proof.Stages

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the tables say at point `i`: whether its block is in use, whether it begins the blocks of its expert `e`, in slot `s`, and the expert
    after. -/
structure Words (i : grid0.Coords) (v0 : BitVec 32) (e : Fin 32) (s : Fin 2) (v10 vn : BitVec 32) where
  used : Bool
  fresh : Bool
  next : Option (Fin 32)
  few : v0.toNat ≤ 160
  used_iff : (i 0).val < v0.toNat ↔ used = true
  fresh_iff : ((i 0).val = 0 ∨ BitVec.ofNat 32 e.val ≠ v10) ↔ fresh = true
  next_some : ∀ e', next = some e' → vn = BitVec.ofNat 32 e'.val
  next_none : next = none → vn.toInt < 0

namespace Words

variable {i : grid0.Coords} {v0 v10 vn : BitVec 32} {e : Fin 32} {s : Fin 2} (w : Words i v0 e s v10 vn)

/-- New weights are taken here. -/
def takes : Bool := w.used && w.fresh

/-- What is under way after the first copies are started, from what was; -/
def pending (p : Option (Fin 2 × Fin 32)) : Option (Fin 2 × Fin 32) := if w.takes then some (s, e) else p
/-- and after the new weights are taken. -/
def leaves (p : Option (Fin 2 × Fin 32)) : Option (Fin 2 × Fin 32) := if w.takes then w.next.map fun e' => (other s, e') else p

theorem cond1 : k0_cond1 i v0 = 1#1 ↔ w.used = true ∧ (i 0).val = 0 := (cond1_iff i w.few).trans (and_congr_left' w.used_iff)
theorem cond2 : k0_cond2 i v0 (BitVec.ofNat 32 e.val) v10 = 1#1 ↔ w.takes = true := by
  rw [cond2_iff i w.few, w.used_iff, w.fresh_iff]; unfold takes; simp
theorem cond3 : k0_cond3 vn = 1#1 ↔ w.next.isSome = true := by
  rw [cond3_iff]
  rcases h : w.next with _ | e'
  · have := w.next_none h
    simp; omega
  · rw [w.next_some e' h, toInt_small (n := 32) (by rw [expert_toNat]; exact e'.isLt.le) (by decide)]
    simp; omega
theorem cond4 : k0_cond4 i v0 = 1#1 ↔ w.used = true := (cond4_iff i w.few).trans w.used_iff
theorem cond5 : k0_cond5 i v0 = 1#1 ↔ ¬ w.used = true := (cond5_iff i w.few).trans (not_congr w.used_iff)

end Words

variable (𝒱 : Variants) (c : Dev nD) (bd : Option 𝒱.V)

/-- A word loaded from scalar memory. -/
theorem wp_word {α : Type} {Q : α → sProp 𝕄} {s : Shape} {e : EltTy} {T : Memref sig .tc .smem s e} {r : Rect s} {h1 : r.shape.numel = 1}
    {hp : e.packing = 1} {k : Elt F e → Prog (TpuEff nD τ sig (Elt F) Λ₀ .tc) α} (f : Buf (Elt F) (T.view.loc (c : Thread nD τ))) (v : Elt F e)
    (hv : (T.access r).read (Elt F) f (Shape.Idx.first (h1.symm ▸ Nat.one_pos)) = v) :
    (iprop(T.view.loc (c : Thread nD τ) ↦{fullShare} f) : sProp 𝕄)
      ⊢ iprop(((T.view.loc (c : Thread nD τ) ↦{fullShare} f) -∗ wp frame (wpE (defs₀ (F := F)) 𝒱 (c : Thread nD τ) bd) Set.univ (k v) Q)
        -∗ wp frame (wpE (defs₀ (F := F)) 𝒱 (c : Thread nD τ) bd) Set.univ (smemLoad T r h1 hp >>= k) Q) := by
  subst hv
  exact wp_smemLoadElt (Val := Elt F) (defs := defs₀ (F := F)) (Q := Q) 𝒱 (c : Thread nD τ) bd Set.univ (m := T) (r := r) (hw := View.loads_smem_one hp h1)
    (x := Shape.Idx.first (h1.symm ▸ Nat.one_pos)) (k := k) (q := fullShare) (f := f) (Finset.subset_univ _)

/-- A side condition that holds. -/
theorem wp_check {α : Type} {Q : α → sProp 𝕄} {P : Prop} {dec : Decidable P} {k : PLift P → Prog (TpuEff nD τ sig (Elt F) Λ₀ .tc) α} (h : P) :
    wp frame (wpE (defs₀ (F := F)) 𝒱 (c : Thread nD τ) bd) Set.univ (k ⟨h⟩) Q
      ⊢ wp frame (wpE (defs₀ (F := F)) 𝒱 (c : Thread nD τ) bd) Set.univ (Prog.lift (TpuEff.assume P dec) >>= k) Q :=
  wp_assume 𝒱 (c : Thread nD τ) bd Set.univ h

/-- A stage before a program's rest: what the stage establishes is what the rest is run from. -/
theorem wp_join {α : Type} {Q : α → sProp 𝕄} {p : Prog (TpuEff nD τ sig (Elt F) Λ₀ .tc) α} (A : sProp 𝕄)
    (rest : PUnit.{1} → Prog (TpuEff nD τ sig (Elt F) Λ₀ .tc) α) :
    iprop(((A -∗ wp frame (wpE (defs₀ (F := F)) 𝒱 (c : Thread nD τ) bd) Set.univ (rest ⟨⟩) Q)
          -∗ wp frame (wpE (defs₀ (F := F)) 𝒱 (c : Thread nD τ) bd) Set.univ p Q)
        ∗ (A -∗ wp frame (wpE (defs₀ (F := F)) 𝒱 (c : Thread nD τ) bd) Set.univ (rest ⟨⟩) Q))
      ⊢ wp frame (wpE (defs₀ (F := F)) 𝒱 (c : Thread nD τ) bd) Set.univ p Q := by
  iintro ⟨H, HB⟩
  iapply H $$ HB

/-- An array of scratch written whole. -/
theorem wp_store_all {α : Type} {Q : α → sProp 𝕄} {sp : CoreSpace} {s : Shape} {e : EltTy} {M : Memref sig .tc sp s e} {off : Fin s.rank → ℕ} {inb}
    {w : (Rect.unit (s := s) off s.size inb).shape.Idx → Elt F e} {hx} {hm} {k : PUnit → Prog (TpuEff nD τ sig (Elt F) Λ₀ .tc) α} (hoff : ∀ a, off a = 0)
    (f : Buf (Elt F) (M.view.loc (c : Thread nD τ))) :
    (iprop(M.view.loc (c : Thread nD τ) ↦{fullShare} f) : sProp 𝕄)
      ⊢ iprop(((∃ f, ⌜M.view.read (Elt F) f = w⌝ ∗ (M.view.loc (c : Thread nD τ) ↦{fullShare} f))
          -∗ wp frame (wpE (defs₀ (F := F)) 𝒱 (c : Thread nD τ) bd) Set.univ (k ⟨⟩) Q)
        -∗ wp frame (wpE (defs₀ (F := F)) 𝒱 (c : Thread nD τ) bd) Set.univ
          (.op (.store M (Rect.unit (s := s) off s.size inb) w Finset.univ hx hm) k) Q) := by
  iintro H Hk
  iapply (wp_store (m := M) (f := f) 𝒱 (c : Thread nD τ) bd Set.univ (Finset.subset_univ _)) $$ [H]
  · iexact H
  iintro H
  iapply Hk
  iexists _
  isplitr
  swap
  · iexact H
  ipureintro
  rw [← readAt_all (M := M) _ hoff inb]
  funext y
  exact congrFun (View.read_write_univ (v := M.access (Rect.unit (s := s) off s.size inb)) f w) y

/-- What the second stage leaves: the copy it has started, the cast weights, and the rest. -/
def cast {M13 : Memref sig .tc .vmem S1024x2048 .bf16} {M14 : Memref sig .tc .vmem S1024x1024 .bf16} (used : Bool) (U : Vec F S1024x2048 .bf16)
    (D : Vec F S1024x1024 .bf16) : sProp 𝕄 :=
  iprop(∃ f13 f14, ⌜used = true → M13.view.read (Elt F) f13 = U ∧ M14.view.read (Elt F) f14 = D⌝
    ∗ (M13.view.loc (c : Thread nD τ) ↦{fullShare} f13) ∗ (M14.view.loc (c : Thread nD τ) ↦{fullShare} f14))

/-- A part run before a program's rest. -/
theorem wp_then {α : Type} {Q : α → sProp 𝕄} {P R : sProp 𝕄} {p : Prog (TpuEff nD τ sig (Elt F) Λ₀ .tc) PUnit.{1}}
    {k : PUnit → Prog (TpuEff nD τ sig (Elt F) Λ₀ .tc) α}
    (h : P ⊢ wp frame (wpE (defs₀ (F := F)) 𝒱 (c : Thread nD τ) bd) Set.univ p fun _ => R) :
    P ⊢ iprop((R -∗ wp frame (wpE (defs₀ (F := F)) 𝒱 (c : Thread nD τ) bd) Set.univ (k ⟨⟩) Q)
      -∗ wp frame (wpE (defs₀ (F := F)) 𝒱 (c : Thread nD τ) bd) Set.univ (p >>= k) Q) := by
  rw [wp_bind]
  iintro H Hk
  iapply wp_wand $$ [H]
  · iapply h; iexact H
  iintro %a HR
  iapply Hk $$ HR

theorem between_some {W1 : Memref sig .tc .hbm S32x1024x2048 .f32} {W2 : Memref sig .tc .hbm S32x1024x1024 .f32} (f1 : Buf (Elt F) (W1.view.loc (c : Thread nD τ)))
    (f2 : Buf (Elt F) (W2.view.loc (c : Thread nD τ))) (sems : DmaSems sig S2x2) (s : Fin 2) (e : Fin 32) :
    (between c sems f1 f2 (some (s, e)) : sProp 𝕄) = iprop(home c (other s) ∗ quiet c sems (other s) ∗ flying c sems f1 f2 s e) := rfl

theorem other_other (s : Fin 2) : other (other s) = s := by revert s; decide

/-- A stage left out. -/
theorem wp_omit {α : Type} {Q : α → sProp 𝕄} {P : Prop} {_ : Decidable P} {a : P → Prog (TpuEff nD τ sig (Elt F) Λ₀ .tc) α}
    {b : ¬ P → Prog (TpuEff nD τ sig (Elt F) Λ₀ .tc) α} (h : ¬ P) :
    wp frame (wpE (defs₀ (F := F)) 𝒱 (c : Thread nD τ) bd) Set.univ (b h) Q
      ⊢ wp frame (wpE (defs₀ (F := F)) 𝒱 (c : Thread nD τ) bd) Set.univ (dite P a b) Q := by
  rw [dif_neg h]

/-- A stage entered. -/
theorem wp_enter {α : Type} {Q : α → sProp 𝕄} {P : Prop} {_ : Decidable P} {a : P → Prog (TpuEff nD τ sig (Elt F) Λ₀ .tc) α}
    {b : ¬ P → Prog (TpuEff nD τ sig (Elt F) Λ₀ .tc) α} (h : P) :
    wp frame (wpE (defs₀ (F := F)) 𝒱 (c : Thread nD τ) bd) Set.univ (a h) Q
      ⊢ wp frame (wpE (defs₀ (F := F)) 𝒱 (c : Thread nD τ) bd) Set.univ (dite P a b) Q := by
  rw [dif_pos h]

set_option maxHeartbeats 8000000 in
/-- The body at a point: what is under way moves on, the cast weights are the point's expert's wherever its block is in use,
    and the output block ends as the expert's rows there, zero elsewhere. -/
theorem body_ends {T1 T3 T4 : Memref sig .tc .smem S160 .i32} {T2 : Memref sig .tc .smem S1 .i32} {M5 M10 : Memref sig .tc .vmem S4096x128 .f32}
    {M7 : Memref sig .tc .vmem S1x1x2048 .f32} {M9 : Memref sig .tc .vmem S1x1x1024 .f32} {W1 : Memref sig .tc .hbm S32x1024x2048 .f32}
    {W2 : Memref sig .tc .hbm S32x1024x1024 .f32} {M13 : Memref sig .tc .vmem S1024x2048 .bf16} {M14 : Memref sig .tc .vmem S1024x1024 .bf16}
    (g1 : Buf (Elt F) (T1.view.loc (c : Thread nD τ))) (g2 : Buf (Elt F) (T2.view.loc (c : Thread nD τ))) (g3 : Buf (Elt F) (T3.view.loc (c : Thread nD τ)))
    (g4 : Buf (Elt F) (T4.view.loc (c : Thread nD τ))) (f1 : Buf (Elt F) (W1.view.loc (c : Thread nD τ))) (f2 : Buf (Elt F) (W2.view.loc (c : Thread nD τ)))
    (f5 : Buf (Elt F) (M5.view.loc (c : Thread nD τ))) (f7 : Buf (Elt F) (M7.view.loc (c : Thread nD τ))) (f9 : Buf (Elt F) (M9.view.loc (c : Thread nD τ)))
    (f10 : Buf (Elt F) (M10.view.loc (c : Thread nD τ))) (f13 : Buf (Elt F) (M13.view.loc (c : Thread nD τ))) (f14 : Buf (Elt F) (M14.view.loc (c : Thread nD τ)))
    (i : grid0.Coords) (n : Fin 160) (hn : (i 0).val = n.val) (n' : Fin 160) (hn' : (i 0).val - 1 = n'.val)
    (v0 v10 vn : BitVec 32) (e : Fin 32) (s : Fin 2) (w : Words i v0 e s v10 vn) (hv0 : T2.view.read (Elt F) g2 (ix1 0) = v0)
    (hv3 : T1.view.read (Elt F) g1 (ix1 n) = BitVec.ofNat 32 e.val) (hv5 : T4.view.read (Elt F) g4 (ix1 n) = BitVec.ofNat 32 s.val)
    (hv10 : T1.view.read (Elt F) g1 (ix1 n') = v10) (hvn : T3.view.read (Elt F) g3 (ix1 n) = vn)
    (p : Option (Fin 2 × Fin 32)) (h0 : (i 0).val = 0 → p = none) (h1 : w.takes = true → (i 0).val ≠ 0 → p = some (s, e))
    (hk : w.used = true → w.fresh = false → M13.view.read (Elt F) f13 = castUp (W1.view.read (Elt F) f1) e ∧ M14.view.read (Elt F) f14 = castDown (W2.view.read (Elt F) f2) e)
    (t1 : T1.IsWhole) (t2 : T2.IsWhole) (t3 : T3.IsWhole) (t4 : T4.IsWhole) (h5 : M5.IsWhole) (h6 : W1.IsWhole) (h7 : M7.IsWhole) (h8 : W2.IsWhole)
    (h9 : M9.IsWhole) (h10 : M10.IsWhole) (h11 : R1.IsWhole) (h12 : R2.IsWhole) (h13 : M13.IsWhole) (h14 : M14.IsWhole) (sems : DmaSems sig S2x2) :
    (iprop((T1.view.loc (c : Thread nD τ) ↦{fullShare} g1) ∗ (T2.view.loc (c : Thread nD τ) ↦{fullShare} g2) ∗ (T3.view.loc (c : Thread nD τ) ↦{fullShare} g3)
        ∗ (T4.view.loc (c : Thread nD τ) ↦{fullShare} g4)
        ∗ (M5.view.loc (c : Thread nD τ) ↦{fullShare} f5) ∗ (M7.view.loc (c : Thread nD τ) ↦{fullShare} f7) ∗ (M9.view.loc (c : Thread nD τ) ↦{fullShare} f9)
        ∗ (M10.view.loc (c : Thread nD τ) ↦{fullShare} f10) ∗ (M13.view.loc (c : Thread nD τ) ↦{fullShare} f13) ∗ (M14.view.loc (c : Thread nD τ) ↦{fullShare} f14)
        ∗ between c sems f1 f2 p ∗ ∃ Wt, owes (c : Thread nD τ) (0 : CellTallies nD τ sig Unit) Wt) : sProp 𝕄)
      ⊢ wp frame (wpE (defs₀ (F := F)) 𝒱 (c : Thread nD τ) bd) Set.univ
          (cc0__expert_kernel (F := F) i T1 t1 T2 t2 T3 t3 T4 t4 M5 h5 W1 h6 M7 h7 W2 h8 M9 h9 M10 h10 R1 h11 R2 h12 M13 h13 M14 h14 sems)
          fun _ => iprop((T1.view.loc (c : Thread nD τ) ↦{fullShare} g1) ∗ (T2.view.loc (c : Thread nD τ) ↦{fullShare} g2) ∗ (T3.view.loc (c : Thread nD τ) ↦{fullShare} g3)
        ∗ (T4.view.loc (c : Thread nD τ) ↦{fullShare} g4)
        ∗ (M5.view.loc (c : Thread nD τ) ↦{fullShare} f5) ∗ (M7.view.loc (c : Thread nD τ) ↦{fullShare} f7) ∗ (M9.view.loc (c : Thread nD τ) ↦{fullShare} f9)
        ∗ (∃ f10, ⌜M10.view.read (Elt F) f10 = if w.used then unfolded (rowsOut (M5.view.read (Elt F) f5) (castUp (W1.view.read (Elt F) f1) e)
              (M7.view.read (Elt F) f7) (castDown (W2.view.read (Elt F) f2) e) (M9.view.read (Elt F) f9)) else k0_pay3⌝ ∗ (M10.view.loc (c : Thread nD τ) ↦{fullShare} f10))
        ∗ (∃ f13 f14, ⌜w.used = true → M13.view.read (Elt F) f13 = castUp (W1.view.read (Elt F) f1) e ∧ M14.view.read (Elt F) f14 = castDown (W2.view.read (Elt F) f2) e⌝
            ∗ (M13.view.loc (c : Thread nD τ) ↦{fullShare} f13) ∗ (M14.view.loc (c : Thread nD τ) ↦{fullShare} f14))
        ∗ between c sems f1 f2 (w.leaves p) ∗ ∃ Wt, owes (c : Thread nD τ) (0 : CellTallies nD τ sig Unit) Wt) := by
  rw [cc0__expert_kernel_eq_skeleton]
  unfold cc0__expert_kernel_skel
  iintro ⟨A1, A2, A3, A4, H5, H7, H9, H10, H13, H14, HB, HO⟩
  iapply (wp_word 𝒱 c bd g2 v0 ((word_of g2 _ _).trans hv0)) $$ [A2]
  · iexact A2
  iintro A2
  iapply (wp_word 𝒱 c bd g1 (BitVec.ofNat 32 e.val) ((word_at g1 n (by rw [k0_off1_eq, hn]) _ _).trans hv3)) $$ [A1]
  · iexact A1
  iintro A1
  iapply (wp_check 𝒱 c bd (chk2 i _ _))
  iapply (wp_word 𝒱 c bd g4 (BitVec.ofNat 32 s.val) ((word_at g4 n (by rw [k0_off1_eq, hn]) _ _).trans hv5)) $$ [A4]
  · iexact A4
  iintro A4
  iapply (wp_check 𝒱 c bd (chk1 i _ _))
  iapply (wp_word 𝒱 c bd g1 v10 ((word_at g1 n' (by rw [off2_eq, hn']) _ _).trans hv10)) $$ [A1]
  · iexact A1
  iintro A1
  iapply (wp_check 𝒱 c bd (chk3 i _ _ _ _))
  extract_lets -underBinder +onlyGivenNames _ after1
  -- the first point's own weights are sent for
  iapply (wp_join 𝒱 c bd iprop(between c sems f1 f2 (w.pending p)) after1)
  isplitl [HB]
  · iintro Hk
    by_cases hc : k0_cond1 i v0 = 1#1
    · obtain ⟨hu, hz⟩ := w.cond1.mp hc
      have ht : w.takes = true := by
        unfold Words.takes; rw [hu, w.fresh_iff.mp (Or.inl hz)]; rfl
      obtain rfl := h0 hz
      rw [show w.pending none = some (s, e) by unfold Words.pending; rw [if_pos ht]]
      iapply (wp_enter 𝒱 c bd hc)
      ihave HB := (between_none c sems f1 f2 s).1 $$ HB
      icases HB with ⟨P, P', Z, Z', WW⟩
      iapply (wp_start 𝒱 c bd sems f1 f2 s e (expert_off e) (slot_off s) (expert_off e) (slot_off s)
        (cell_eq sems s 0 (slot_cell s).1 _) (cell_eq sems s 1 (slot_cell s).2 _)) $$ [P Z WW]
      · isplitl [P]
        · iexact P
        isplitl [Z]
        · iexact Z
        iexact WW
      iintro HF
      iapply Hk
      rw [between_some]
      isplitl [P']
      · iexact P'
      isplitl [Z']
      · iexact Z'
      iexact HF
    · iapply (wp_omit 𝒱 c bd hc)
      iapply Hk
      have hp : w.pending p = p := by
        unfold Words.pending
        split
        · rename_i ht
          refine (h1 ht fun hz => hc (w.cond1.mpr ⟨?_, hz⟩)).symm
          unfold Words.takes at ht
          exact (Bool.and_eq_true_iff.mp ht).1
        · rfl
      rw [hp]
      iexact HB
  iintro HB
  -- where an expert's blocks begin, its weights are awaited, the next expert's sent for, and the weights cast
  dsimp -zeta only [after1]
  extract_lets -underBinder +onlyGivenNames after2
  iapply (wp_join 𝒱 c bd (A := iprop((T3.view.loc (c : Thread nD τ) ↦{fullShare} g3) ∗ between c sems f1 f2 (w.leaves p)
    ∗ cast c (M13 := M13) (M14 := M14) w.used (castUp (W1.view.read (Elt F) f1) e) (castDown (W2.view.read (Elt F) f2) e)
    ∗ ∃ Wt, owes (c : Thread nD τ) (0 : CellTallies nD τ sig Unit) Wt)) after2)
  isplitl [HB A3 H13 H14 HO]
  · iintro Hk
    by_cases hc : k0_cond2 i v0 (BitVec.ofNat 32 e.val) v10 = 1#1
    · have ht := w.cond2.mp hc
      rw [show w.pending p = some (s, e) by unfold Words.pending; rw [if_pos ht]]
      iapply (wp_enter 𝒱 c bd hc)
      ihave HB := (Entails.of_eq (between_some c f1 f2 sems s e)) $$ HB
      icases HB with ⟨P', Z', HF⟩
      icases HO with ⟨%Wt, HO⟩
      iapply (wp_await 𝒱 c bd sems f1 f2 s e Wt (cell_eq sems s 0 (slot_cell s).1 _) (cell_eq sems s 1 (slot_cell s).2 _)) $$ [HF HO]
      · isplitl [HF]
        · iexact HF
        iexact HO
      iintro ⟨L1, L2, Z, WW, HO⟩
      iapply (wp_word (h1 := numel1_S1) (hp := rfl) 𝒱 c bd g3 vn ((word_at g3 n (by rw [k0_off15_eq, hn]) _ _).trans hvn)) $$ [A3]
      · iexact A3
      iintro A3
      iapply (wp_check 𝒱 c bd (chk4 i _ _ _ _ _))
      extract_lets -underBinder +onlyGivenNames _ after
      iapply (wp_join 𝒱 c bd (A := iprop((T3.view.loc (c : Thread nD τ) ↦{fullShare} g3)
        ∗ (match w.next with
          | none => iprop(home c (other s) ∗ quiet c sems (other s) ∗ weights c f1 f2)
          | some e' => flying c sems f1 f2 (other s) e'))) after)
      isplitl [A3 P' Z' WW]
      · iintro Hk
        by_cases hc' : k0_cond3 vn = 1#1
        · obtain ⟨e', he'⟩ := Option.isSome_iff_exists.mp (w.cond3.mp hc')
          obtain rfl := w.next_some e' he'
          iapply (wp_enter 𝒱 c bd hc')
          iapply (wp_word (h1 := numel1_S1) (hp := rfl) 𝒱 c bd g3 (BitVec.ofNat 32 e'.val) ((word_at g3 n (by rw [k0_off16_eq, hn]) _ _).trans hvn)) $$ [A3]
          · iexact A3
          iintro A3
          iapply (wp_check 𝒱 c bd (chk5 i _ _ _ _ _))
          iapply (wp_start 𝒱 c bd sems f1 f2 (other s) e' (expert_off e') (next_off s) (expert_off e') (next_off s)
            (cell_eq sems (other s) 0 (next_cell s).1 _) (cell_eq sems (other s) 1 (next_cell s).2 _)) $$ [P' Z' WW]
          · isplitl [P']
            · iexact P'
            isplitl [Z']
            · iexact Z'
            iexact WW
          iintro HF
          iapply Hk
          rw [he']
          isplitl [A3]
          · iexact A3
          iexact HF
        · have he' : w.next = none := by
            rcases h : w.next with _ | e'
            · rfl
            · exact absurd (w.cond3.mpr (by rw [h]; rfl)) hc'
          iapply (wp_omit 𝒱 c bd hc')
          iapply Hk
          rw [he']
          isplitl [A3]
          · iexact A3
          isplitl [P']
          · iexact P'
          isplitl [Z']
          · iexact Z'
          iexact WW
      iintro ⟨A3, HN⟩
      dsimp -zeta only [after]
      unfold loaded
      icases L1 with ⟨%r1, %hr1, L1⟩
      icases L2 with ⟨%r2, %hr2, L2⟩
      iapply (wp_load (m := R1) (f := r1) 𝒱 (c : Thread nD τ) bd Set.univ (setOn_plane R1 s (slot_off s) _)) $$ [L1]
      · iexact L1
      iintro L1
      iapply (wp_load (m := M13) (f := f13) 𝒱 (c : Thread nD τ) bd Set.univ (Finset.subset_univ _)) $$ [H13]
      · iexact H13
      iintro H13
      iapply (wp_store_all (M := M13) 𝒱 c bd (by decide) f13) $$ [H13]
      · iexact H13
      iintro ⟨%q13, %hq13, H13⟩
      iapply (wp_load (m := R2) (f := r2) 𝒱 (c : Thread nD τ) bd Set.univ (setOn_plane R2 s (slot_off s) _)) $$ [L2]
      · iexact L2
      iintro L2
      iapply (wp_load (m := M14) (f := f14) 𝒱 (c : Thread nD τ) bd Set.univ (Finset.subset_univ _)) $$ [H14]
      · iexact H14
      iintro H14
      iapply (wp_store_all (M := M14) 𝒱 c bd (by decide) f14) $$ [H14]
      · iexact H14
      iintro ⟨%q14, %hq14, H14⟩
      iapply Hk
      isplitl [A3]
      · iexact A3
      isplitl [HN L1 L2 Z]
      · rw [show w.leaves p = w.next.map fun e' => (other s, e') by unfold Words.leaves; rw [if_pos ht]]
        rcases w.next with _ | e'
        · icases HN with ⟨P', Z', WW⟩
          iapply (between_none c sems f1 f2 s).2
          isplitl [L1 L2]
          · unfold home
            isplitl [L1]
            · iexists r1; iexact L1
            iexists r2; iexact L2
          isplitl [P']
          · iexact P'
          isplitl [Z]
          · iexact Z
          isplitl [Z']
          · iexact Z'
          iexact WW
        · rw [show Option.map (fun e' => (other s, e')) (some e') = some (other s, e') from rfl]
          rw [between_some]
          rw [other_other s]
          isplitl [L1 L2]
          · unfold home
            isplitl [L1]
            · iexists r1; iexact L1
            iexists r2; iexact L2
          isplitl [Z]
          · iexact Z
          iexact HN
      isplitl [H13 H14]
      · unfold cast
        iexists q13, q14
        isplitr
        · ipureintro
          intro _
          constructor
          · rw [hq13]
            unfold castUp
            congr 1
            funext z
            exact (readAt_plane (M := R1) r1 s (slot_off s) _ z).trans (hr1 _ _)
          · rw [hq14]
            unfold castDown
            congr 1
            funext z
            exact (readAt_plane (M := R2) r2 s (slot_off s) _ z).trans (hr2 _ _)
        isplitl [H13]
        · iexact H13
        iexact H14
      iexact HO
    · have ht : ¬ w.takes = true := fun h => hc (w.cond2.mpr h)
      iapply (wp_omit 𝒱 c bd hc)
      iapply Hk
      rw [show w.pending p = p by unfold Words.pending; rw [if_neg ht], show w.leaves p = p by unfold Words.leaves; rw [if_neg ht]]
      isplitl [A3]
      · iexact A3
      isplitl [HB]
      · iexact HB
      isplitl [H13 H14]
      · unfold cast
        iexists f13, f14
        isplitr
        · ipureintro
          intro hu
          refine hk hu ?_
          unfold Words.takes at ht
          rw [hu] at ht
          simpa using ht
        isplitl [H13]
        · iexact H13
        iexact H14
      iexact HO
  iintro ⟨A3, HB, HC, HO⟩
  dsimp -zeta only [after2]
  extract_lets -underBinder +onlyGivenNames after3
  -- a block in use is computed
  iapply (wp_join 𝒱 c bd (A := iprop((M5.view.loc (c : Thread nD τ) ↦{fullShare} f5) ∗ (M7.view.loc (c : Thread nD τ) ↦{fullShare} f7)
    ∗ (M9.view.loc (c : Thread nD τ) ↦{fullShare} f9)
    ∗ cast c (M13 := M13) (M14 := M14) w.used (castUp (W1.view.read (Elt F) f1) e) (castDown (W2.view.read (Elt F) f2) e)
    ∗ ∃ f, ⌜w.used = true → M10.view.read (Elt F) f = unfolded (rowsOut (M5.view.read (Elt F) f5) (castUp (W1.view.read (Elt F) f1) e)
        (M7.view.read (Elt F) f7) (castDown (W2.view.read (Elt F) f2) e) (M9.view.read (Elt F) f9))⌝ ∗ (M10.view.loc (c : Thread nD τ) ↦{fullShare} f))) after3)
  isplitl [H5 H7 H9 H10 HC]
  · iintro Hk
    unfold cast
    icases HC with ⟨%q13, %q14, %hq, H13, H14⟩
    by_cases hc : k0_cond4 i v0 = 1#1
    · obtain ⟨e13, e14⟩ := hq (w.cond4.mp hc)
      iapply (wp_enter 𝒱 c bd hc)
      iapply (wp_then 𝒱 c bd (compute_ends 𝒱 c bd f5 f7 f9 f10 q13 q14 i t1 t2 t3 t4 h5 h6 h7 h8 h9 h10 h11 h12 h13 h14 sems)) $$ [H5 H7 H9 H10 H13 H14]
      · isplitl [H5]; · iexact H5
        isplitl [H7]; · iexact H7
        isplitl [H9]; · iexact H9
        isplitl [H10]; · iexact H10
        isplitl [H13]; · iexact H13
        iexact H14
      iintro ⟨H5, H7, H9, H13, H14, ⟨%r, %hr, H10⟩⟩
      rw [e13, e14] at hr
      iapply Hk
      isplitl [H5]; · iexact H5
      isplitl [H7]; · iexact H7
      isplitl [H9]; · iexact H9
      isplitl [H13 H14]
      · iexists q13, q14
        isplitr; · ipureintro; exact hq
        isplitl [H13]; · iexact H13
        iexact H14
      iexists r
      isplitr; · ipureintro; exact fun _ => hr
      iexact H10
    · iapply (wp_omit 𝒱 c bd hc)
      iapply Hk
      isplitl [H5]; · iexact H5
      isplitl [H7]; · iexact H7
      isplitl [H9]; · iexact H9
      isplitl [H13 H14]
      · iexists q13, q14
        isplitr; · ipureintro; exact hq
        isplitl [H13]; · iexact H13
        iexact H14
      iexists f10
      isplitr; · ipureintro; exact fun h => absurd (w.cond4.mpr h) hc
      iexact H10
  iintro ⟨H5, H7, H9, HC, ⟨%r, %hr, H10⟩⟩
  dsimp -zeta only [after3]
  extract_lets -underBinder +onlyGivenNames after4
  -- a block in no use is cleared
  iapply (wp_join 𝒱 c bd (A := iprop(∃ f, ⌜M10.view.read (Elt F) f = if w.used then unfolded (rowsOut (M5.view.read (Elt F) f5) (castUp (W1.view.read (Elt F) f1) e)
        (M7.view.read (Elt F) f7) (castDown (W2.view.read (Elt F) f2) e) (M9.view.read (Elt F) f9)) else k0_pay3⌝ ∗ (M10.view.loc (c : Thread nD τ) ↦{fullShare} f))) after4)
  isplitl [H10]
  · iintro Hk
    by_cases hc : k0_cond5 i v0 = 1#1
    · iapply (wp_enter 𝒱 c bd hc)
      iapply (wp_load (m := M10) (f := r) 𝒱 (c : Thread nD τ) bd Set.univ (Finset.subset_univ _)) $$ [H10]
      · iexact H10
      iintro H10
      iapply (wp_store_all (M := M10) 𝒱 c bd (by decide) r) $$ [H10]
      · iexact H10
      iintro ⟨%q, %hq, H10⟩
      iapply Hk
      iexists q
      isplitr
      · ipureintro
        rw [if_neg (w.cond5.mp hc)]
        exact hq
      iexact H10
    · iapply (wp_omit 𝒱 c bd hc)
      iapply Hk
      iexists r
      isplitr
      · ipureintro
        have hu : w.used = true := by
          by_contra h
          exact hc (w.cond5.mpr h)
        rw [if_pos hu]
        exact hr hu
      iexact H10
  iintro H10
  dsimp -zeta only [after4]
  sl_step
  isplitl [A1]; · iexact A1
  isplitl [A2]; · iexact A2
  isplitl [A3]; · iexact A3
  isplitl [A4]; · iexact A4
  isplitl [H5]; · iexact H5
  isplitl [H7]; · iexact H7
  isplitl [H9]; · iexact H9
  isplitl [H10]; · iexact H10
  unfold cast
  isplitl [HC]; · iexact HC
  isplitl [HB]; · iexact HB
  iexact HO

end Cert.Proof.Experts
-- ==== Proof.Schedule.lean ====
/-
  The experts' schedule: what the tables say of every block, and what is under way before each point.
-/
module

public import proofs.«01_k».proof.Proof.Turn
public import proofs.«01_k».proof.Proof.Gen.Kernel2Ideal.Launch
public import Idealize.ShloMosaic.Lib.Pipeline.Regions
public import Idealize.ShloMosaic.Lib.Pipeline.Kit
public import Idealize.ShloMosaic.Lib.Pipeline.FrameBody

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

/-! ## A schedule -/

/-- What the tables say: each block's expert, slot, and the expert after it; and how many blocks are in use. -/
structure Plan where
  E : Fin 160 → Fin 32
  S : Fin 160 → Fin 2
  X : Fin 160 → Option (Fin 32)
  U : ℕ

namespace Plan

variable (P : Plan)

/-- The block before, or the first. -/
def prev (n : Fin 160) : Fin 160 := ⟨n.val - 1, by omega⟩

/-- A schedule that can be run: a block in use after the first goes on with its expert, or is the first of the expert announced, in the
    other slot; the last block in use announces none. -/
structure Sound : Prop where
  few : P.U ≤ 160
  step : ∀ n : Fin 160, n.val ≠ 0 → n.val < P.U → (P.E n = P.E (prev n) ∧ P.X n = P.X (prev n) ∧ P.S n = P.S (prev n))
    ∨ (P.E n ≠ P.E (prev n) ∧ P.X (prev n) = some (P.E n) ∧ P.S n = other (P.S (prev n)))
  last : ∀ n : Fin 160, n.val + 1 = P.U → P.X n = none

/-- Under way after block `n`: its announced expert's weights, into the slot not its own. -/
def next (n : Fin 160) : Option (Fin 2 × Fin 32) := if n.val < P.U then (P.X n).map fun e => (other (P.S n), e) else none
/-- Under way before block `n`. -/
def under (n : ℕ) : Option (Fin 2 × Fin 32) := if n = 0 then none else if h : n - 1 < 160 then P.next ⟨n - 1, h⟩ else none

theorem under_pos (n : Fin 160) (h : n.val ≠ 0) : P.under n.val = P.next (prev n) := by
  unfold under
  rw [if_neg h, dif_pos (by omega : n.val - 1 < 160)]
  rfl
theorem under_succ (n : Fin 160) : P.under (n.val + 1) = P.next n := by
  unfold under
  rw [if_neg (by omega), dif_pos (by omega : n.val + 1 - 1 < 160)]
  rfl

/-- Block `n` takes new weights. -/
def takes (n : Fin 160) : Bool := decide (n.val < P.U) && decide (n.val = 0 ∨ P.E n ≠ P.E (prev n))

variable {P} (H : P.Sound)
include H

theorem under_takes (n : Fin 160) (ht : P.takes n = true) (h0 : n.val ≠ 0) : P.under n.val = some (P.S n, P.E n) := by
  unfold takes at ht
  obtain ⟨hu, hf⟩ := Bool.and_eq_true_iff.mp ht
  have hu := of_decide_eq_true hu
  rw [P.under_pos n h0, next, if_pos (show (prev n).val < P.U from by show n.val - 1 < _; omega)]
  rcases H.step n h0 hu with ⟨h, -⟩ | ⟨-, hx, hs⟩
  · rcases of_decide_eq_true hf with h' | h'
    · exact absurd h' h0
    · exact absurd h h'
  · rw [hx, hs]; rfl

theorem under_next (n : Fin 160) : (if P.takes n then (P.X n).map fun e => (other (P.S n), e) else P.under n.val) = P.under (n.val + 1) := by
  rw [P.under_succ, next]
  by_cases hu : n.val < P.U
  · rw [if_pos hu]
    by_cases ht : P.takes n = true
    · rw [if_pos ht]
    · rw [if_neg ht]
      have hn : ¬ (n.val = 0 ∨ P.E n ≠ P.E (prev n)) := fun h => ht (by unfold takes; rw [decide_eq_true hu, decide_eq_true h]; rfl)
      rw [not_or] at hn
      rw [P.under_pos n hn.1, next, if_pos (show (prev n).val < P.U from by show n.val - 1 < _; omega)]
      rcases H.step n hn.1 hu with ⟨-, hx, hs⟩ | ⟨h, -⟩
      · rw [hx, hs]
      · exact absurd h hn.2
  · rw [if_neg hu, if_neg (by unfold takes; rw [decide_eq_false hu]; exact Bool.false_ne_true)]
    by_cases h0 : n.val = 0
    · rw [h0]; rfl
    · rw [P.under_pos n h0, next]
      split
      · rename_i h
        have h : n.val - 1 < P.U := h
        rw [H.last (prev n) (by show n.val - 1 + 1 = P.U; omega)]; rfl
      · rfl

theorem under_last (n : Fin 160) (hn : n.val = 159) : P.under (n.val + 1) = none := by
  refine (P.under_succ n).trans ?_
  unfold next
  have := H.few
  by_cases h : n.val < P.U
  · exact (if_pos h).trans (by rw [H.last n (by omega)]; rfl)
  · exact if_neg h

end Plan

/-! ## The rings' planes -/

variable {F : FTy → Type} [FloatOps F]

local notation "𝕄" => MT nD τ sig Unit (Elt F) ℕ UU ℕ

theorem planes_rest {C : ℕ} : Finset.univ \ planeIdx 2 C 0 = planeIdx 2 C 1 := by
  ext i
  have h : (i 0).val < 2 := (i 0).isLt
  unfold planeIdx
  simp only [Finset.mem_sdiff, Finset.mem_univ, true_and, Finset.mem_filter]
  omega

theorem plane_sdiff {C : ℕ} {sp : Space} (M : Memref sig .tc sp (Planes 2 C) .f32) (hM : M.view.set = Finset.univ) :
    Finset.univ \ plane M 0 = plane M 1 := by
  ext x
  have hx : x ∈ M.view.set := by rw [hM]; exact Finset.mem_univ x
  obtain ⟨i, -, rfl⟩ := Finset.mem_map.mp hx
  have h0 : M.view.emb i ∈ plane M 0 ↔ i ∈ planeIdx 2 C 0 := Finset.mem_map' M.view.emb
  have h1 : M.view.emb i ∈ plane M 1 ↔ i ∈ planeIdx 2 C 1 := Finset.mem_map' M.view.emb
  rw [Finset.mem_sdiff, h0, h1, ← planes_rest, Finset.mem_sdiff]
  exact and_congr_left' ⟨fun _ => Finset.mem_univ _, fun _ => Finset.mem_univ _⟩

/-- A ring is its two planes. -/
theorem ring_split {C : ℕ} {sp : Space} (c : Dev nD) (M : Memref sig .tc sp (Planes 2 C) .f32) (hM : M.view.set = Finset.univ) (f : Buf (Elt F) (M.view.loc (c : Thread nD τ))) :
    (iprop(M.view.loc (c : Thread nD τ) ↦{fullShare} f) : sProp 𝕄)
      ⊢ iprop((M.view.loc (c : Thread nD τ) ↦[plane M 0]{fullShare} f) ∗ (M.view.loc (c : Thread nD τ) ↦[plane M 1]{fullShare} f)) := by
  rw [← plane_sdiff M hM]
  exact (pointsTo_split_subset (Finset.subset_univ _)).1

theorem ring_join {C : ℕ} {sp : Space} (c : Dev nD) (M : Memref sig .tc sp (Planes 2 C) .f32) (hM : M.view.set = Finset.univ)
    (f g : Buf (Elt F) (M.view.loc (c : Thread nD τ))) :
    (iprop((M.view.loc (c : Thread nD τ) ↦[plane M 0]{fullShare} f) ∗ (M.view.loc (c : Thread nD τ) ↦[plane M 1]{fullShare} g)) : sProp 𝕄)
      ⊢ iprop(∃ f, M.view.loc (c : Thread nD τ) ↦{fullShare} f) := by
  rw [← plane_sdiff M hM]
  iintro H
  iexists _
  iapply (pointsTo_join_subset (Finset.subset_univ (plane M 0)))
  iexact H

/-- The rings, whole, are all their planes. -/
theorem homes_of_rings (c : Dev nD) :
    (iprop((∃ f, R1.view.loc (c : Thread nD τ) ↦{fullShare} f) ∗ (∃ f, R2.view.loc (c : Thread nD τ) ↦{fullShare} f)) : sProp 𝕄)
      ⊢ iprop(home c 0 ∗ home c 1) := by
  unfold home
  iintro ⟨⟨%f, H1⟩, ⟨%g, H2⟩⟩
  ihave H1 := (ring_split c R1 (Memref.isWhole_whole cc0_scratch0).set_eq_univ f) $$ H1
  ihave H2 := (ring_split c R2 (Memref.isWhole_whole cc0_scratch1).set_eq_univ g) $$ H2
  icases H1 with ⟨P1, Q1⟩
  icases H2 with ⟨P2, Q2⟩
  isplitl [P1 P2]
  · isplitl [P1]
    · iexists f; iexact P1
    iexists g; iexact P2
  isplitl [Q1]
  · iexists f; iexact Q1
  iexists g; iexact Q2

theorem rings_of_homes (c : Dev nD) :
    (iprop(home c 0 ∗ home c 1) : sProp 𝕄)
      ⊢ iprop((∃ f, R1.view.loc (c : Thread nD τ) ↦{fullShare} f) ∗ (∃ f, R2.view.loc (c : Thread nD τ) ↦{fullShare} f)) := by
  unfold home
  iintro ⟨⟨⟨%f, P1⟩, ⟨%g, P2⟩⟩, ⟨⟨%f', Q1⟩, ⟨%g', Q2⟩⟩⟩
  isplitl [P1 Q1]
  · iapply (ring_join c R1 (Memref.isWhole_whole cc0_scratch0).set_eq_univ f f')
    isplitl [P1]
    · iexact P1
    iexact Q1
  iapply (ring_join c R2 (Memref.isWhole_whole cc0_scratch1).set_eq_univ g g')
  isplitl [P2]
  · iexact P2
  iexact Q2

/-! ## Before the region -/

/-- The pipeline library's algebra within the certificate's. -/
abbrev EP : Emb (UR sig nD τ) 𝕄 := embL

variable (m : (ℓ : Loc nD τ sig) → Buf (Elt F) ℓ) (ρ : Dev nD → PrngReg)

/-- A core's buffers at launch, -/
abbrev V₀ (c : Dev nD) : Valuation τ sig (Elt F) := fun b => (s₀ m ρ).mem ((c : Dev nD), b)
/-- and at the region's entry. -/
abbrev V (c : Dev nD) (b : Ref sig .tc) : Buf (Elt F) ((c : Thread nD τ).loc b) := StableHlo.after hostOps0 (V₀ m ρ c) b

/-- A buffer no host operation writes reaches the region as launched. -/
theorem V_kept (c : Dev nD) (b : Ref sig .tc) (hb : b ≠ main_v0 ∧ b ≠ main_v1 ∧ b ≠ main_v2) : V m ρ c b = m ((c : Thread nD τ).loc b) := by
  refine StableHlo.after_of_forall_not_mem (b := Proc.devRef .tc b) hostOps0 (V₀ m ρ c) ?_
  obtain ⟨h0, h1, h2⟩ := hb
  intro op hop
  simp only [List.mem_cons, List.mem_nil_iff, or_false] at hop
  rcases hop with rfl | rfl | rfl <;>
    simp only [StableHlo.reshape_writes, Finset.mem_singleton] <;>
    exact StableHlo.devRef_ne_of_ne ‹_›

/-- The core's unscoped buffers, within which the host operations run. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## What the tables say -/

abbrev experts (c : Dev nD) : IVec S160 32 := V m ρ c main_arg0
abbrev count (c : Dev nD) : IVec S1 32 := V m ρ c main_arg1
abbrev afters (c : Dev nD) : IVec S160 32 := V m ρ c main_arg2
abbrev slots (c : Dev nD) : IVec S160 32 := V m ρ c main_arg3

/-- The tables' schedule. -/
def plan (c : Dev nD) : Plan where
  E n := Fin.ofNat 32 (experts m ρ c (ix1 n)).toNat
  S n := Fin.ofNat 2 (slots m ρ c (ix1 n)).toNat
  X n := if (afters m ρ c (ix1 n)).toInt < 0 then none else some (Fin.ofNat 32 (afters m ρ c (ix1 n)).toNat)
  U := (count m ρ c (ix1 0)).toNat

/-- What the run asks of the launch memory: the tables' words lie in their ranges and their schedule can be run. -/
structure Fits : Prop where
  expert : ∀ c (k : S160.Idx), (experts m ρ c k).toNat < 32
  slot : ∀ c (k : S160.Idx), (slots m ρ c k).toNat < 2
  after : ∀ c (k : S160.Idx), 0 ≤ (afters m ρ c k).toInt → (afters m ρ c k).toNat < 32
  sound : ∀ c, (plan m ρ c).Sound

variable {m ρ} (H : Fits m ρ)
include H

theorem expert_word (c : Dev nD) (n : Fin 160) : experts m ρ c (ix1 n) = BitVec.ofNat 32 ((plan m ρ c).E n).val := by
  show _ = BitVec.ofNat 32 ((experts m ρ c (ix1 n)).toNat % 32)
  rw [Nat.mod_eq_of_lt (H.expert c _), BitVec.ofNat_toNat, BitVec.setWidth_eq]

theorem slot_word (c : Dev nD) (n : Fin 160) : slots m ρ c (ix1 n) = BitVec.ofNat 32 ((plan m ρ c).S n).val := by
  show _ = BitVec.ofNat 32 ((slots m ρ c (ix1 n)).toNat % 2)
  rw [Nat.mod_eq_of_lt (H.slot c _), BitVec.ofNat_toNat, BitVec.setWidth_eq]

/-- What the tables say at a point, as the body needs it. -/
def wordsAt (c : Dev nD) (i : grid0.Coords) (n : Fin 160) (hn : (i 0).val = n.val) :
    Words i (count m ρ c (ix1 0)) ((plan m ρ c).E n) ((plan m ρ c).S n) (experts m ρ c (ix1 (Plan.prev n))) (afters m ρ c (ix1 n)) where
  used := decide (n.val < (plan m ρ c).U)
  fresh := decide (n.val = 0 ∨ (plan m ρ c).E n ≠ (plan m ρ c).E (Plan.prev n))
  next := (plan m ρ c).X n
  few := (H.sound c).few
  used_iff := by rw [hn, decide_eq_true_iff]; rfl
  fresh_iff := by
    rw [hn, decide_eq_true_iff, expert_word H c (Plan.prev n)]
    refine or_congr_right (not_congr ⟨fun h => Fin.ext ?_, fun h => by rw [h]⟩)
    have h' := congrArg BitVec.toNat h
    rwa [expert_toNat, expert_toNat] at h'
  next_some e' he := by
    have he : (if (afters m ρ c (ix1 n)).toInt < 0 then none else some (Fin.ofNat 32 (afters m ρ c (ix1 n)).toNat)) = some e' := he
    split at he
    · exact absurd he (by simp)
    · rename_i h
      obtain rfl := Option.some.inj he
      show _ = BitVec.ofNat 32 ((afters m ρ c (ix1 n)).toNat % 32)
      rw [Nat.mod_eq_of_lt (H.after c _ (not_lt.mp h)), BitVec.ofNat_toNat, BitVec.setWidth_eq]
  next_none he := by
    have he : (if (afters m ρ c (ix1 n)).toInt < 0 then none else some (Fin.ofNat 32 (afters m ρ c (ix1 n)).toNat)) = none := he
    split at he
    · assumption
    · exact absurd he (by simp)

end Cert.Proof.Experts
-- ==== Proof.Tour.lean ====
/-
  The experts' points: what the pipeline hands the body at each, what the body leaves, and what is held between them.
-/
module

public import proofs.«01_k».proof.Proof.Schedule

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ UU ℕ

variable {m : (ℓ : Loc nD τ sig) → Buf (Elt F) ℓ} {ρ : Dev nD → PrngReg} (H : Fits m ρ)

theorem point_val : ∀ t : Fin grid0.N, (grid0.coords t 0).val = t.val := by decide +kernel

/-- A point's block of the schedule. -/
def pt (t : Fin grid0.N) : Fin 160 := ⟨t.val, t.isLt.trans_eq N_0⟩

include H in
/-- The bias blocks the tables name lie inside their arrays. -/
theorem tables_ok : ok0 (F := F) fun k => V m ρ 0 (pre0.ref k) := by
  constructor <;>
  · intro i
    refine ⟨fun a => ?_, Or.inl rfl⟩
    match a with
    | ⟨0, _⟩ =>
      have h := H.expert 0 ((Rect.unit (s := S160) ![(BitVec.ofNat 32 (i 0).val).toNat] S1.size (k0_off1_inb i)).emb (Shape.Idx.first (numel1_S1.symm ▸ Nat.one_pos)))
      show ((experts m ρ 0 _).toNat + 1) * 1 ≤ 32
      exact (Nat.mul_one _).trans_le h
    | ⟨1, _⟩ => exact le_refl _
    | ⟨2, _⟩ => exact le_refl _

/-- The tables' contents. -/
abbrev adm : (p : Fin 1) → (pcfgs (F := F) p).Adm := fun _ => ⟨fun k => V m ρ 0 (pre0.ref k), tables_ok H⟩

/-- Point `t`'s block of the rows, and its expert's biases. -/
def blockX (c : Dev nD) (t : Fin grid0.N) : S4096x128.Idx → Elt F .f32 :=
  ((win0 (adm H 0) 0).blk t).view.read (Elt F) (V m ρ c main_v0)
def blockG (c : Dev nD) (t : Fin grid0.N) : S1x1x2048.Idx → Elt F .f32 :=
  ((win0 (adm H 0) 1).blk t).view.read (Elt F) (V m ρ c main_v1)
def blockD (c : Dev nD) (t : Fin grid0.N) : S1x1x1024.Idx → Elt F .f32 :=
  ((win0 (adm H 0) 2).blk t).view.read (Elt F) (V m ρ c main_v2)

abbrev WU : Memref sig .tc .hbm S32x1024x2048 .f32 := Memref.whole main_arg5
abbrev WD : Memref sig .tc .hbm S32x1024x1024 .f32 := Memref.whole main_arg7
abbrev M13 : Memref sig .tc .vmem S1024x2048 .bf16 := Memref.whole cc0_scratch2
abbrev M14 : Memref sig .tc .vmem S1024x1024 .bf16 := Memref.whole cc0_scratch3

/-- An expert's weights, cast. -/
def up (m : (ℓ : Loc nD τ sig) → Buf (Elt F) ℓ) (ρ : Dev nD → PrngReg) (c : Dev nD) (e : Fin 32) : Vec F S1024x2048 .bf16 :=
  castUp (WU.view.read (Elt F) (V m ρ c main_arg5)) e
def down (m : (ℓ : Loc nD τ sig) → Buf (Elt F) ℓ) (ρ : Dev nD → PrngReg) (c : Dev nD) (e : Fin 32) : Vec F S1024x1024 .bf16 :=
  castDown (WD.view.read (Elt F) (V m ρ c main_arg7)) e

/-- What the body leaves of point `t`: its expert's rows where the block is in use, zero elsewhere. -/
def left (c : Dev nD) (t : Fin grid0.N) : S4096x128.Idx → Elt F .f32 :=
  if decide ((pt t).val < (plan m ρ c).U) then
    unfolded (rowsOut (blockX H c t) (up m ρ c ((plan m ρ c).E (pt t))) (blockG H c t) (down m ρ c ((plan m ρ c).E (pt t))) (blockD H c t))
  else k0_pay3

/-- The cast weights before point `n` are those of the block before, where it is in use. -/
def Kept (m : (ℓ : Loc nD τ sig) → Buf (Elt F) ℓ) (ρ : Dev nD → PrngReg) (c : Dev nD) (n : ℕ) (f13 : Buf (Elt F) (M13.view.loc (c : Thread nD τ)))
    (f14 : Buf (Elt F) (M14.view.loc (c : Thread nD τ))) : Prop :=
  ∀ k : Fin 160, k.val + 1 = n → k.val < (plan m ρ c).U →
    M13.view.read (Elt F) f13 = up m ρ c ((plan m ρ c).E k) ∧ M14.view.read (Elt F) f14 = down m ρ c ((plan m ρ c).E k)

/-- The invariant before point `n`. -/
def Inv (m : (ℓ : Loc nD τ sig) → Buf (Elt F) ℓ) (ρ : Dev nD → PrngReg) (c : Dev nD) (n : ℕ) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2) ∗ (((c : Thread nD τ).loc main_arg3) ↦{fullShare} V m ρ c main_arg3)
    ∗ (∃ f13 f14, ⌜Kept m ρ c n f13 f14⌝ ∗ (M13.view.loc (c : Thread nD τ) ↦{fullShare} f13) ∗ (M14.view.loc (c : Thread nD τ) ↦{fullShare} f14))
    ∗ between (W1 := WU) (W2 := WD) c cc0_scratch4 (V m ρ c main_arg5) (V m ρ c main_arg7) ((plan m ρ c).under n))

/-- The proof data: the arrays at their entry contents, the staging buffers left as fetched or written, the invariant, nothing owed. -/
def dats (p : Fin 1) (c : Dev nD) : Dat τ (Elt F) Unit ℕ UU ℕ (Pipeline.pin (pcfgs (F := F)) (adm H) p) c where
  A w := V m ρ c (Pipeline.arrRef spec0 w)
  after w t := match w with
    | ⟨0, _⟩ => blockX H c t
    | ⟨1, _⟩ => blockG H c t
    | ⟨2, _⟩ => blockD H c t
    | ⟨3, _⟩ => left H c t
  Φ t := Inv m ρ c t.val
  q _ := fullShare
  owed _ := 0

theorem A_eq (c : Dev nD) (w : Fin 4) : (dats H 0 c).A w = V m ρ c (Pipeline.arrRef spec0 w) := by
  dsimp only [dats]

abbrev 𝒱₀ : Variants := Variants.none

theorem before0 (c : Dev nD) (t : Fin grid0.N) (d : S4096x128.Idx → Elt F .f32) : (dats H 0 c).before 0 t d = blockX H c t :=
  ((dats H 0 c).before_in_eq_fetched 0 rfl (fun _ => rfl) (fun _ _ _ => rfl) (fun _ => rfl) t d).trans rfl
theorem before1 (c : Dev nD) (t : Fin grid0.N) (d : S1x1x2048.Idx → Elt F .f32) : (dats H 0 c).before 1 t d = blockG H c t :=
  ((dats H 0 c).before_in_eq_fetched 1 rfl (fun _ => rfl) (fun _ _ _ => rfl) (fun _ => rfl) t d).trans rfl
theorem before2 (c : Dev nD) (t : Fin grid0.N) (d : S1x1x1024.Idx → Elt F .f32) : (dats H 0 c).before 2 t d = blockD H c t :=
  ((dats H 0 c).before_in_eq_fetched 2 rfl (fun _ => rfl) (fun _ _ _ => rfl) (fun _ => rfl) t d).trans rfl

include H in
/-- Every point writes its block of the result. -/
theorem never_idle (i : grid0.Coords) : idle0 (F := F) (fun k => V m ρ 0 (pre0.ref k)) 3 i = false := by
  have hf : (count m ρ 0 (ix1 0)).toNat ≤ 160 := (H.sound 0).few
  have hw : Idealize.ShloMosaic.Pipeline.Prefetch.Contents.atD (Val := Elt F) (fun k => V m ρ 0 (pre0.ref k)) 1 ![0] = count m ρ 0 (ix1 0) := by
    refine (dif_pos fun a => ?_).trans (congrArg (count m ρ 0) (funext fun a => ?_))
    · match a with
      | ⟨0, _⟩ => exact le_refl 1
    · match a with
      | ⟨0, _⟩ => rfl
  have key : ∀ w : BitVec 32, (k0_cond4 i w = 1#1 ↔ (i 0).val < w.toNat) → (k0_cond5 i w = 1#1 ↔ ¬ (i 0).val < w.toNat) →
      (!(k0_cond4 i w == 1#1) && !(k0_cond5 i w == 1#1)) = false := by
    intro w h4 h5
    by_cases h : (i 0).val < w.toNat
    · rw [beq_iff_eq.mpr (h4.mpr h)]; rfl
    · rw [beq_iff_eq.mpr (h5.mpr h)]; exact Bool.and_false _
  exact (congrArg (fun w => !(k0_cond4 i w == 1#1) && !(k0_cond5 i w == 1#1)) hw).trans (key _ (cond4_iff i hf) (cond5_iff i hf))

/-- A whole memref owned at contents `X`: the buffer at contents that read so. -/
theorem owns_isWhole (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ (M.view.loc (c : Thread nD τ) ↦{fullShare} f)) := by
  unfold owns; rw [h.set_eq_univ]

/-- The body at point `t`, on the buffers the pipeline hands it. -/
theorem body_at (c : Dev nD) (t : Fin grid0.N) (M5 : Memref sig .tc .vmem S4096x128 .f32) (h5 : M5.IsWhole)
    (M7 : Memref sig .tc .vmem S1x1x2048 .f32) (h7 : M7.IsWhole) (M9 : Memref sig .tc .vmem S1x1x1024 .f32) (h9 : M9.IsWhole)
    (M10 : Memref sig .tc .vmem S4096x128 .f32) (h10 : M10.IsWhole) (d : S4096x128.Idx → Elt F .f32) :
    iprop(Inv m ρ c t.val ∗ (∃ W, owes (c : Thread nD τ) (0 : CellTallies nD τ sig Unit) W)
        ∗ owns (c : Thread nD τ) M5 fullShare (blockX H c t) ∗ owns (c : Thread nD τ) M7 fullShare (blockG H c t)
        ∗ owns (c : Thread nD τ) M9 fullShare (blockD H c t) ∗ owns (c : Thread nD τ) M10 fullShare d)
      ⊢ wp frame (wpE (defs₀ (F := F)) 𝒱₀ (c : Thread nD τ) none) Set.univ
          (cc0__expert_kernel (F := F) (grid0.coords t) (Memref.whole main_arg0) (Memref.isWhole_whole _) (Memref.whole main_arg1) (Memref.isWhole_whole _)
            (Memref.whole main_arg2) (Memref.isWhole_whole _) (Memref.whole main_arg3) (Memref.isWhole_whole _)
            M5 h5 WU (Memref.isWhole_whole _) M7 h7 WD (Memref.isWhole_whole _) M9 h9 M10 h10 R1 (Memref.isWhole_whole _) R2 (Memref.isWhole_whole _)
            M13 (Memref.isWhole_whole _) M14 (Memref.isWhole_whole _) cc0_scratch4)
          fun _ => iprop(Inv m ρ c (t.val + 1) ∗ (∃ W, owes (c : Thread nD τ) (0 : CellTallies nD τ sig Unit) W)
            ∗ owns (c : Thread nD τ) M5 fullShare (blockX H c t) ∗ owns (c : Thread nD τ) M7 fullShare (blockG H c t)
            ∗ owns (c : Thread nD τ) M9 fullShare (blockD H c t) ∗ owns (c : Thread nD τ) M10 fullShare (left H c t)) := by
  have hv : (grid0.coords t 0).val = (pt t).val := point_val t
  have hl : (wordsAt H c (grid0.coords t) (pt t) hv).leaves ((plan m ρ c).under t.val) = (plan m ρ c).under (t.val + 1) :=
    Plan.under_next (H.sound c) (pt t)
  rw [owns_isWhole c M5 h5, owns_isWhole c M7 h7, owns_isWhole c M9 h9, owns_isWhole c M10 h10, owns_isWhole c M10 h10]
  unfold Inv
  iintro ⟨⟨A0, A1, A2, A3, ⟨%f13, %f14, %hk, H13, H14⟩, HB⟩, HO, ⟨%f5, %hf5, H5⟩, ⟨%f7, %hf7, H7⟩, ⟨%f9, %hf9, H9⟩, ⟨%f10, -, H10⟩⟩
  iapply wp_wand $$ [A0 A1 A2 A3 H13 H14 HB HO H5 H7 H9 H10]
  · iapply (body_ends 𝒱₀ c none (T1 := Memref.whole main_arg0) (T2 := Memref.whole main_arg1) (T3 := Memref.whole main_arg2) (T4 := Memref.whole main_arg3)
      (M5 := M5) (M7 := M7) (M9 := M9) (M10 := M10) (M13 := M13) (M14 := M14) (W1 := WU) (W2 := WD)
      (V m ρ c main_arg0) (V m ρ c main_arg1) (V m ρ c main_arg2) (V m ρ c main_arg3) (V m ρ c main_arg5) (V m ρ c main_arg7) f5 f7 f9 f10 f13 f14
      (grid0.coords t) (pt t) hv (Plan.prev (pt t)) (by rw [hv]; rfl) (count m ρ c (ix1 0)) (experts m ρ c (ix1 (Plan.prev (pt t)))) (afters m ρ c (ix1 (pt t)))
      ((plan m ρ c).E (pt t)) ((plan m ρ c).S (pt t)) (wordsAt H c (grid0.coords t) (pt t) hv) rfl (expert_word H c (pt t)) (slot_word H c (pt t)) rfl rfl
      ((plan m ρ c).under t.val) (fun h => by rw [point_val] at h; unfold Plan.under; exact if_pos h)
      (fun ht h => Plan.under_takes (H.sound c) (pt t) ht (by rwa [hv] at h))
      (fun hu hn => by
        have hu : (pt t).val < (plan m ρ c).U := of_decide_eq_true hu
        have hn := of_decide_eq_false hn
        rw [not_or, not_not] at hn
        have h := hk (Plan.prev (pt t)) (by show t.val - 1 + 1 = t.val; have : t.val ≠ 0 := hn.1; omega) (by show (pt t).val - 1 < _; omega)
        rw [← hn.2] at h
        exact h)
      _ _ _ _ h5 _ h7 _ h9 h10 _ _ _ _ cc0_scratch4)
    isplitl [A0]; · iexact A0
    isplitl [A1]; · iexact A1
    isplitl [A2]; · iexact A2
    isplitl [A3]; · iexact A3
    isplitl [H5]; · iexact H5
    isplitl [H7]; · iexact H7
    isplitl [H9]; · iexact H9
    isplitl [H10]; · iexact H10
    isplitl [H13]; · iexact H13
    isplitl [H14]; · iexact H14
    isplitl [HB]; · iexact HB
    iexact HO
  iintro %_ ⟨A0, A1, A2, A3, H5, H7, H9, ⟨%q, %hq, H10⟩, ⟨%q13, %q14, %hq', H13, H14⟩, HB, HO⟩
  isplitl [A0 A1 A2 A3 H13 H14 HB]
  · isplitl [A0]; · iexact A0
    isplitl [A1]; · iexact A1
    isplitl [A2]; · iexact A2
    isplitl [A3]; · iexact A3
    isplitl [H13 H14]
    · iexists q13, q14
      isplitr
      · ipureintro
        intro k hk' hu
        obtain rfl : k = pt t := Fin.ext (Nat.succ.inj hk')
        exact hq' (decide_eq_true hu)
      isplitl [H13]; · iexact H13
      iexact H14
    rw [← hl]
    iexact HB
  isplitl [HO]; · iexact HO
  isplitl [H5]
  · iexists f5; isplitr; · ipureintro; exact hf5
    iexact H5
  isplitl [H7]
  · iexists f7; isplitr; · ipureintro; exact hf7
    iexact H7
  isplitl [H9]
  · iexists f9; isplitr; · ipureintro; exact hf9
    iexact H9
  iexists q
  isplitr
  · ipureintro
    rw [hq, hf5, hf7, hf9]
    rfl
  iexact H10

set_option maxHeartbeats 1000000 in
/-- The pipeline's obligation at every point. -/
theorem body_obligation (c : Dev nD) : BodyObligation (dats H 0 c) (defs₀ (F := F)) 𝒱₀ () Set.univ := fun t => by
  rw [bigSep_W0, bigSep_W0]
  rw [show (dats H 0 c).Φ t.castSucc = Inv m ρ c t.val from rfl, show (dats H 0 c).Φ t.succ = Inv m ρ c (t.val + 1) from rfl]
  unfold Dat.owesAt Pipeline.owesWithin
  rw [show (dats H 0 c).owed t.castSucc = 0 from rfl, show (dats H 0 c).owed t.succ = 0 from rfl]
  iintro ⟨HI, ⟨%W, -, HO⟩, ⟨%d0, H0⟩, ⟨%d1, H1⟩, ⟨%d2, H2⟩, ⟨%d3, H3⟩⟩
  ihave H0 := (Entails.of_eq (congrArg (owns (c : Thread nD τ) (stage0_0 ((Pipeline.pin (pcfgs (F := F)) (adm H) 0).slots t 0)) fullShare) (before0 H c t d0))) $$ H0
  ihave H1 := (Entails.of_eq (congrArg (owns (c : Thread nD τ) (stage0_1 ((Pipeline.pin (pcfgs (F := F)) (adm H) 0).slots t 1)) fullShare) (before1 H c t d1))) $$ H1
  ihave H2 := (Entails.of_eq (congrArg (owns (c : Thread nD τ) (stage0_2 ((Pipeline.pin (pcfgs (F := F)) (adm H) 0).slots t 2)) fullShare) (before2 H c t d2))) $$ H2
  iapply (wp_wand) $$ [HI HO H0 H1 H2 H3]
  · iapply (body_at H c t (stage0_0 ((Pipeline.pin (pcfgs (F := F)) (adm H) 0).slots t 0)) (hstage0_0 _) (stage0_1 ((Pipeline.pin (pcfgs (F := F)) (adm H) 0).slots t 1)) (hstage0_1 _)
      (stage0_2 ((Pipeline.pin (pcfgs (F := F)) (adm H) 0).slots t 2)) (hstage0_2 _) (stage0_3 ((Pipeline.pin (pcfgs (F := F)) (adm H) 0).slots t 3)) (hstage0_3 _)
      ((dats H 0 c).before 3 t d3)) $$ [HI HO H0 H1 H2 H3]
    isplitl [HI]; · iexact HI
    isplitl [HO]; · iexists W; iexact HO
    isplitl [H0]; · iexact H0
    isplitl [H1]; · iexact H1
    isplitl [H2]; · iexact H2
    iexact H3
  iintro %_ ⟨HI, ⟨%W', HO⟩, H0, H1, H2, H3⟩
  isplitl [HI]; · iexact HI
  isplitl [HO]
  · iexists W'; isplitr; · ipureintro; exact fun _ _ => Or.inl trivial
    iexact HO
  isplitl [H0]; · iexact H0
  isplitl [H1]; · iexact H1
  isplitl [H2]; · iexact H2
  split
  · rename_i h; exact absurd h Bool.false_ne_true
  split
  · rename_i h; exact absurd (h.symm.trans (never_idle H _)) Bool.noConfusion
  iexact H3

end Cert.Proof.Experts
-- ==== Proof.Outset.lean ====
/-
  The experts' launch: `@main` as its host operations and its one region, and the run of the whole program from a memory that fits.
-/
module

public import proofs.«01_k».proof.Proof.Tour

@[expose] public section

set_option maxRecDepth 16384

noncomputable section

namespace Cert.Proof.Experts

open Cert.Kernel2Ideal Cert.Kernel2Ideal.Gen
open Idealize.ShloMosaic Idealize.ShloMosaic.TcCoe Idealize.ShloMosaic.Transfers
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ UU ℕ

variable {m : (ℓ : Loc nD τ sig) → Buf (Elt F) ℓ} {ρ : Dev nD → PrngReg} (H : Fits m ρ)

/-- The kernel's semaphores: two to a slot. -/
abbrev osem : Fin 4 → SemLoc sig :=
  ![.dma (cell cc0_scratch4 0 0), .dma (cell cc0_scratch4 0 1), .dma (cell cc0_scratch4 1 0), .dma (cell cc0_scratch4 1 1)]

theorem ownSemFacts : Pipeline.OwnSemFacts spec0 osem := by decide

/-- The launch element: the pipeline's at its staging cells, no counter. -/
def u₀ : UU :=
  (initOf (Pipeline.cells (Pipeline.pin (pcfgs (F := F)) (adm H)) (cellOf_inj (adm H))) (Pipeline.launchToks (Pipeline.pin (pcfgs (F := F)) (adm H)) (cellOf_inj (adm H))), 1)

theorem ownSems0_list (c : Dev nD) :
    (Pipeline.ownSems0 (Ix := Unit) (Name := ℕ) (U := UU) (Lvl := ℕ) (Val := Elt F) (τ := τ) osem c : sProp 𝕄)
      = iprop(semVal ((c : Thread nD τ), osem 0) 0 ∗ semVal ((c : Thread nD τ), osem 1) 0 ∗ semVal ((c : Thread nD τ), osem 2) 0 ∗ semVal ((c : Thread nD τ), osem 3) 0) :=
  Pipeline.ownSems0_eq_of_list c osem [0, 1, 2, 3] (by decide) (by decide)

theorem prefHeld_list (c : Dev nD) (W : pre0.Contents (Elt F)) :
    (Pipeline.prefHeld pre0 c (fun _ => fullShare) W : sProp 𝕄)
      = iprop((((c : Thread nD τ).loc main_arg0) ↦{fullShare} W 0) ∗ (((c : Thread nD τ).loc main_arg1) ↦{fullShare} W 1)
        ∗ (((c : Thread nD τ).loc main_arg2) ↦{fullShare} W 2) ∗ (((c : Thread nD τ).loc main_arg3) ↦{fullShare} W 3)) := by
  unfold Pipeline.prefHeld
  exact bigSep_univ_eq_bigSepL [(0 : Fin 4), (1 : Fin 4), (2 : Fin 4), (3 : Fin 4)] (by decide) (by decide) _

abbrev L : GSem nD τ sig → Finset Unit := fun _ => ∅
abbrev lv : GSem nD τ sig → Unit → ℕ := fun _ _ => 0

/-- What rides beside the buffers through the host operations. -/
abbrev R (c : Dev nD) : sProp 𝕄 := iprop(∃ W, owes (c : Thread nD τ) (0 : CellTallies nD τ sig Unit) W)

def seg0 (m : (ℓ : Loc nD τ sig) → Buf (Elt F) ℓ) (ρ : Dev nD → PrngReg) : Pipeline.HostSeg (Name := ℕ) (U := UU) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The result's buffer on core `c`, -/
abbrev outL (c : Dev nD) : Loc nD τ sig := (c : Thread nD τ).loc main_v3
/-- and what the region leaves in it. -/
def out (c : Dev nD) : Buf (Elt F) (outL c) := (dats H 0 c).arrAt 3 grid0.N

/-- What the region leaves: the arguments as it found them, and the result. -/
abbrev Tₙ (c : Dev nD) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2) ∗ (((c : Thread nD τ).loc main_arg3) ↦{fullShare} V m ρ c main_arg3)
    ∗ (((c : Thread nD τ).loc main_arg4) ↦{fullShare} V m ρ c main_arg4) ∗ (((c : Thread nD τ).loc main_arg5) ↦{fullShare} V m ρ c main_arg5)
    ∗ (((c : Thread nD τ).loc main_arg6) ↦{fullShare} V m ρ c main_arg6) ∗ (((c : Thread nD τ).loc main_arg7) ↦{fullShare} V m ρ c main_arg7)
    ∗ (((c : Thread nD τ).loc main_arg8) ↦{fullShare} V m ρ c main_arg8) ∗ (outL c ↦{fullShare} out H c))

theorem adm_eq (c : Dev nD) : (fun k => V m ρ c (pre0.ref k)) = (adm H 0).1 := by
  rw [Subsingleton.elim c 0]

/-- The unscoped buffers that are no window's array: the tables, and the rest one by one. -/
theorem unscoped_list (c : Dev nD) :
    (Pipeline.unscopedRest spec0 c (V m ρ c) : sProp 𝕄)
      = iprop(Pipeline.prefHeld pre0 c (fun _ => fullShare) (adm H 0).1
        ∗ (((c : Thread nD τ).loc main_arg4) ↦{fullShare} V m ρ c main_arg4) ∗ (((c : Thread nD τ).loc main_arg5) ↦{fullShare} V m ρ c main_arg5)
        ∗ (((c : Thread nD τ).loc main_arg6) ↦{fullShare} V m ρ c main_arg6) ∗ (((c : Thread nD τ).loc main_arg7) ↦{fullShare} V m ρ c main_arg7)
        ∗ (((c : Thread nD τ).loc main_arg8) ↦{fullShare} V m ρ c main_arg8)) := by
  rw [Pipeline.unscopedRest_split preFacts0 c (V m ρ c), unscopedRestP0_eq c (V m ρ c), adm_eq H c]

/-- The arrays after the region, in which the result is `out`. -/
theorem arrays_out (c : Dev nD) :
    ((dats H 0 c).arrays ((dats H 0 c).arrAt · grid0.N) : sProp 𝕄) ⊢ iprop(outL c ↦{fullShare} out H c) := by
  unfold Dat.arrays
  rw [bigSep_W0]
  have hs : (dats H 0 c).share 3 = fullShare := (dats H 0 c).share_full (fun _ => rfl) 3
  have hw : (win0 (adm H 0) 3).arr.view.set = Finset.univ := ((launch0 (F := F)).arr_whole 3).set_eq_univ
  have e : (iprop(outL c ↦[(win0 (adm H 0) 3).arr.view.set]{(dats H 0 c).share 3} out H c) : sProp 𝕄) = iprop(outL c ↦{fullShare} out H c) := by
    rw [hs]
    exact congrArg (fun S : Finset main_v3.ty.Idx => (iprop(outL c ↦[S]{fullShare} out H c) : sProp 𝕄)) hw
  iintro ⟨-, -, -, Ho⟩
  iapply (Entails.of_eq e)
  iexact Ho

set_option backward.isDefEq.respectTransparency.types false in
/-- The region. -/
def reg0 : Pipeline.RegionSeg (pcfgs (F := F)) (adm H) (dats H) () defs₀ 𝒱₀ L lv 0 where
  win := (launch0 (F := F)).to₀.win
  block_pos := (launch0 (F := F)).to₀.block_pos
  stage_whole := (launch0 (F := F)).to₀.stage_whole
  K := Fin 4
  osem := osem
  ho := ownSemFacts
  hbody c := (body_obligation H c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ H c ∗ ∃ W, owes (c : Thread nD τ) (0 : CellTallies nD τ sig Unit) W)
  X c := iprop(weights (W1 := WU) (W2 := WD) c (V m ρ c main_arg5) (V m ρ c main_arg7)
    ∗ semVal ((c : Thread nD τ), osem 0) 0 ∗ semVal ((c : Thread nD τ), osem 1) 0 ∗ semVal ((c : Thread nD τ), osem 2) 0 ∗ semVal ((c : Thread nD τ), osem 3) 0)
  Y c := iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2) ∗ (((c : Thread nD τ).loc main_arg3) ↦{fullShare} V m ρ c main_arg3)
    ∗ weights (W1 := WU) (W2 := WD) c (V m ρ c main_arg5) (V m ρ c main_arg7))
  Z c := iprop((((c : Thread nD τ).loc main_arg4) ↦{fullShare} V m ρ c main_arg4) ∗ (((c : Thread nD τ).loc main_arg6) ↦{fullShare} V m ρ c main_arg6)
    ∗ (((c : Thread nD τ).loc main_arg8) ↦{fullShare} V m ρ c main_arg8))
  hentry c := by
    rw [show StableHlo.held (c : Thread nD τ) ucRefs (StableHlo.after hostOps0 (V₀ m ρ c)) = unscopedBufs c (V m ρ c) from (unscopedBufs_held c _).symm,
      ownSems0_list]
    have hsplit := Pipeline.arrays_of_unscopedBufs (pcfgs (F := F)) (adm H) (dats H) (launch0 (F := F)).win (launch0 (F := F)).arr_whole c
      ((dats H 0 c).share_full fun _ => rfl) (V m ρ c) (A_eq H c)
    have hrest := Entails.of_eq (unscoped_list (F := F) H c)
    iintro ⟨⟨Hub, HO⟩, ⟨Hs0, Hs1, Hs2, Hs3⟩, -⟩
    ihave HH := hsplit $$ Hub
    icases HH with ⟨Ha, Hrest⟩
    ihave HH := hrest $$ Hrest
    icases HH with ⟨Hpf, H4, H5, H6, H7, H8⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H5 H7 Hs0 Hs1 Hs2 Hs3]
    · unfold weights
      isplitl [H5 H7]
      · isplitl [H5]; · iexact H5
        iexact H7
      isplitl [Hs0]; · iexact Hs0
      isplitl [Hs1]; · iexact Hs1
      isplitl [Hs2]; · iexact Hs2
      iexact Hs3
    isplitl [H4]; · iexact H4
    isplitl [H6]; · iexact H6
    iexact H8
  hin c := by
    rw [show (dats H 0 c).Φ 0 = Inv m ρ c 0 from rfl]; unfold Inv
    rw [show (Pipeline.prefHeld (pcfgs (F := F) 0).pre c (fun _ => fullShare) ((adm H) 0).1 : sProp 𝕄) = _ from
      (congrArg (Pipeline.prefHeld pre0 c (fun _ => fullShare)) (adm_eq H c)).symm.trans (prefHeld_list c _)]
    rw [show (Pipeline.scopedRest (pcfgs (F := F) 0).spec c : sProp 𝕄) = _ from scopedRest0_eq c]
    rw [show (plan m ρ c).under 0 = none from if_pos rfl]
    unfold between quiet
    iintro ⟨⟨HW, Hs0, Hs1, Hs2, Hs3⟩, ⟨H0, H1, H2, H3⟩, ⟨Hr0, Hr1, ⟨%f13, Hr2⟩, ⟨%f14, Hr3⟩⟩⟩
    ihave Hh := (homes_of_rings (F := F) c) $$ [Hr0 Hr1]
    · isplitl [Hr0]; · iexact Hr0
      iexact Hr1
    icases Hh with ⟨Hh0, Hh1⟩
    isplitl [H0]; · iexact H0
    isplitl [H1]; · iexact H1
    isplitl [H2]; · iexact H2
    isplitl [H3]; · iexact H3
    isplitl [Hr2 Hr3]
    · iexists f13, f14
      isplitr; · ipureintro; exact fun k hk => absurd hk (Nat.succ_ne_zero _)
      isplitl [Hr2]; · iexact Hr2
      iexact Hr3
    isplitl [Hh0]; · iexact Hh0
    isplitl [Hh1]; · iexact Hh1
    isplitl [Hs0 Hs1]
    · isplitl [Hs0]; · iexact Hs0
      iexact Hs1
    isplitl [Hs2 Hs3]
    · isplitl [Hs2]; · iexact Hs2
      iexact Hs3
    iexact HW
  hout c := by
    rw [ownSems0_list, show (dats H 0 c).Φ (Fin.last _) = Inv m ρ c grid0.N from rfl]; unfold Inv
    rw [show (Pipeline.scopedRest (pcfgs (F := F) 0).spec c : sProp 𝕄) = _ from scopedRest0_eq c]
    rw [show (plan m ρ c).under grid0.N = none from (congrArg _ N_0).trans (Plan.under_last (H.sound c) 159 rfl)]
    unfold between quiet
    iintro ⟨H0, H1, H2, H3, ⟨%f13, %f14, -, Hr2, Hr3⟩, Hh0, Hh1, ⟨Hs0, Hs1⟩, ⟨Hs2, Hs3⟩, HW⟩
    ihave Hh := (rings_of_homes (F := F) c) $$ [Hh0 Hh1]
    · isplitl [Hh0]; · iexact Hh0
      iexact Hh1
    icases Hh with ⟨Hr0, Hr1⟩
    isplitl [H0 H1 H2 H3 HW]
    · isplitl [H0]; · iexact H0
      isplitl [H1]; · iexact H1
      isplitl [H2]; · iexact H2
      isplitl [H3]; · iexact H3
      iexact HW
    isplitl [Hs0 Hs1 Hs2 Hs3]
    · isplitl [Hs0]; · iexact Hs0
      isplitl [Hs1]; · iexact Hs1
      isplitl [Hs2]; · iexact Hs2
      iexact Hs3
    isplitl [Hr0]; · iexact Hr0
    isplitl [Hr1]; · iexact Hr1
    isplitl [Hr2]; · iexists f13; iexact Hr2
    iexists f14; iexact Hr3
  hexit c := by
    have hpost := arrays_out H c
    unfold weights
    iintro ⟨Ha, HO, ⟨H0, H1, H2, H3, H5, H7⟩, ⟨H4, H6, H8⟩⟩
    ihave Ho := hpost $$ Ha
    imodintro
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact Ho
    · unfold Pipeline.Dat.owesAt Pipeline.owesWithin
      icases HO with ⟨%W, -, HO⟩; iexists W; iexact HO

abbrev segs : List (Pipeline.Seg (pcfgs (F := F)) (adm H) (dats H) () defs₀ 𝒱₀ L lv) := [.host (seg0 m ρ), .region (reg0 H)]

/-- What a final state has on a core: the result as the region leaves it, the arguments as launched. -/
def FinalAt (c : Dev nD) (r : MemSt nD τ sig (Elt F)) : Prop :=
  r.mem (outL c) = out H c ∧ r.mem ((c : Thread nD τ).loc main_arg0) = m ((c : Thread nD τ).loc main_arg0)
    ∧ r.mem ((c : Thread nD τ).loc main_arg1) = m ((c : Thread nD τ).loc main_arg1) ∧ r.mem ((c : Thread nD τ).loc main_arg2) = m ((c : Thread nD τ).loc main_arg2)
    ∧ r.mem ((c : Thread nD τ).loc main_arg3) = m ((c : Thread nD τ).loc main_arg3) ∧ r.mem ((c : Thread nD τ).loc main_arg4) = m ((c : Thread nD τ).loc main_arg4)
    ∧ r.mem ((c : Thread nD τ).loc main_arg5) = m ((c : Thread nD τ).loc main_arg5) ∧ r.mem ((c : Thread nD τ).loc main_arg6) = m ((c : Thread nD τ).loc main_arg6)
    ∧ r.mem ((c : Thread nD τ).loc main_arg7) = m ((c : Thread nD τ).loc main_arg7) ∧ r.mem ((c : Thread nD τ).loc main_arg8) = m ((c : Thread nD τ).loc main_arg8)

set_option backward.isDefEq.respectTransparency.types false in
/-- From a memory that fits, with zero counters, every weakly fair execution of `@main` terminates; the result is as the region
    leaves it, the arguments are as launched and every counter is zero. -/
theorem run_main : θ_run defs (onTc (τ := τ) (main (F := F))) (s₀ m ρ) (fun r => (∀ c, FinalAt H c r.2) ∧ r.2.sem = fun _ => 0) :=
  Pipeline.θ_run_regions_kit_sems (pcfgs (F := F)) (adm H) (dats H) () (cellOf_inj (adm H)) EP defs₀ 𝒱₀ L lv m ρ main (segs H)
    (fun c Q => by rw [main_segs (adm H) (dats H) () 𝒱₀ L lv (seg0 m ρ) (reg0 H) rfl c])
    (by simp only [Pipeline.Seg.pipes_host, Pipeline.Seg.pipes_region, Pipeline.Seg.pipes_nil]; decide) (O₀ := 0) (hL := fun _ _ => rfl)
    (G := fun _ => iprop(emp)) (u₀ := u₀ H)
    (hu₀ := by
      unfold u₀
      iintro Hu
      ihave HH := (ownU_pair _ _) $$ Hu
      icases HH with ⟨HP, -⟩
      imodintro
      isplitl [HP]; · iexact HP
      rw [show (Finset.univ : Finset (Dev nD)) = {0} from rfl, bigSep_singleton]
      exact .rfl)
    (T₀ := fun c => iprop(StableHlo.held (c : Thread nD τ) ucRefs (V₀ m ρ c) ∗ R c)) (Tₙ := Tₙ H)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := FinalAt H)
    (hfin := fun c s' => by
      dsimp only [Tₙ]
      rw [V_kept m ρ c main_arg0 (by decide), V_kept m ρ c main_arg1 (by decide), V_kept m ρ c main_arg2 (by decide), V_kept m ρ c main_arg3 (by decide),
        V_kept m ρ c main_arg4 (by decide), V_kept m ρ c main_arg5 (by decide), V_kept m ρ c main_arg6 (by decide), V_kept m ρ c main_arg7 (by decide),
        V_kept m ρ c main_arg8 (by decide)]
      iintro ⟨⟨H0, H1, H2, H3, H4, H5, H6, H7, H8, Ho⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI H8 gives %h8
      icombine HSI Ho gives %ho
      imodintro
      isplitr
      · ipureintro
        exact ⟨Buf.eq_of_forall_mem_univ ho, Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6, Buf.eq_of_forall_mem_univ h7, Buf.eq_of_forall_mem_univ h8⟩
      iexact HSI)
    (hQ := fun _ h hz => ⟨h, funext fun g => hz g (.inr (by revert g; decide))⟩)

end Cert.Proof.Experts
-- ==== Proof.Scheduled.lean ====
/-
  What the experts' precondition says of the tables: their words lie in their ranges, and each block in use goes on with its expert or is
  the first of the expert announced.
-/
module

public import proofs.«01_k».proof.Pre_scheduled
public import proofs.«01_k».proof.Proof.Routed
public import proofs.«01_k».proof.Proof.Outset

@[expose] public section

set_option maxRecDepth 16384

noncomputable section

namespace Cert.Proof.Experts

open Idealize.ShloMosaic Idealize.ShloMosaic.TcCoe Idealize.ShloMosaic.Routing Cert.Proof.Routed Idealize.ShloMosaic.StableHlo.Predicate

section Decode

open Cert.Pre_scheduled Cert.Pre_scheduled.Facts

/-- The block after block `k`, and block `k`. -/
abbrev later (k : Fin 159) : S160.Idx := ix1 (⟨k.val + 1, by omega⟩ : Fin 160)
abbrev earlier (k : Fin 159) : S160.Idx := ix1 (⟨k.val, by omega⟩ : Fin 160)

/-- The precondition, read at the arguments' words. -/
structure Planned (x0 : IVec S160 32) (x1 : IVec S1 32) (x2 x3 : IVec S160 32) : Prop where
  expert : ∀ k, (x0 k).toNat < 32
  few : (x1 (ix1 0)).toNat ≤ 160
  after : ∀ k, 0 ≤ (x2 k).toInt → (x2 k).toNat < 32
  slot : ∀ k, (x3 k).toNat < 2
  step : ∀ k : Fin 159, k.val + 1 < (x1 (ix1 0)).toNat → (x0 (later k) = x0 (earlier k) ∧ x2 (later k) = x2 (earlier k) ∧ x3 (later k) = x3 (earlier k))
    ∨ (x0 (later k) ≠ x0 (earlier k) ∧ x0 (later k) = x2 (earlier k) ∧ x3 (later k) = 1#32 - x3 (earlier k))
  last : ∀ n : Fin 160, n.val + 1 = (x1 (ix1 0)).toNat → (x2 (ix1 n)).toInt < 0

theorem and_both {a b : BitVec 1} (h : IntOp.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

theorem one_index (i j : S1.Idx) : i = j := funext fun a => by
  match a with
  | ⟨0, _⟩ => exact Subsingleton.elim (α := Fin 1) _ _

theorem ne_of_cmpi {a b : BitVec 32} (h : IntOp.cmpi .ne a b = 1#1) : a ≠ b := by
  rintro rfl
  simp only [IntOp.cmpi, bne_self_eq_false] at h
  exact absurd h (by decide)

theorem neg_of_cmpi {a : BitVec 32} (h : IntOp.cmpi .slt a 0#32 = 1#1) : a.toInt < 0 := by
  simp only [IntOp.cmpi, ofBool_eq_one_iff, BitVec.slt, decide_eq_true_eq] at h
  exact h

/-- A word from 0 up that is below `b`, compared signed, is so as a number. -/
theorem lt_of_cmpi {w : BitVec 32} {b : ℕ} (hb : b < 2 ^ 31) (h0 : 0 ≤ w.toInt) (h : IntOp.cmpi .slt w (BitVec.ofNat 32 b) = 1#1) : w.toNat < b := by
  simp only [IntOp.cmpi, ofBool_eq_one_iff, BitVec.slt, decide_eq_true_eq, toInt_ofNat_small b hb] at h
  have := BitVec.toInt_eq_toNat_cond w
  split at this <;> omega

/-- A premise that holds leaves the conclusion. -/
theorem imp_bit {a b : BitVec 1} (ha : a = 1#1) (h : IntOp.ori (~~~ a) b = 1#1) : b = 1#1 := by
  subst ha
  rcases BitVec.eq_zero_or_eq_one b with rfl | rfl
  · exact absurd h (by decide)
  · rfl

theorem ori_assoc (a b c : BitVec 1) : IntOp.ori (IntOp.ori a b) c = IntOp.ori a (IntOp.ori b c) := by
  unfold IntOp.ori; exact BitVec.or_assoc a b c

variable [Cert.Pre_scheduled.Facts] {F : FTy → Type} [FloatOps F]
variable {x0 : IVec S160 32} {x1 : IVec S1 32} {x2 x3 : IVec S160 32} {x4 : FVec F S81920x1024 .f32} {x5 : FVec F S32x1024x2048 .f32} {x6 : FVec F S32x2048 .f32}
  {x7 : FVec F S32x1024x1024 .f32} {x8 : FVec F S32x1024 .f32}

theorem few_blocks (h : (fn (F := F) x0 x1 x2 x3 x4 x5 x6 x7 x8).2.1 = fun _ => 1#1) : (x1 (ix1 0)).toNat ≤ 160 :=
  range_le (by decide) (congrFun h (ix1 0))

theorem step_at (hc : (x1 (ix1 0)).toNat ≤ 160) (h : (fn (F := F) x0 x1 x2 x3 x4 x5 x6 x7 x8).2.2.2.2.1 = fun _ => 1#1) (k : Fin 159) (hk : k.val + 1 < (x1 (ix1 0)).toNat) :
    (x0 (later k) = x0 (earlier k) ∧ x2 (later k) = x2 (earlier k) ∧ x3 (later k) = x3 (earlier k))
    ∨ (x0 (later k) ≠ x0 (earlier k) ∧ x0 (later k) = x2 (earlier k) ∧ x3 (later k) = 1#32 - x3 (earlier k)) := by
  obtain ⟨i, p, q, p', q', p'', q'', hp, hq, hp', hq', hp'', hq'', hx⟩ : ∃ (i : S1.Idx) (p q p' q' p'' q'' : S160.Idx), p = later k ∧ q = earlier k ∧ p' = later k ∧ q' = earlier k ∧ p'' = later k ∧ q'' = earlier k
      ∧ IntOp.ori (IntOp.ori (~~~ (IntOp.cmpi .slt (1#32 + BitVec.ofNat 32 k.val) (x1 i)))
          (IntOp.andi (IntOp.andi (IntOp.cmpi .eq (x0 p) (x0 q)) (IntOp.cmpi .eq (x2 p) (x2 q))) (IntOp.cmpi .eq (x3 p) (x3 q))))
        (IntOp.andi (IntOp.andi (IntOp.cmpi .ne (x0 p') (x0 q')) (IntOp.cmpi .eq (x0 p'') (x2 q''))) (IntOp.cmpi .eq (x3 p'') (1#32 - x3 q''))) = 1#1 :=
    ⟨_, _, _, _, _, _, _, (by funext a; match a with | ⟨0, _⟩ => exact Fin.ext (Nat.add_comm 1 _)), (by funext a; match a with | ⟨0, _⟩ => exact Fin.ext (Nat.zero_add _)),
      (by funext a; match a with | ⟨0, _⟩ => exact Fin.ext (Nat.add_comm 1 _)), (by funext a; match a with | ⟨0, _⟩ => exact Fin.ext (Nat.zero_add _)),
      (by funext a; match a with | ⟨0, _⟩ => exact Fin.ext (Nat.add_comm 1 _)), (by funext a; match a with | ⟨0, _⟩ => exact Fin.ext (Nat.zero_add _)), congrFun h (ix1 k)⟩
  subst hp hq hp' hq' hp'' hq''
  rw [one_index i (ix1 0), ori_assoc] at hx
  have hlt : IntOp.cmpi .slt (1#32 + BitVec.ofNat 32 k.val) (x1 (ix1 0)) = 1#1 := by
    rw [show (1#32 + BitVec.ofNat 32 k.val) = BitVec.ofNat 32 (k.val + 1) from by rw [Nat.add_comm]; exact (BitVec.ofNat_add ..).symm, Routed.word_of (w := x1 (ix1 0))]
    unfold IntOp.cmpi
    exact (slt_ofNat_iff (k.val + 1) _ (by omega) (by omega)).2 hk
  rcases or_cases (imp_bit hlt hx) with h1 | h1
  · obtain ⟨h1, h3⟩ := and_both h1
    obtain ⟨h1, h2⟩ := and_both h1
    exact Or.inl ⟨cmpi_eq_iff.1 h1, cmpi_eq_iff.1 h2, cmpi_eq_iff.1 h3⟩
  · obtain ⟨h1, h3⟩ := and_both h1
    obtain ⟨h1, h2⟩ := and_both h1
    exact Or.inr ⟨ne_of_cmpi h1, cmpi_eq_iff.1 h2, cmpi_eq_iff.1 h3⟩

theorem last_at (hc : (x1 (ix1 0)).toNat ≤ 160) (h : (fn (F := F) x0 x1 x2 x3 x4 x5 x6 x7 x8).2.2.2.2.2 = fun _ => 1#1) (n : Fin 160) (hn : n.val + 1 = (x1 (ix1 0)).toNat) :
    (x2 (ix1 n)).toInt < 0 := by
  obtain ⟨i, hx⟩ : ∃ i : S1.Idx, IntOp.ori (~~~ (IntOp.cmpi .eq (1#32 + BitVec.ofNat 32 n.val) (x1 i))) (IntOp.cmpi .slt (x2 (ix1 n)) 0#32) = 1#1 :=
    ⟨_, congrFun h (ix1 n)⟩
  rw [one_index i (ix1 0)] at hx
  refine neg_of_cmpi (imp_bit (cmpi_eq_iff.2 ?_) hx)
  rw [show (1#32 + BitVec.ofNat 32 n.val) = BitVec.ofNat 32 (n.val + 1) from by rw [Nat.add_comm]; exact (BitVec.ofNat_add ..).symm, hn]
  exact Routed.word_of.symm

/-- The precondition's six results, all true, say what `Planned` does. -/
theorem planned (h : (fn (F := F) x0 x1 x2 x3 x4 x5 x6 x7 x8).1 = (fun _ => 1#1) ∧ (fn (F := F) x0 x1 x2 x3 x4 x5 x6 x7 x8).2.1 = (fun _ => 1#1)
    ∧ (fn (F := F) x0 x1 x2 x3 x4 x5 x6 x7 x8).2.2.1 = (fun _ => 1#1) ∧ (fn (F := F) x0 x1 x2 x3 x4 x5 x6 x7 x8).2.2.2.1 = (fun _ => 1#1)
    ∧ (fn (F := F) x0 x1 x2 x3 x4 x5 x6 x7 x8).2.2.2.2.1 = (fun _ => 1#1) ∧ (fn (F := F) x0 x1 x2 x3 x4 x5 x6 x7 x8).2.2.2.2.2 = (fun _ => 1#1)) : Planned x0 x1 x2 x3 where
  expert k := range_lt (by decide) (congrFun h.1 k)
  few := few_blocks h.2.1
  after k h0 := lt_of_cmpi (by decide) h0 (and_both (congrFun h.2.2.1 k)).2
  slot k := range_lt (by decide) (congrFun h.2.2.2.1 k)
  step := step_at (few_blocks h.2.1) h.2.2.2.2.1
  last := last_at (few_blocks h.2.1) h.2.2.2.2.2

end Decode

open Cert.Kernel2Ideal

variable {F : FTy → Type} [FloatOps F]

/-- A memory whose tables are planned fits. -/
theorem fits {m : (ℓ : Loc nD τ sig) → Buf (Elt F) ℓ} (ρ : Dev nD → PrngReg)
    (H : ∀ c : Dev nD, Planned (m ((c : Thread nD τ).loc main_arg0)) (m ((c : Thread nD τ).loc main_arg1)) (m ((c : Thread nD τ).loc main_arg2)) (m ((c : Thread nD τ).loc main_arg3))) :
    Fits m ρ := by
  have H : ∀ c, Planned (experts m ρ c) (count m ρ c) (afters m ρ c) (slots m ρ c) := fun c => by
    unfold experts count afters slots
    rw [V_kept m ρ c main_arg0 (by decide), V_kept m ρ c main_arg1 (by decide), V_kept m ρ c main_arg2 (by decide), V_kept m ρ c main_arg3 (by decide)]
    exact H c
  refine ⟨fun c => (H c).expert, fun c => (H c).slot, fun c => (H c).after, fun c => ⟨(H c).few, ?_, ?_⟩⟩
  · intro n h0 hn
    obtain ⟨v, hv⟩ := n
    match v with
    | 0 => exact absurd rfl h0
    | v + 1 =>
    let k : Fin 159 := ⟨v, by omega⟩
    rcases (H c).step k hn with ⟨h1, h2, h3⟩ | ⟨h1, h2, h3⟩
    · left
      refine ⟨?_, ?_, ?_⟩
      · show Fin.ofNat 32 (experts m ρ c (later k)).toNat = Fin.ofNat 32 (experts m ρ c (earlier k)).toNat
        rw [h1]
      · show (if (afters m ρ c (later k)).toInt < 0 then none else some (Fin.ofNat 32 (afters m ρ c (later k)).toNat))
          = (if (afters m ρ c (earlier k)).toInt < 0 then none else some (Fin.ofNat 32 (afters m ρ c (earlier k)).toNat))
        rw [h2]
      · show Fin.ofNat 2 (slots m ρ c (later k)).toNat = Fin.ofNat 2 (slots m ρ c (earlier k)).toNat
        rw [h3]
    · right
      have e1 := (H c).expert (later k)
      have e2 := (H c).expert (earlier k)
      have s2 := (H c).slot (earlier k)
      refine ⟨?_, ?_, ?_⟩
      · intro h
        have h := congrArg Fin.val h
        have h : (experts m ρ c (later k)).toNat % 32 = (experts m ρ c (earlier k)).toNat % 32 := h
        exact h1 (BitVec.eq_of_toNat_eq (by omega))
      · show (if (afters m ρ c (earlier k)).toInt < 0 then none else some (Fin.ofNat 32 (afters m ρ c (earlier k)).toNat)) = some (Fin.ofNat 32 (experts m ρ c (later k)).toNat)
        rw [← h2, if_neg]
        rw [BitVec.toInt_eq_toNat_cond]
        split <;> omega
      · refine Fin.ext ?_
        show (slots m ρ c (later k)).toNat % 2 = (other (Fin.ofNat 2 (slots m ρ c (earlier k)).toNat)).val
        rw [h3]
        rcases (by omega : (slots m ρ c (earlier k)).toNat = 0 ∨ (slots m ρ c (earlier k)).toNat = 1) with e | e <;>
          rw [show slots m ρ c (earlier k) = BitVec.ofNat 32 _ from (congrArg (BitVec.ofNat 32) e).symm.trans Routed.word_of.symm |>.symm] <;> decide
  · intro n hn
    exact if_pos ((H c).last n hn)

end Cert.Proof.Experts

end
-- ==== Proof.Picks.lean ====
/-
  The reference's picks, read at an element: the weights and the biases of a block's expert, which it gathers by the
  table of experts.
-/
module

public import proofs.«01_k».proof.Proof.Scheduled
public import proofs.«01_k».proof.Proof.Gen.Reference2Ideal
public import Idealize.ShloMosaic.Lib.Pointwise

@[expose] public section

set_option maxRecDepth 16384

noncomputable section

namespace Cert.Proof.Experts.Picks

open Cert.Reference2Ideal
open Idealize.ShloMosaic hiding ix0 ix1 ix2 ix3 ix4
open Idealize.ShloMosaic.ValueIdx

/-- A gather of one whole matrix for each word, by the stack's first axis: the word in range names the matrix. -/
theorem gather_matrix {α : Type} {E A B N w : ℕ} (d : GatherDims ⟨3, ![E, A, B]⟩ ⟨2, ![N, 3]⟩ ⟨4, ![N, 1, A, B]⟩)
    (ho : d.offsetDims = [1, 2, 3]) (hc : d.collapsedSliceDims = []) (hb : d.operandBatchingDims = []) (hs : d.startIndicesBatchingDims = [])
    (hm : d.startIndexMap = [0, 1, 2]) (hi : d.indexVectorDim = 1) (hz : d.sliceSizes = ![1, A, B])
    (x : (⟨3, ![E, A, B]⟩ : Shape).Idx → α) (idx : IVec ⟨2, ![N, 3]⟩ w) (n : Fin N) (a : Fin A) (b : Fin B) (e : Fin E)
    (he : (idx (ix2 n (0 : Fin 3))).toInt = e.val) :
    Host.gather d x idx (ix4 n (0 : Fin 1) a b) = x (ix3 e a b) := by
  obtain ⟨o, c, ob, sb, sm, iv, sz, wf⟩ := d
  subst ho hc hb hs hm hi hz
  refine congrArg x (funext fun k => Fin.ext ?_)
  match k with
  | ⟨0, _⟩ =>
    show min (idx _).toInt.toNat (E - 1) + 0 + 0 = e.val
    have hat : ∀ i : (⟨2, ![N, 3]⟩ : Shape).Idx, i = ix2 n (0 : Fin 3) → (idx i).toInt = e.val := fun i h => h ▸ he
    rw [hat _ (funext fun q => by match q with | ⟨0, _⟩ => rfl | ⟨1, _⟩ => rfl)]
    have := e.isLt
    omega
  | ⟨1, _⟩ =>
    show min (idx _).toInt.toNat (A - A) + 0 + a.val = a.val
    omega
  | ⟨2, _⟩ =>
    show min (idx _).toInt.toNat (B - B) + 0 + b.val = b.val
    omega

/-- A gather of one whole row for each word. -/
theorem gather_vector {α : Type} {E B N w : ℕ} (d : GatherDims ⟨2, ![E, B]⟩ ⟨2, ![N, 2]⟩ ⟨3, ![N, 1, B]⟩)
    (ho : d.offsetDims = [1, 2]) (hc : d.collapsedSliceDims = []) (hb : d.operandBatchingDims = []) (hs : d.startIndicesBatchingDims = [])
    (hm : d.startIndexMap = [0, 1]) (hi : d.indexVectorDim = 1) (hz : d.sliceSizes = ![1, B])
    (x : (⟨2, ![E, B]⟩ : Shape).Idx → α) (idx : IVec ⟨2, ![N, 2]⟩ w) (n : Fin N) (b : Fin B) (e : Fin E)
    (he : (idx (ix2 n (0 : Fin 2))).toInt = e.val) :
    Host.gather d x idx (ix3 n (0 : Fin 1) b) = x (ix2 e b) := by
  obtain ⟨o, c, ob, sb, sm, iv, sz, wf⟩ := d
  subst ho hc hb hs hm hi hz
  refine congrArg x (funext fun k => Fin.ext ?_)
  match k with
  | ⟨0, _⟩ =>
    show min (idx _).toInt.toNat (E - 1) + 0 + 0 = e.val
    have hat : ∀ i : (⟨2, ![N, 2]⟩ : Shape).Idx, i = ix2 n (0 : Fin 2) → (idx i).toInt = e.val := fun i h => h ▸ he
    rw [hat _ (funext fun q => by match q with | ⟨0, _⟩ => rfl | ⟨1, _⟩ => rfl)]
    have := e.isLt
    omega
  | ⟨1, _⟩ =>
    show min (idx _).toInt.toNat (B - B) + 0 + b.val = b.val
    omega

variable [Facts]
open Facts Facts₀

/-- The experts' words as the reference indexes with them: a negative one would count from the end. -/
def named (be : IVec S160 32) : IVec S160x1 32 :=
  broadcastInDim S160x1 ![0] bcast_S160_S160x1_0
    (select (cmpi .slt be (broadcastInDim S160 ![] bcast_S_S160 (constantI S_ 32 0#32)))
      (addi be (broadcastInDim S160 ![] bcast_S_S160 (constantI S_ 32 32#32))) be)

/-- The start on an axis that is taken whole. -/
def whole (K : BitVec 32) : IVec S160x1 32 :=
  broadcastInDim S160x1 ![] bcast_S_S160x1
    (select (cmpi .slt (constantI S_ 32 0#32) (constantI S_ 32 0#32)) (addi (constantI S_ 32 0#32) (constantI S_ 32 K)) (constantI S_ 32 0#32))

/-- The words that name a block's matrix: its expert's, and the starts on the two other axes. -/
def starts3 (be : IVec S160 32) (K K' : BitVec 32) : IVec S160x3 32 :=
  concatenate S160x3 1 [⟨S160x1, named be⟩, ⟨S160x1, whole K⟩, ⟨S160x1, whole K'⟩] concatenates_S160x1_S160x1_S160x1_S160x3_d1

/-- The words that name a block's bias. -/
def starts2 (be : IVec S160 32) (K : BitVec 32) : IVec S160x2 32 :=
  concatenate S160x2 1 [⟨S160x1, named be⟩, ⟨S160x1, whole K⟩] concatenates_S160x1_S160x1_S160x2_d1

theorem named_apply (be : IVec S160 32) (n : Fin 160) (e : Fin 32) (he : (be (ix1 n)).toNat = e.val) : (named be (ix2 n (0 : Fin 1))).toInt = e.val := by
  have hlt := e.isLt
  have hi : (be (ix1 n)).toInt = e.val := by
    rw [BitVec.toInt_eq_toNat_of_lt (by omega), he]
  have hat : named be (ix2 n (0 : Fin 1)) = if (be (ix1 n)).slt 0#32 then be (ix1 n) + 32#32 else be (ix1 n) := by
    unfold named
    pointwise
    show Scalar.select (IntOp.cmpi .slt (be (ix1 n)) 0#32) (be (ix1 n) + 32#32) (be (ix1 n)) = _
    unfold Scalar.select IntOp.cmpi
    cases (be (ix1 n)).slt 0#32 <;> rfl
  rw [hat, if_neg, hi]
  simp [BitVec.slt, hi]

theorem starts3_apply (be : IVec S160 32) (K K' : BitVec 32) (n : Fin 160) (e : Fin 32) (he : (be (ix1 n)).toNat = e.val) :
    (starts3 be K K' (ix2 n (0 : Fin 3))).toInt = e.val := by
  rw [← named_apply be n e he]
  refine congrArg BitVec.toInt ?_
  unfold starts3
  rw [concatenate_cons_apply, concatenateAt_cons]
  refine (dif_pos (show (0 : ℕ) < 1 from Nat.one_pos)).trans (congrArg (named be) (funext fun a => Fin.ext ?_))
  match a with
  | ⟨0, _⟩ => rfl
  | ⟨1, _⟩ => rfl

theorem starts2_apply (be : IVec S160 32) (K : BitVec 32) (n : Fin 160) (e : Fin 32) (he : (be (ix1 n)).toNat = e.val) :
    (starts2 be K (ix2 n (0 : Fin 2))).toInt = e.val := by
  rw [← named_apply be n e he]
  refine congrArg BitVec.toInt ?_
  unfold starts2
  rw [concatenate_pair_apply]
  refine (dif_pos (show (0 : ℕ) < 1 from Nat.one_pos)).trans (congrArg (named be) (funext fun a => Fin.ext ?_))
  match a with
  | ⟨0, _⟩ => rfl
  | ⟨1, _⟩ => rfl

end Cert.Proof.Experts.Picks
-- ==== Proof.Plain.lean ====
/-
  The reference of the experts, read at an element: the mask of the blocks in use, over the expert's two products.
-/
module

public import proofs.«01_k».proof.Proof.Picks
public import proofs.«01_k».proof.Proof.Gen.Reference2Ideal.Run

@[expose] public section

set_option maxRecDepth 16384

noncomputable section

namespace Cert.Proof.Experts.Plain

open Cert.Reference2Ideal Cert.Proof.Experts.Picks
open Idealize.ShloMosaic hiding ix0 ix1 ix2 ix3 ix4
open Idealize.ShloMosaic.TcCoe Idealize.ShloMosaic.ValueIdx
open Facts Facts₀

/-- The gate and the linear part of a hidden element, clamped and mixed. -/
def swiglu (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- A row through an expert's first product, at a column of the hidden layer. -/
def ahead (x : FVec Ideal S81920x1024 .f32) (wu : FVec Ideal S32x1024x2048 .f32) (bu : FVec Ideal S32x2048 .f32) (e : Fin 32) (row : Fin 81920) (j : Fin 2048) : EReal :=
  (∑ k : Fin 1024, x (ix2 row k) * wu (ix3 e k j)) + bu (ix2 e j)

/-- A row through an expert, at a column. -/
def expertAt (x : FVec Ideal S81920x1024 .f32) (wu : FVec Ideal S32x1024x2048 .f32) (bu : FVec Ideal S32x2048 .f32) (wd : FVec Ideal S32x1024x1024 .f32)
    (bd : FVec Ideal S32x1024 .f32) (e : Fin 32) (row : Fin 81920) (d : Fin 1024) : EReal :=
  (∑ k : Fin 1024, swiglu (ahead x wu bu e row ⟨k.val, by omega⟩) (ahead x wu bu e row ⟨1024 + k.val, by omega⟩) * wd (ix3 e k d)) + bd (ix2 e d)

variable [Facts]

/-- A float literal at every element of a block of the hidden layer. -/
def every (b : BitVec 32) : FVec Ideal S160x512x1024 .f32 :=
  broadcastInDim S160x512x1024 ![] bcast_S_S160x512x1024 (constant S_ .f32 b : FVec Ideal S_ .f32)

section
variable (be : IVec S160 32) (nu : IVec S1 32) (x : FVec Ideal S81920x1024 .f32) (wu : FVec Ideal S32x1024x2048 .f32) (bu : FVec Ideal S32x2048 .f32)
  (wd : FVec Ideal S32x1024x1024 .f32) (bd : FVec Ideal S32x1024 .f32)

/-- The picked matrix of the first product, for every block. -/
def upW : FVec Ideal S160x1024x2048 .f32 :=
  shapeCast _ (Host.gather gather_S32x1024x2048_S160x3_S160x1x1024x2048_123_n_n_n_012_1_110242048 wu (starts3 be 1024#32 2048#32)) shapeCasts_S160x1x1024x2048_S160x1024x2048

def upB : FVec Ideal S160x2048 .f32 :=
  shapeCast _ (Host.gather gather_S32x2048_S160x2_S160x1x2048_12_n_n_n_01_1_12048 bu (starts2 be 2048#32)) shapeCasts_S160x1x2048_S160x2048

def downW : FVec Ideal S160x1024x1024 .f32 :=
  shapeCast _ (Host.gather gather_S32x1024x1024_S160x3_S160x1x1024x1024_123_n_n_n_012_1_110241024 wd (starts3 be 1024#32 1024#32)) shapeCasts_S160x1x1024x1024_S160x1024x1024

def downB : FVec Ideal S160x1024 .f32 :=
  shapeCast _ (Host.gather gather_S32x1024_S160x2_S160x1x1024_12_n_n_n_01_1_11024 bd (starts2 be 1024#32)) shapeCasts_S160x1x1024_S160x1024

theorem upW_apply (n : Fin 160) (e : Fin 32) (he : (be (ix1 n)).toNat = e.val) (k : Fin 1024) (j : Fin 2048) :
    upW be wu (ix3 n k j) = wu (ix3 e k j) := by
  refine (shapeCast_apply _ _ _ (ix4 n (0 : Fin 1) k j) ?_).trans
    (gather_matrix _ rfl rfl rfl rfl rfl rfl rfl wu _ n k j e (starts3_apply be _ _ n e he))
  rw [Shape.rowMajor_val_four, Shape.rowMajor_val_three]
  show ((n.val * 1 + 0) * 1024 + k.val) * 2048 + j.val = (n.val * 1024 + k.val) * 2048 + j.val
  omega

theorem upB_apply (n : Fin 160) (e : Fin 32) (he : (be (ix1 n)).toNat = e.val) (j : Fin 2048) : upB be bu (ix2 n j) = bu (ix2 e j) := by
  refine (shapeCast_apply _ _ _ (ix3 n (0 : Fin 1) j) ?_).trans
    (gather_vector _ rfl rfl rfl rfl rfl rfl rfl bu _ n j e (starts2_apply be _ n e he))
  rw [Shape.rowMajor_val_three, Shape.rowMajor_val_two]
  show (n.val * 1 + 0) * 2048 + j.val = n.val * 2048 + j.val
  omega

theorem downW_apply (n : Fin 160) (e : Fin 32) (he : (be (ix1 n)).toNat = e.val) (k : Fin 1024) (j : Fin 1024) :
    downW be wd (ix3 n k j) = wd (ix3 e k j) := by
  refine (shapeCast_apply _ _ _ (ix4 n (0 : Fin 1) k j) ?_).trans
    (gather_matrix _ rfl rfl rfl rfl rfl rfl rfl wd _ n k j e (starts3_apply be _ _ n e he))
  rw [Shape.rowMajor_val_four, Shape.rowMajor_val_three]
  show ((n.val * 1 + 0) * 1024 + k.val) * 1024 + j.val = (n.val * 1024 + k.val) * 1024 + j.val
  omega

theorem downB_apply (n : Fin 160) (e : Fin 32) (he : (be (ix1 n)).toNat = e.val) (j : Fin 1024) : downB be bd (ix2 n j) = bd (ix2 e j) := by
  refine (shapeCast_apply _ _ _ (ix3 n (0 : Fin 1) j) ?_).trans
    (gather_vector _ rfl rfl rfl rfl rfl rfl rfl bd _ n j e (starts2_apply be _ n e he))
  rw [Shape.rowMajor_val_three, Shape.rowMajor_val_two]
  show (n.val * 1 + 0) * 1024 + j.val = n.val * 1024 + j.val
  omega

/-- The hidden layer of every block. -/
def hidden : FVec Ideal S160x512x2048 .f32 :=
  addf (Host.dotGeneral dot_S160x512x1024_S160x1024x2048_S160x512x2048_2_1_1_2_0_0 none (shapeCast _ x shapeCasts_S81920x1024_S160x512x1024) (upW be wu))
    (broadcastInDim S160x512x2048 ![0, 1, 2] bcast_S160x1x2048_S160x512x2048_0_1_2 (broadcastInDim S160x1x2048 ![0, 2] bcast_S160x2048_S160x1x2048_0_2 (upB be bu)))

def gate : FVec Ideal S160x512x1024 .f32 :=
  minimumf (extractStridedSlice S160x512x1024 ![0, 0, 0] (hidden be x wu bu) slices_S160x512x2048_S160x512x1024_0_0_0) (every 0x40E00000#32)

def linear : FVec Ideal S160x512x1024 .f32 :=
  minimumf (every 0x40E00000#32) (maximumf (every 0xC0E00000#32)
    (extractStridedSlice S160x512x1024 ![0, 0, 1024] (hidden be x wu bu) slices_S160x512x2048_S160x512x1024_0_0_1024))

def act : FVec Ideal S160x512x1024 .f32 :=
  mulf (mulf (gate be x wu bu) (Host.divf (every 0x3F800000#32) (addf (every 0x3F800000#32) (Host.exp (Host.negf (mulf (every 0x3FD9DB23#32) (gate be x wu bu)))))))
    (addf (linear be x wu bu) (every 0x3F800000#32))

def blocks : FVec Ideal S160x512x1024 .f32 :=
  addf (Host.dotGeneral dot_S160x512x1024_S160x1024x1024_S160x512x1024_2_1_1_2_0_0 none (act be x wu bu) (downW be wd))
    (broadcastInDim S160x512x1024 ![0, 1, 2] bcast_S160x1x1024_S160x512x1024_0_1_2 (broadcastInDim S160x1x1024 ![0, 2] bcast_S160x1024_S160x1x1024_0_2 (downB be bd)))

def inUse : IVec S160x512x1024 1 :=
  broadcastInDim S160x512x1024 ![0, 1, 2] bcast_S160x1x1_S160x512x1024_0_1_2
    (broadcastInDim S160x1x1 ![0] bcast_S160_S160x1x1_0 (cmpi .slt (iotaInDim S160 32 0) (broadcastInDim S160 ![0] bcast_S1_S160_0 nu)))

theorem hidden_apply (n : Fin 160) (e : Fin 32) (he : (be (ix1 n)).toNat = e.val) (r : Fin 512) (j : Fin 2048) (row : Fin 81920) (hrow : row.val = 512 * n.val + r.val) :
    hidden be x wu bu (ix3 n r j) = ahead x wu bu e row j := by
  unfold hidden ahead
  pointwise
  refine congrArg₂ (· + ·) (Finset.sum_congr rfl fun k _ => congrArg₂ (· * ·) (congrArg x (funext fun a => Fin.ext ?_)) (upW_apply be wu n e he k j)) (upB_apply be bu n e he j)
  match a with
  | ⟨0, _⟩ => show n.val * 512 + r.val = row.val; omega
  | ⟨1, _⟩ => rfl

theorem act_apply (n : Fin 160) (e : Fin 32) (he : (be (ix1 n)).toNat = e.val) (r : Fin 512) (k : Fin 1024) (row : Fin 81920) (hrow : row.val = 512 * n.val + r.val) :
    act be x wu bu (ix3 n r k) = swiglu (ahead x wu bu e row ⟨k.val, by omega⟩) (ahead x wu bu e row ⟨1024 + k.val, by omega⟩) := by
  rw [← hidden_apply be x wu bu n e he r _ row hrow, ← hidden_apply be x wu bu n e he r _ row hrow]
  unfold act linear gate every swiglu
  pointwise
  rfl

theorem blocks_apply (n : Fin 160) (e : Fin 32) (he : (be (ix1 n)).toNat = e.val) (r : Fin 512) (d : Fin 1024) (row : Fin 81920) (hrow : row.val = 512 * n.val + r.val) :
    blocks be x wu bu wd bd (ix3 n r d) = expertAt x wu bu wd bd e row d := by
  unfold blocks expertAt
  pointwise
  exact congrArg₂ (· + ·) (Finset.sum_congr rfl fun k _ => congrArg₂ (· * ·) (act_apply be x wu bu n e he r k row hrow) (downW_apply be wd n e he k d))
    (downB_apply be bd n e he d)

theorem inUse_apply (n : Fin 160) (r : Fin 512) (d : Fin 1024) : inUse nu (ix3 n r d) = IntOp.cmpi .slt (BitVec.ofNat 32 n.val) (nu (ix1 (0 : Fin 1))) := by
  unfold inUse
  pointwise
  rfl

/-- The reference's result. -/
def result : FVec Ideal S655360x128 .f32 :=
  shapeCast _ (select (inUse nu) (blocks be x wu bu wd bd) (every 0x00000000#32)) shapeCasts_S160x512x1024_S655360x128

theorem result_apply (few : (nu (ix1 (0 : Fin 1))).toNat ≤ 160) (n : Fin 160) (e : Fin 32) (he : (be (ix1 n)).toNat = e.val) (r : Fin 512) (d : Fin 1024) (row : Fin 81920)
    (hrow : row.val = 512 * n.val + r.val) (i : Fin 655360) (y : Fin 128) (hi : i.val * 128 + y.val = row.val * 1024 + d.val) :
    result be nu x wu bu wd bd (ix2 i y) = if n.val < (nu (ix1 (0 : Fin 1))).toNat then expertAt x wu bu wd bd e row d else 0 := by
  have hn := n.isLt
  have hslt : (BitVec.ofNat 32 n.val).slt (nu (ix1 (0 : Fin 1))) = decide (n.val < (nu (ix1 (0 : Fin 1))).toNat) := by
    have h1 : (BitVec.ofNat 32 n.val).toInt = n.val := by
      rw [BitVec.toInt_eq_toNat_of_lt (by rw [BitVec.toNat_ofNat]; omega), BitVec.toNat_ofNat]; omega
    have h2 : (nu (ix1 (0 : Fin 1))).toInt = (nu (ix1 (0 : Fin 1))).toNat := BitVec.toInt_eq_toNat_of_lt (by omega)
    rw [BitVec.slt, h1, h2]
    exact decide_eq_decide.2 (by omega)
  refine (shapeCast_apply _ _ _ (ix3 n r d) ?_).trans ?_
  · rw [Shape.rowMajor_val_three, Shape.rowMajor_val_two]
    show (n.val * 512 + r.val) * 1024 + d.val = i.val * 128 + y.val
    omega
  have hz : every 0x00000000#32 (ix3 n r d) = (0 : EReal) := by
    unfold every
    pointwise
  show Scalar.select (inUse nu (ix3 n r d)) (blocks be x wu bu wd bd (ix3 n r d)) (every 0x00000000#32 (ix3 n r d)) = _
  rw [inUse_apply, blocks_apply be x wu bu wd bd n e he r d row hrow, hz]
  unfold Scalar.select IntOp.cmpi
  show (if BitVec.ofBool ((BitVec.ofNat 32 n.val).slt (nu (ix1 (0 : Fin 1)))) = 1#1 then _ else _) = _
  rw [hslt]
  by_cases h : n.val < (nu (ix1 (0 : Fin 1))).toNat
  · rw [if_pos h, decide_eq_true h]; rfl
  · rw [if_neg h, decide_eq_false h]; rfl

end

open Cert.Reference2Ideal.Value in
theorem result_eq (m : (ℓ : Loc nD τ sig) → Buf (Elt Ideal) ℓ) (c : Dev nD) :
    res_main_v91 (F := Ideal) m c = result (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7)) (m ((c : Thread nD τ).loc main_arg8)) := by
  unfold res_main_v91
  rfl

end Cert.Proof.Experts.Plain
-- ==== Proof.Rowwise.lean ====
/-
  The kernel's arithmetic on one block, read at an element over the extended reals: a row through the block's expert.
-/
module

public import proofs.«01_k».proof.Proof.Compute
public import proofs.«01_k».proof.Proof.Stages
public import proofs.«01_k».proof.Proof.Plain

@[expose] public section

set_option maxRecDepth 16384

noncomputable section

namespace Cert.Proof.Experts

open Cert.Kernel2Ideal Cert.Kernel2Ideal.Gen
open Idealize.ShloMosaic hiding ix0 ix1 ix2 ix3
open Idealize.ShloMosaic.ValueIdx
open Cert.Proof.Experts.Plain (swiglu)

section Block
variable (X : FVec Ideal S4096x128 .f32) (G : FVec Ideal S1024x2048 .bf16) (b : FVec Ideal S1x1x2048 .f32)
  (D : FVec Ideal S1024x1024 .bf16) (b' : FVec Ideal S1x1x1024 .f32)

/-- The block's line and lane that hold column `k` of row `r`. -/
def lane (r : Fin 512) (k : Fin 1024) : S4096x128.Idx := ix2 ⟨8 * r.val + k.val / 128, by omega⟩ ⟨k.val % 128, by omega⟩

theorem eighth_at (j : Fin 8) (r : Fin 512) (k : Fin 1024) (q : ℕ) (hq : q < 128) (h : k.val = 128 * j.val + q) :
    eighth X j (ix2 r ⟨q, hq⟩) = X (lane r k) := by
  have hj := j.isLt
  refine congrArg X (lines_idx j _ _ ?_ ?_)
  · show 8 * r.val + k.val / 128 = j.val + 8 * r.val
    omega
  · show k.val % 128 = q
    omega

/-- The hidden layer's row `r` at column `j`, from the block. -/
def along (r : Fin 512) (j : Fin 2048) : EReal := (∑ k : Fin 1024, X (lane r k) * G (ix2 k j)) + b (ix3 (0 : Fin 1) (0 : Fin 1) j)

theorem pay4_apply (r : Fin 512) (j : Fin 2048) :
    k0_pay4 (F := Ideal) (eighth X 0) (eighth X 1) (eighth X 2) (eighth X 3) (eighth X 4) (eighth X 5) (eighth X 6) (eighth X 7) G b (ix2 r j) = along X G b r j := by
  unfold k0_pay4 along
  pointwise
  refine congrArg₂ (· + ·) (Finset.sum_congr rfl fun k _ => congrArg₂ (· * ·) ?_ rfl) rfl
  have hk := k.isLt
  by_cases h0 : k.val < 128
  · exact (dif_pos h0).trans (eighth_at X 0 r k _ h0 (show k.val = 128 * 0 + (k.val) by omega))
  refine (dif_neg h0).trans ?_
  by_cases h1 : k.val - 128 < 128
  · exact (dif_pos h1).trans (eighth_at X 1 r k _ h1 (show k.val = 128 * 1 + (k.val - 128) by omega))
  refine (dif_neg h1).trans ?_
  by_cases h2 : k.val - 128 - 128 < 128
  · exact (dif_pos h2).trans (eighth_at X 2 r k _ h2 (show k.val = 128 * 2 + (k.val - 128 - 128) by omega))
  refine (dif_neg h2).trans ?_
  by_cases h3 : k.val - 128 - 128 - 128 < 128
  · exact (dif_pos h3).trans (eighth_at X 3 r k _ h3 (show k.val = 128 * 3 + (k.val - 128 - 128 - 128) by omega))
  refine (dif_neg h3).trans ?_
  by_cases h4 : k.val - 128 - 128 - 128 - 128 < 128
  · exact (dif_pos h4).trans (eighth_at X 4 r k _ h4 (show k.val = 128 * 4 + (k.val - 128 - 128 - 128 - 128) by omega))
  refine (dif_neg h4).trans ?_
  by_cases h5 : k.val - 128 - 128 - 128 - 128 - 128 < 128
  · exact (dif_pos h5).trans (eighth_at X 5 r k _ h5 (show k.val = 128 * 5 + (k.val - 128 - 128 - 128 - 128 - 128) by omega))
  refine (dif_neg h5).trans ?_
  by_cases h6 : k.val - 128 - 128 - 128 - 128 - 128 - 128 < 128
  · exact (dif_pos h6).trans (eighth_at X 6 r k _ h6 (show k.val = 128 * 6 + (k.val - 128 - 128 - 128 - 128 - 128 - 128) by omega))
  refine (dif_neg h6).trans ?_
  exact eighth_at X 7 r k (k.val - 128 - 128 - 128 - 128 - 128 - 128 - 128) (by omega) (show k.val = 128 * 7 + (k.val - 128 - 128 - 128 - 128 - 128 - 128 - 128) by omega)

theorem gate_apply (r : Fin 512) (k : Fin 1024) : gate (F := Ideal) X G b (ix2 r k) = min (along X G b r ⟨k.val, by omega⟩) (Ideal.ofBits .f32 0x40E00000#32) := by
  rw [← pay4_apply]
  unfold gate k0_pay5
  pointwise
  rfl

theorem linear_apply (r : Fin 512) (k : Fin 1024) :
    linear (F := Ideal) X G b (ix2 r k)
      = min (Ideal.ofBits .f32 0x40E00000#32) (max (Ideal.ofBits .f32 0xC0E00000#32) (along X G b r ⟨1024 + k.val, by omega⟩)) := by
  rw [← pay4_apply]
  unfold linear k0_pay6
  pointwise
  rfl

theorem scaled_apply (r : Fin 512) (k : Fin 1024) :
    scaled (F := Ideal) X G b (ix2 r k) = Ideal.ofBits .f32 0x3FD9DB23#32 * min (along X G b r ⟨k.val, by omega⟩) (Ideal.ofBits .f32 0x40E00000#32) := by
  rw [← gate_apply]
  unfold scaled k0_pay7 gate
  pointwise

theorem rowsOut_apply (r : Fin 512) (d : Fin 1024) :
    rowsOut (F := Ideal) X G b D b' (ix2 r d)
      = (∑ k : Fin 1024, swiglu (along X G b r ⟨k.val, by omega⟩) (along X G b r ⟨1024 + k.val, by omega⟩) * D (ix2 k d)) + b' (ix3 (0 : Fin 1) (0 : Fin 1) d) := by
  unfold rowsOut k0_pay8
  pointwise
  refine congrArg₂ (· + ·) (Finset.sum_congr rfl fun k _ => congrArg₂ (· * ·) ?_ rfl) rfl
  have hg := gate_apply X G b r k
  have hl := linear_apply X G b r k
  have hs := scaled_apply X G b r k
  exact congrArg₂ (· * ·) (congrArg₂ (fun g s : EReal => g * Ideal.logistic s) hg hs) (congrArg (fun l : EReal => l + 1) hl)

end Block

theorem castUp_apply (X : FVec Ideal S32x1024x2048 .f32) (e : Fin 32) (k : Fin 1024) (j : Fin 2048) : castUp (F := Ideal) X e (ix2 k j) = X (ix3 e k j) := by
  unfold castUp k0_pay1
  pointwise
  rfl

theorem castDown_apply (X : FVec Ideal S32x1024x1024 .f32) (e : Fin 32) (k : Fin 1024) (j : Fin 1024) : castDown (F := Ideal) X e (ix2 k j) = X (ix3 e k j) := by
  unfold castDown k0_pay2
  pointwise
  rfl

end Cert.Proof.Experts
-- ==== Proof.Outcome.lean ====
/-
  The array of the experts' rows after the run, over the extended reals: what the reference computes.
-/
module

public import proofs.«01_k».proof.Proof.Outset
public import proofs.«01_k».proof.Proof.Rowwise

@[expose] public section

set_option maxRecDepth 16384

noncomputable section

namespace Cert.Proof.Experts

open Cert.Kernel2Ideal Cert.Kernel2Ideal.Gen
open Idealize.ShloMosaic hiding ix0 ix1 ix2 ix3
open Idealize.ShloMosaic.TcCoe
open Idealize.ShloMosaic.Pipeline (Dat Cfg Window)
open Idealize.ShloMosaic.ValueIdx
open Cert.Proof.Experts.Plain (swiglu ahead expertAt)

section Blocks
variable {F : FTy → Type} [FloatOps F]
variable {m : (ℓ : Loc nD τ sig) → Buf (Elt F) ℓ} {ρ : Dev nD → PrngReg} (H : Fits m ρ)

theorem coord_val (t : Fin grid0.N) : (BitVec.ofNat 32 (grid0.coords t 0).val).toNat = t.val := by
  have h : t.val < 160 := t.isLt.trans_eq N_0
  rw [point_val, BitVec.toNat_ofNat]
  omega

/-- Line `p` of a block is line `4096 t + p` of the rows. -/
theorem blockX_at (c : Dev nD) (t : Fin grid0.N) (p : Fin 4096) (y : Fin 128) (p' : Fin 655360) (hp : p'.val = 4096 * t.val + p.val) :
    blockX H c t (ix2 p y) = (V m ρ c main_v0 : S655360x128.Idx → F .f32) (ix2 p' y) := by
  refine congrArg (V m ρ c main_v0 : S655360x128.Idx → F .f32) (funext fun a => Fin.ext ?_)
  have ht := coord_val t
  match a with
  | ⟨0, _⟩ =>
    show (BitVec.ofNat 32 (grid0.coords t 0).val).toNat * 4096 + 1 * p.val = p'.val
    omega
  | ⟨1, _⟩ =>
    show 0 * 128 + 1 * y.val = y.val
    omega

theorem coord_index : ∀ t : Fin grid0.N, (Scalar.indexCast (BitVec.ofNat 32 (grid0.coords t 0).val)).toNat = t.val := by decide +kernel

include H in
/-- The word the bias windows read is the point's expert. -/
theorem bias_word (c : Dev nD) (t : Fin grid0.N) :
    (Idealize.ShloMosaic.Pipeline.Prefetch.Contents.at (Val := Elt F) (fun k => V m ρ 0 (pre0.ref k)) 0
      (Rect.unit (s := S160) ![(Scalar.indexCast (BitVec.ofNat 32 (grid0.coords t 0).val)).toNat] S1.size (Facts₀.k0_off1_inb (grid0.coords t))) Facts₀.numel1_S1).toNat
      = ((plan m ρ c).E (pt t)).val := by
  obtain rfl : c = 0 := Subsingleton.elim _ _
  have he : (experts m ρ 0 (ix1 (pt t))).toNat = ((plan m ρ 0).E (pt t)).val := by
    show _ = (experts m ρ 0 (ix1 (pt t))).toNat % 32
    exact (Nat.mod_eq_of_lt (H.expert 0 _)).symm
  rw [← he]
  refine congrArg BitVec.toNat (congrArg (experts m ρ 0) (funext fun a => Fin.ext ?_))
  match a with
  | ⟨0, _⟩ =>
    have h := coord_index t
    show (Scalar.indexCast (BitVec.ofNat 32 (grid0.coords t 0).val)).toNat + 1 * 0 = t.val
    omega

theorem blockG_at (c : Dev nD) (t : Fin grid0.N) (j : Fin 2048) :
    blockG H c t (ix3 (0 : Fin 1) (0 : Fin 1) j) = (V m ρ c main_v1 : S32x1x2048.Idx → F .f32) (ix3 ((plan m ρ c).E (pt t)) (0 : Fin 1) j) := by
  refine congrArg (V m ρ c main_v1 : S32x1x2048.Idx → F .f32) (funext fun a => Fin.ext ?_)
  match a with
  | ⟨0, _⟩ =>
    have hb := bias_word H c t
    refine Eq.trans ?_ hb
    exact (congrArg (· + 0) (Nat.mul_one _))
  | ⟨1, _⟩ => rfl
  | ⟨2, _⟩ =>
    show 0 * 2048 + 1 * j.val = j.val
    omega

theorem blockD_at (c : Dev nD) (t : Fin grid0.N) (j : Fin 1024) :
    blockD H c t (ix3 (0 : Fin 1) (0 : Fin 1) j) = (V m ρ c main_v2 : S32x1x1024.Idx → F .f32) (ix3 ((plan m ρ c).E (pt t)) (0 : Fin 1) j) := by
  refine congrArg (V m ρ c main_v2 : S32x1x1024.Idx → F .f32) (funext fun a => Fin.ext ?_)
  match a with
  | ⟨0, _⟩ =>
    have hb := bias_word H c t
    refine Eq.trans ?_ hb
    exact (congrArg (· + 0) (Nat.mul_one _))
  | ⟨1, _⟩ => rfl
  | ⟨2, _⟩ =>
    show 0 * 1024 + 1 * j.val = j.val
    omega

/-- Every point's block of the result is written back: the next point's is another. -/
theorem flush_out (t : Fin grid0.N) : (win0 (adm H 0) 3).flush t = true := by
  unfold Idealize.ShloMosaic.Pipeline.Window.flush
  have hN := N_0
  have ht := t.isLt
  by_cases h : t.val + 1 = grid0.N
  · rw [decide_eq_true h]; rfl
  · have key : ∃ h : t.val + 1 < grid0.N, (win0 (adm H 0) 3).index ⟨t.val + 1, h⟩ ≠ (win0 (adm H 0) 3).index t := by
      refine ⟨by omega, fun e => ?_⟩
      have e0 : (BitVec.ofNat 32 (grid0.coords ⟨t.val + 1, by omega⟩ 0).val).toNat = (BitVec.ofNat 32 (grid0.coords t 0).val).toNat := congrFun e (0 : Fin 2)
      rw [coord_val, coord_val] at e0
      exact absurd e0 (Nat.succ_ne_self _)
    rw [decide_eq_true key, Bool.or_true]; rfl

/-- The whole result, block by block. -/
def filled (c : Dev nD) : S655360x128.Idx → F .f32 := fun i =>
  left H c ⟨(i 0).val / 4096, by have h : (i 0).val < 655360 := (i 0).isLt; rw [N_0]; omega⟩ (ix2 ⟨(i 0).val % 4096, Nat.mod_lt _ (by decide)⟩ (i 1))

theorem filled_at (c : Dev nD) (t : Fin grid0.N) (y : S4096x128.Idx) (i : S655360x128.Idx) (h0 : (i 0).val = 4096 * t.val + (y 0).val) (h1 : (i 1).val = (y 1).val) :
    filled H c i = left H c t y := by
  have hy : (y 0).val < 4096 := (y 0).isLt
  refine congrArg₂ (left H c) (Fin.ext ?_) (funext fun a => ?_)
  · show (i 0).val / 4096 = t.val
    omega
  · match a with
    | ⟨0, _⟩ => exact Fin.ext (show (i 0).val % 4096 = (y 0).val by omega)
    | ⟨1, _⟩ => exact Fin.ext h1

theorem flushed_out (c : Dev nD) (t : Fin grid0.N) :
    (dats H 0 c).flushed 3 t = ((win0 (adm H 0) 3).blk t).view.read (Elt F) (filled H c) := by
  have ht := coord_val t
  have key : ∀ y : S4096x128.Idx, left H c t y = filled H c (((win0 (adm H 0) 3).blk t).view.emb y) := fun y => by
    refine (filled_at H c t y _ ?_ ?_).symm
    · show (BitVec.ofNat 32 (grid0.coords t 0).val).toNat * 4096 + 1 * (y 0).val = _
      omega
    · show 0 * 128 + 1 * (y 1).val = _
      omega
  exact funext key

theorem covered_out (i : S655360x128.Idx) : ∃ t : Fin grid0.N, (win0 (adm H 0) 3).flush t = true ∧ i ∈ ((win0 (adm H 0) 3).blk t).view.set := by
  have hi : (i 0).val < 655360 := (i 0).isLt
  have hi1 : (i 1).val < 128 := (i 1).isLt
  have hN : grid0.N = 160 := N_0
  refine ⟨⟨(i 0).val / 4096, by omega⟩, flush_out H _, ?_⟩
  have ht := coord_val ⟨(i 0).val / 4096, by omega⟩
  refine (congrArg (fun S : Finset main_v3.ty.Idx => i ∈ S) (View.set_slice_whole main_v3 ((win0 (adm H 0) 3).rect ⟨(i 0).val / 4096, by omega⟩))).mpr ?_
  refine Rect.mem_set_unit.mpr ?_
  intro a
  match a with
  | ⟨0, _⟩ =>
    show (BitVec.ofNat 32 (grid0.coords _ 0).val).toNat * 4096 ≤ (i 0).val ∧ (i 0).val < (BitVec.ofNat 32 (grid0.coords _ 0).val).toNat * 4096 + 4096
    rw [ht]
    show (i 0).val / 4096 * 4096 ≤ (i 0).val ∧ (i 0).val < (i 0).val / 4096 * 4096 + 4096
    omega
  | ⟨1, _⟩ =>
    show 0 * 128 ≤ (i 1).val ∧ (i 1).val < 0 * 128 + 128
    omega

theorem out_eq (c : Dev nD) : out H c = filled H c :=
  (dats H 0 c).arrAt_eq_of_cover 3 (filled H c) (fun t _ => flushed_out H c t) (covered_out H)

end Blocks

section Values
variable {m : (ℓ : Loc nD τ sig) → Buf (Elt Ideal) ℓ} {ρ : Dev nD → PrngReg} (H : Fits m ρ)

/-- The arguments at a core's launch. -/
abbrev be (m : (ℓ : Loc nD τ sig) → Buf (Elt Ideal) ℓ) (c : Dev nD) : IVec S160 32 := m ((c : Thread nD τ).loc main_arg0)
abbrev nu (m : (ℓ : Loc nD τ sig) → Buf (Elt Ideal) ℓ) (c : Dev nD) : IVec S1 32 := m ((c : Thread nD τ).loc main_arg1)
abbrev rows (m : (ℓ : Loc nD τ sig) → Buf (Elt Ideal) ℓ) (c : Dev nD) : FVec Ideal S81920x1024 .f32 := m ((c : Thread nD τ).loc main_arg4)
abbrev wUp (m : (ℓ : Loc nD τ sig) → Buf (Elt Ideal) ℓ) (c : Dev nD) : FVec Ideal S32x1024x2048 .f32 := m ((c : Thread nD τ).loc main_arg5)
abbrev bUp (m : (ℓ : Loc nD τ sig) → Buf (Elt Ideal) ℓ) (c : Dev nD) : FVec Ideal S32x2048 .f32 := m ((c : Thread nD τ).loc main_arg6)
abbrev wDown (m : (ℓ : Loc nD τ sig) → Buf (Elt Ideal) ℓ) (c : Dev nD) : FVec Ideal S32x1024x1024 .f32 := m ((c : Thread nD τ).loc main_arg7)
abbrev bDown (m : (ℓ : Loc nD τ sig) → Buf (Elt Ideal) ℓ) (c : Dev nD) : FVec Ideal S32x1024 .f32 := m ((c : Thread nD τ).loc main_arg8)

theorem V_rows (c : Dev nD) : (V m ρ c main_v0 : FVec Ideal S655360x128 .f32) = shapeCast S655360x128 (rows m c) Facts₀.shapeCasts_S81920x1024_S655360x128 := by
  simp only [V, hostOps0]; after_results_simp <;> rfl
theorem V_bUp (c : Dev nD) : (V m ρ c main_v1 : FVec Ideal S32x1x2048 .f32) = shapeCast S32x1x2048 (bUp m c) Facts₀.shapeCasts_S32x2048_S32x1x2048 := by
  simp only [V, hostOps0]; after_results_simp <;> rfl
theorem V_bDown (c : Dev nD) : (V m ρ c main_v2 : FVec Ideal S32x1x1024 .f32) = shapeCast S32x1x1024 (bDown m c) Facts₀.shapeCasts_S32x1024_S32x1x1024 := by
  simp only [V, hostOps0]; after_results_simp <;> rfl
theorem V_experts (c : Dev nD) : experts m ρ c = be m c := by
  simp only [experts, V, hostOps0]; after_results_simp <;> rfl
theorem V_count (c : Dev nD) : count m ρ c = nu m c := by
  simp only [count, V, hostOps0]; after_results_simp <;> rfl
theorem V_wUp (c : Dev nD) : (V m ρ c main_arg5 : FVec Ideal S32x1024x2048 .f32) = wUp m c := by
  simp only [V, hostOps0]; after_results_simp <;> rfl
theorem V_wDown (c : Dev nD) : (V m ρ c main_arg7 : FVec Ideal S32x1024x1024 .f32) = wDown m c := by
  simp only [V, hostOps0]; after_results_simp <;> rfl

theorem blockX_lane (c : Dev nD) (t : Fin grid0.N) (r : Fin 512) (k : Fin 1024) (row : Fin 81920) (hrow : row.val = 512 * t.val + r.val) :
    blockX H c t (lane r k) = rows m c (ix2 row k) := by
  have hr := row.isLt
  have hk := k.isLt
  refine (blockX_at H c t _ _ ⟨8 * row.val + k.val / 128, by omega⟩ (show 8 * row.val + k.val / 128 = 4096 * t.val + (8 * r.val + k.val / 128) by omega)).trans ?_
  rw [V_rows]
  refine shapeCast_apply _ _ _ (ix2 row k) ?_
  rw [Shape.rowMajor_val_two, Shape.rowMajor_val_two]
  show row.val * 1024 + k.val = (8 * row.val + k.val / 128) * 128 + k.val % 128
  omega

theorem blockG_bias (c : Dev nD) (t : Fin grid0.N) (j : Fin 2048) :
    blockG H c t (ix3 (0 : Fin 1) (0 : Fin 1) j) = bUp m c (ix2 ((plan m ρ c).E (pt t)) j) := by
  rw [blockG_at, V_bUp]
  refine shapeCast_apply _ _ _ (ix2 _ j) ?_
  rw [Shape.rowMajor_val_three, Shape.rowMajor_val_two]
  show ((plan m ρ c).E (pt t)).val * 2048 + j.val = (((plan m ρ c).E (pt t)).val * 1 + 0) * 2048 + j.val
  omega

theorem blockD_bias (c : Dev nD) (t : Fin grid0.N) (j : Fin 1024) :
    blockD H c t (ix3 (0 : Fin 1) (0 : Fin 1) j) = bDown m c (ix2 ((plan m ρ c).E (pt t)) j) := by
  rw [blockD_at, V_bDown]
  refine shapeCast_apply _ _ _ (ix2 _ j) ?_
  rw [Shape.rowMajor_val_three, Shape.rowMajor_val_two]
  show ((plan m ρ c).E (pt t)).val * 1024 + j.val = (((plan m ρ c).E (pt t)).val * 1 + 0) * 1024 + j.val
  omega

theorem up_apply (c : Dev nD) (e : Fin 32) (k : Fin 1024) (j : Fin 2048) : up m ρ c e (ix2 k j) = wUp m c (ix3 e k j) :=
  (castUp_apply _ e k j).trans (congrFun (V_wUp c) _)
theorem down_apply (c : Dev nD) (e : Fin 32) (k : Fin 1024) (j : Fin 1024) : down m ρ c e (ix2 k j) = wDown m c (ix3 e k j) :=
  (castDown_apply _ e k j).trans (congrFun (V_wDown c) _)

/-- A block's row of the hidden layer is its row of the activations through the expert. -/
theorem along_eq (c : Dev nD) (t : Fin grid0.N) (r : Fin 512) (j : Fin 2048) (row : Fin 81920) (hrow : row.val = 512 * t.val + r.val) :
    along (blockX H c t) (up m ρ c ((plan m ρ c).E (pt t))) (blockG H c t) r j = ahead (rows m c) (wUp m c) (bUp m c) ((plan m ρ c).E (pt t)) row j := by
  unfold along ahead
  exact congrArg₂ (· + ·) (Finset.sum_congr rfl fun k _ => congrArg₂ (· * ·) (blockX_lane H c t r k row hrow) (up_apply c _ k j)) (blockG_bias H c t j)

/-- A line of a block, after the run. -/
theorem left_apply (c : Dev nD) (t : Fin grid0.N) (y : S4096x128.Idx) (r : Fin 512) (d : Fin 1024) (row : Fin 81920) (hrow : row.val = 512 * t.val + r.val)
    (hr : r.val = (y 0).val / 8) (hd : d.val = 128 * ((y 0).val % 8) + (y 1).val) :
    left H c t y = if t.val < (nu m c (ix1 (0 : Fin 1))).toNat then
      expertAt (rows m c) (wUp m c) (bUp m c) (wDown m c) (bDown m c) ((plan m ρ c).E (pt t)) row d else 0 := by
  have hU : (plan m ρ c).U = (nu m c (ix1 (0 : Fin 1))).toNat := congrArg (fun v : IVec S1 32 => (v (ix1 (0 : Fin 1))).toNat) (V_count c)
  unfold left
  rw [hU]
  by_cases h : t.val < (nu m c (ix1 (0 : Fin 1))).toNat
  · rw [if_pos h]
    refine (congrFun (if_pos (decide_eq_true h)) y).trans ?_
    unfold unfolded
    refine Eq.trans (congrArg _ (funext fun a => ?_)) ((rowsOut_apply _ _ _ _ _ r d).trans ?_)
    · match a with
      | ⟨0, _⟩ => exact Fin.ext hr.symm
      | ⟨1, _⟩ => exact Fin.ext hd.symm
    · unfold expertAt
      exact congrArg₂ (· + ·) (Finset.sum_congr rfl fun k _ => congrArg₂ (· * ·)
        (congrArg₂ swiglu (along_eq H c t r _ row hrow) (along_eq H c t r _ row hrow)) (down_apply c _ k d)) (blockD_bias H c t d)
  · rw [if_neg h]
    refine (congrFun (if_neg (fun e => h (of_decide_eq_true e))) y).trans ?_
    show Ideal.ofBits .f32 0x00000000#32 = 0
    exact Ideal.ofBits_zero_f32

/-- The result after the run is the reference's. -/
theorem out_result (few : ∀ c, (nu m c (ix1 (0 : Fin 1))).toNat ≤ 160) (c : Dev nD) :
    out H c = Plain.result (be m c) (nu m c) (rows m c) (wUp m c) (bUp m c) (wDown m c) (bDown m c) := by
  rw [out_eq]
  refine funext fun (z : S655360x128.Idx) => ?_
  obtain ⟨i, y, rfl⟩ : ∃ (i : Fin 655360) (y : Fin 128), z = ix2 i y := ⟨z 0, z 1, ValueIdx.eq_ix2 z⟩
  have hi := i.isLt
  have hy := y.isLt
  have hN : grid0.N = 160 := N_0
  have ht : i.val / 4096 < 160 := by omega
  have he : (be m c (ix1 (⟨i.val / 4096, ht⟩ : Fin 160))).toNat = ((plan m ρ c).E ⟨i.val / 4096, ht⟩).val := by
    rw [← V_experts (ρ := ρ) c]
    exact (Nat.mod_eq_of_lt (H.expert c _)).symm
  refine (left_apply H c ⟨i.val / 4096, by omega⟩ _ ⟨i.val % 4096 / 8, by omega⟩ ⟨128 * (i.val % 4096 % 8) + y.val, by omega⟩ ⟨512 * (i.val / 4096) + i.val % 4096 / 8, by omega⟩ rfl rfl rfl).trans ?_
  refine (Plain.result_apply (be m c) (nu m c) (rows m c) (wUp m c) (bUp m c) (wDown m c) (bDown m c) (few c) ⟨i.val / 4096, ht⟩ _ he ⟨i.val % 4096 / 8, by omega⟩
    ⟨128 * (i.val % 4096 % 8) + y.val, by omega⟩ ⟨512 * (i.val / 4096) + i.val % 4096 / 8, by omega⟩ rfl i y ?_).symm
  show i.val * 128 + y.val = (512 * (i.val / 4096) + i.val % 4096 / 8) * 1024 + (128 * (i.val % 4096 % 8) + y.val)
  omega

end Values

end Cert.Proof.Experts
-- ==== Proof.TwinExperts.lean ====
/-
  The experts' program and its reading at the ideal instance are the same program: their body tables are equal, at any float
  values.
-/
module

public import proofs.«01_k».proof.Proof.Gen.Kernel2
public import proofs.«01_k».proof.Proof.Gen.Kernel2Ideal

@[expose] public section

set_option maxRecDepth 16384

noncomputable section

namespace Cert.Proof.Experts

open Idealize.ShloMosaic

variable {F : FTy → Type} [FloatOps F]

set_option maxHeartbeats 2000000 in
theorem bodies_eq : @Cert.Kernel2.defs₀ F _ Cert.Kernel2.Gen.facts = @Cert.Kernel2Ideal.defs₀ F _ Cert.Kernel2Ideal.Gen.facts := by
  funext p
  cases p with
  | tc =>
    funext l a
    obtain rfl : l = (0 : Fin 1) := Subsingleton.elim (α := Fin 1) _ _
    obtain ⟨t, s⟩ := a
    unfold Cert.Kernel2.defs₀ Cert.Kernel2Ideal.defs₀
    rfl
  | scScalar _ => rfl
  | scVector _ _ => rfl

theorem tables_eq : @Cert.Kernel2.defs F _ Cert.Kernel2.Gen.facts = @Cert.Kernel2Ideal.defs F _ Cert.Kernel2Ideal.Gen.facts :=
  congrArg (Pipeline.defs (@Cert.Kernel2Ideal.pcfgs F _ Cert.Kernel2Ideal.Gen.facts)) bodies_eq

end Cert.Proof.Experts

end
-- ==== Proof.Agree.lean ====
/-
  The experts, at their launch: the kernel and the reference terminate, quiet and with their arguments as they were, and under
  the precondition both leave the same rows.
-/
module

public import proofs.«01_k».proof.Defs
public import proofs.«01_k».proof.Proof.Outcome
public import proofs.«01_k».proof.Proof.TwinExperts
public import proofs.«01_k».proof.Proof.Gen.Pre_scheduled
public import Idealize.ShloMosaic.Adequacy
public import Idealize.ShloMosaic.Init

@[expose] public section

noncomputable section

namespace Cert.Proof.Experts

open Idealize.ShloMosaic Idealize.ShloMosaic.TcCoe Idealize.SL.Sem

variable {F : FTy → Type} [FloatOps F]

/-- The experts' own program, over any float values, from a memory whose tables fit: it leaves `out`. -/
theorem experts_run (m : (ℓ : Loc Cert.Kernel2Ideal.nD Cert.Kernel2Ideal.τ Cert.Kernel2Ideal.sig) → Buf (Elt F) ℓ) (ρ : Dev Cert.Kernel2Ideal.nD → PrngReg)
    (H : Fits m ρ) :
    θ_run Cert.Kernel2.defs (onTc (τ := Cert.Kernel2.τ) (Cert.Kernel2.main (F := F))) ⟨m, fun _ => 0, ρ⟩
      fun r => (∀ c, FinalAt H c r.2) ∧ r.2.sem = fun _ => 0 := by
  rw [tables_eq]
  exact run_main H

/-! ### The frames -/

theorem frame_kernel_ideal : Cert.quiescent_Kernel2Ideal := fun m ρ h =>
  (θ_run Cert.Kernel2Ideal.defs _ _).mono (fun _ q => ⟨fun c => (q.1 c).2, q.2⟩) (run_main (F := Ideal) (m := m) (ρ := ρ) (fits ρ fun c => planned (h c)))

theorem frame_kernel : Cert.quiescent_Kernel2 := fun m ρ h =>
  (θ_run Cert.Kernel2.defs _ _).mono (fun _ q => ⟨fun c => (q.1 c).2, q.2⟩) (experts_run (F := Bits) m ρ (fits ρ fun c => planned (h c)))

theorem frame_reference_ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-! ### The values -/

/-- The reference's result of arguments that are the kernel's. -/
theorem result_same (m : (ℓ : Loc Cert.Kernel2Ideal.nD Cert.Kernel2Ideal.τ Cert.Kernel2Ideal.sig) → Buf (Elt Ideal) ℓ) (c : Dev Cert.Kernel2Ideal.nD)
    {b : IVec Cert.Reference2Ideal.S160 32} {n : IVec Cert.Reference2Ideal.S1 32} {x : FVec Ideal Cert.Reference2Ideal.S81920x1024 .f32}
    {wu : FVec Ideal Cert.Reference2Ideal.S32x1024x2048 .f32} {bu : FVec Ideal Cert.Reference2Ideal.S32x2048 .f32}
    {wd : FVec Ideal Cert.Reference2Ideal.S32x1024x1024 .f32} {bd : FVec Ideal Cert.Reference2Ideal.S32x1024 .f32}
    (e0 : b = be m c) (e1 : n = nu m c) (e4 : x = rows m c) (e5 : wu = wUp m c) (e6 : bu = bUp m c) (e7 : wd = wDown m c) (e8 : bd = bDown m c) :
    Plain.result b n x wu bu wd bd = Plain.result (be m c) (nu m c) (rows m c) (wUp m c) (bUp m c) (wDown m c) (bDown m c) := by
  rw [e0, e1, e4, e5, e6, e7, e8]

theorem values_ideal : Cert.algebraic_Kernel2Ideal_Reference2Ideal := fun m ρ m' ρ' h same =>
  have P := fun c => planned (h c)
  ⟨fun c => Plain.result (be m c) (nu m c) (rows m c) (wUp m c) (bUp m c) (wDown m c) (bDown m c),
    (θ_run Cert.Kernel2Ideal.defs _ _).mono (fun _ q c => ⟨(q.1 c).1.trans (out_result (fits ρ P) (fun c => (P c).few) c), (q.1 c).2⟩)
      (run_main (F := Ideal) (m := m) (ρ := ρ) (fits ρ P)),
    (θ_run Cert.Reference2Ideal.defs _ _).mono
      (fun _ q c => ⟨(q c).1.trans ((Plain.result_eq m' c).trans (result_same m c (same c).1 (same c).2.1 (same c).2.2.2.2.1 (same c).2.2.2.2.2.1
        (same c).2.2.2.2.2.2.1 (same c).2.2.2.2.2.2.2.1 (same c).2.2.2.2.2.2.2.2)), (q c).2⟩)
      (Cert.Reference2Ideal.Value.run m' ρ')⟩

end Cert.Proof.Experts
-- ==== Proof.lean ====
/-
  The dispatch, at its launch: the kernel and the reference terminate, quiet and with their arguments as they were, and under
  the precondition each leaves the same rows. The claim puts the experts' part (Agree.lean) beside it.
-/
module

public import proofs.«01_k».proof.Defs
public import proofs.«01_k».proof.Proof.Entry
public import proofs.«01_k».proof.Proof.Rows
public import proofs.«01_k».proof.Proof.Twin
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Gen.Pre_routed
public import proofs.«01_k».proof.Proof.Gen.Pre_scheduled
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof

open Idealize.ShloMosaic Idealize.ShloMosaic.TcCoe Idealize.SL.Sem Cert.Proof.Body Cert.Proof.Rows Cert.Proof.Routed

variable {F : FTy → Type} [FloatOps F]

/-- The dispatch, over any float values, where the routing is in order: it leaves `final`. -/
theorem dispatch_run (m : (ℓ : Loc Cert.KernelIdeal.nD Cert.KernelIdeal.τ Cert.KernelIdeal.sig) → Buf (Elt F) ℓ) (ρ : Dev Cert.KernelIdeal.nD → PrngReg)
    (H : ∀ c, Holds (a0 m c) (a1 m c) (a2 m c)) :
    θ_run Cert.KernelIdeal.defs (onTc (τ := Cert.KernelIdeal.τ) (Cert.KernelIdeal.main (F := F))) ⟨m, fun _ => 0, ρ⟩
      fun r => Final m (fun c => final (a2 m c) (a3 m c)) r.2 ∧ r.2.sem = fun _ => 0 :=
  run_main m ρ _ (fits ρ H)

set_option maxHeartbeats 2000000 in
/-- The same of the kernel's own program. -/
theorem kernel_run (m : (ℓ : Loc Cert.Kernel.nD Cert.Kernel.τ Cert.Kernel.sig) → Buf (Elt F) ℓ) (ρ : Dev Cert.Kernel.nD → PrngReg)
    (H : ∀ c, Holds (a0 m c) (a1 m c) (a2 m c)) :
    θ_run Cert.Kernel.defs (onTc (τ := Cert.Kernel.τ) (Cert.Kernel.main (F := F))) ⟨m, fun _ => 0, ρ⟩
      fun r => Final m (fun c => final (a2 m c) (a3 m c)) r.2 ∧ r.2.sem = fun _ => 0 := by
  rw [tables_eq]
  exact dispatch_run m ρ H

/-! ### The frames -/

theorem frame_kernel_ideal : Cert.quiescent_KernelIdeal := fun m ρ h =>
  (θ_run Cert.KernelIdeal.defs _ _).mono (fun _ q => ⟨fun c => (q.1 c).2, q.2⟩) (dispatch_run (F := Ideal) m ρ fun c => holds (h c))

theorem frame_kernel : Cert.quiescent_Kernel := fun m ρ h =>
  (θ_run Cert.Kernel.defs _ _).mono (fun _ q => ⟨fun c => (q.1 c).2, q.2⟩) (kernel_run (F := Bits) m ρ fun c => holds (h c))

theorem frame_reference_ideal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_reference : Cert.quiescent_Reference := fun m ρ _ =>
  (θ_run Cert.Reference.defs _ _).mono (fun r h => ⟨fun c => (h c).2, sem_eq_zero_of_no_sems (by decide) r.2⟩) (Cert.Reference.Value.run m ρ)

/-! ### The values -/

theorem values_ideal : Cert.algebraic_KernelIdeal_ReferenceIdeal := fun m ρ m' ρ' h same =>
  have H := fun c => holds (h c)
  ⟨fun c => final (a2 m c) (a3 m c),
    (θ_run Cert.KernelIdeal.defs _ _).mono (fun _ q => q.1) (dispatch_run (F := Ideal) m ρ H),
    (θ_run Cert.ReferenceIdeal.defs _ _).mono (fun _ q c => ⟨(q c).1.trans ((congrArg₂ asWritten (same c).2.2.1 (same c).2.2.2).trans (asWritten_eq (H c) (a3 m c))), (q c).2⟩)
      (Cert.ReferenceIdeal.Value.run m' ρ')⟩

theorem values_bits : Cert.bitexact_Kernel_Reference := fun m ρ m' ρ' h same =>
  have H := fun c => holds (h c)
  ⟨fun c => final (F := Bits) (a2 m c) (a3 m c),
    (θ_run Cert.Kernel.defs _ _).mono (fun _ q => q.1) (kernel_run (F := Bits) m ρ H),
    (θ_run Cert.Reference.defs _ _).mono (fun _ q c => ⟨(q c).1.trans ((congrArg₂ asWritten (same c).2.2.1 (same c).2.2.2).trans (asWritten_eq (H c) (a3 m c))), (q c).2⟩)
      (Cert.Reference.Value.run m' ρ')⟩

theorem claim : Cert.Claim :=
  ⟨Cert.Kernel.Gen.facts, Cert.KernelIdeal.Gen.facts, Cert.ReferenceIdeal.Gen.facts, Cert.Reference.Gen.facts, Cert.Kernel2.Gen.facts, Cert.Kernel2Ideal.Gen.facts,
    Cert.Reference2Ideal.Gen.facts, Cert.Pre_routed.Gen.facts, Cert.Pre_scheduled.Gen.facts,
    frame_kernel, frame_kernel_ideal, frame_reference_ideal, fun m ρ _ => frame_reference_ideal m ρ trivial, frame_reference,
    Experts.frame_kernel, Experts.frame_kernel_ideal, Experts.frame_reference_ideal, fun m ρ _ => Experts.frame_reference_ideal m ρ trivial,
    trivial, values_ideal, values_bits, trivial, Experts.values_ideal⟩

end Cert.Proof

end
